-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S2x512x2048 1 × IVec S2048x128 1 × IVec S128x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := Host.absf main_arg2
  let main_cst_1 : FVec F S_ .f32 := constant S_ .f32 0x7F800000#32
  let main_v7 : FVec F S128x2048 .f32 := broadcastInDim S128x2048 ![] bcast_S_S128x2048 main_cst_1
  let main_v8 : IVec S128x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Pre_finite_scores_ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x256 : S_.BroadcastsInDim S2048x256 (![] : Fin 0 → Fin S2048x256.rank)
  bcast_S_S256x2048 : S_.BroadcastsInDim S256x2048 (![] : Fin 0 → Fin S256x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S2x512x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S2x512x2048 1 × IVec S2048x256 1 × IVec S256x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S256x2048 .f32 := Host.absf main_arg2
  let main_cst_1 : FVec F S_ .f32 := constant S_ .f32 0x7F800000#32
  let main_v7 : FVec F S256x2048 .f32 := broadcastInDim S256x2048 ![] bcast_S_S256x2048 main_cst_1
  let main_v8 : IVec S256x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S2x1024x512 : Shape := ⟨3, ![2, 1024, 512]⟩
abbrev S1024x128 : Shape := ⟨2, ![1024, 128]⟩
abbrev S2x128x512 : Shape := ⟨3, ![2, 128, 512]⟩
abbrev S1024x512 : Shape := ⟨2, ![1024, 512]⟩
abbrev S1024x32 : Shape := ⟨2, ![1024, 32]⟩
abbrev S4x1024x512 : Shape := ⟨3, ![4, 1024, 512]⟩
abbrev S4 : Shape := ⟨1, ![4]⟩
abbrev S2 : Shape := ⟨1, ![2]⟩
abbrev S6 : Shape := ⟨1, ![6]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S128x512 : Shape := ⟨2, ![128, 512]⟩
abbrev S1x128x512 : Shape := ⟨3, ![1, 128, 512]⟩
abbrev S512x128 : Shape := ⟨2, ![512, 128]⟩
abbrev S512x512 : Shape := ⟨2, ![512, 512]⟩
abbrev S512x32 : Shape := ⟨2, ![512, 32]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩
abbrev S1x1024x512 : Shape := ⟨3, ![1, 1024, 512]⟩

abbrev nBuf : Space → Nat
  | .hbm => 9
  | .vmem => 19
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .local _ .vmem, ⟨0, _⟩ => ⟨S2x512x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x32, .f32⟩
  | .local _ .vmem, ⟨5, _⟩ => ⟨S1024x2048, .f32⟩
  | .local _ .vmem, ⟨6, _⟩ => ⟨S2x1024x512, .bf16⟩
  | .local _ .vmem, ⟨7, _⟩ => ⟨S1024x128, .bf16⟩
  | .local _ .vmem, ⟨8, _⟩ => ⟨S1024x128, .bf16⟩
  | .local _ .vmem, ⟨9, _⟩ => ⟨S2x128x512, .bf16⟩
  | .local _ .vmem, ⟨10, _⟩ => ⟨S2x128x512, .bf16⟩
  | .local _ .vmem, ⟨11, _⟩ => ⟨S2048x512, .f32⟩
  | .local _ .vmem, ⟨12, _⟩ => ⟨S2048x128, .f32⟩
  | .local _ .vmem, ⟨13, _⟩ => ⟨S1024x512, .bf16⟩
  | .local _ .vmem, ⟨14, _⟩ => ⟨S1024x128, .bf16⟩
  | .local _ .vmem, ⟨15, _⟩ => ⟨S1024x32, .bf16⟩
  | .local _ .vmem, ⟨16, _⟩ => ⟨S4x1024x512, .bf16⟩
  | .local _ .vmem, ⟨17, _⟩ => ⟨S2x512x2048, .f32⟩
  | .local _ .vmem, ⟨18, _⟩ => ⟨S2x512x2048, .bf16⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_5 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c512_i32 : BitVec 32 := 512#32
  let v13 : BitVec 32 := Scalar.muli v8 c512_i32
  ![0, v13.toNat]
def k0_off2 (d0 : Dev nD) : Fin 2 → Nat :=
  let c0_i32_7 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c128_i32 : BitVec 32 := 128#32
  let v14 : BitVec 32 := Scalar.muli v8 c128_i32
  ![0, v14.toNat]
def k0_off3 (d0 : Dev nD) : Fin 2 → Nat :=
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c512_i32_13 : BitVec 32 := 512#32
  let v32 : BitVec 32 := Scalar.muli v8 c512_i32_13
  let c0_i32_19 : BitVec 32 := 0#32
  ![v32.toNat, 0]
def k0_off4 (d0 : Dev nD) (c3_i32 : BitVec 32) : Fin 2 → Nat :=
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let v21 : BitVec 32 := Scalar.addi v8 c3_i32
  let c4_i32 : BitVec 32 := 4#32
  let c0_i32_8 : BitVec 32 := 0#32
  let v22 : BitVec 1 := Scalar.cmpi .eq c4_i32 c0_i32_8
  let c1_i32_9 : BitVec 32 := 1#32
  let v23 : BitVec 32 := Scalar.select v22 c1_i32_9 c4_i32
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c512_i32_14 : BitVec 32 := 512#32
  let v33 : BitVec 32 := Scalar.muli v31 c512_i32_14
  let c0_i32_24 : BitVec 32 := 0#32
  ![v33.toNat, 0]
def k0_off5 (d0 : Dev nD) : Fin 2 → Nat :=
  let c0_32 : Index := 0#32
  let c2_i32_4 : BitVec 32 := 2#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_3 v2
  let v10 : BitVec 32 := Scalar.muli c2_i32_4 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.xori v9 v5
  let v12 : BitVec 32 := Scalar.addi v10 v11
  let c512_i32_31 : BitVec 32 := 512#32
  let v56 : BitVec 32 := Scalar.muli v12 c512_i32_31
  let v57 : Index := Scalar.indexCast v56
  ![0, v57.toNat]
def k0_dev1 (d0 : Dev nD) : Nat :=
  let c0_i32_64 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c1_i32_40 : BitVec 32 := 1#32
  let v73 : BitVec 32 := Scalar.addi v8 c1_i32_40
  let c4_i32_41 : BitVec 32 := 4#32
  let c0_i32_42 : BitVec 32 := 0#32
  let v74 : BitVec 1 := Scalar.cmpi .eq c4_i32_41 c0_i32_42
  let c1_i32_43 : BitVec 32 := 1#32
  let v75 : BitVec 32 := Scalar.select v74 c1_i32_43 c4_i32_41
  let v76 : BitVec 32 := Scalar.remsi v73 v75
  let c0_i32_45 : BitVec 32 := 0#32
  let v78 : BitVec 1 := Scalar.cmpi .slt v76 c0_i32_45
  let c0_i32_46 : BitVec 32 := 0#32
  let v79 : BitVec 1 := Scalar.cmpi .slt v75 c0_i32_46
  let v80 : BitVec 1 := Scalar.xori v78 v79
  let c0_i32_44 : BitVec 32 := 0#32
  let v77 : BitVec 1 := Scalar.cmpi .ne v76 c0_i32_44
  let v81 : BitVec 1 := Scalar.andi v80 v77
  let v82 : BitVec 32 := Scalar.addi v76 v75
  let v83 : BitVec 32 := Scalar.select v81 v82 v76
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c2_i32_47 : BitVec 32 := 2#32
  let c0_i32_50 : BitVec 32 := 0#32
  let v90 : BitVec 1 := Scalar.cmpi .sgt c2_i32_47 c0_i32_50
  let v91 : BitVec 32 := Scalar.extui v90
  let c0_i32_51 : BitVec 32 := 0#32
  let v92 : BitVec 1 := Scalar.cmpi .slt c2_i32_47 c0_i32_51
  let v93 : BitVec 32 := Scalar.extui v92
  let v94 : BitVec 32 := Scalar.subi v91 v93
  let v95 : BitVec 1 := Scalar.cmpi .ne v89 v94
  let v96 : BitVec 32 := Scalar.remsi v83 c2_i32_47
  let c0_i32_52 : BitVec 32 := 0#32
  let v97 : BitVec 1 := Scalar.cmpi .ne v96 c0_i32_52
  let v98 : BitVec 1 := Scalar.andi v95 v97
  let v84 : BitVec 32 := Scalar.divsi v83 c2_i32_47
  let c1_i32_53 : BitVec 32 := 1#32
  let v99 : BitVec 32 := Scalar.subi v84 c1_i32_53
  let v100 : BitVec 32 := Scalar.select v98 v99 v84
  let c2_i32_63 : BitVec 32 := 2#32
  let v120 : BitVec 32 := Scalar.muli v100 c2_i32_63
  let v121 : BitVec 32 := Scalar.addi c0_i32_64 v120
  let c0_i32_55 : BitVec 32 := 0#32
  let v102 : BitVec 1 := Scalar.cmpi .sgt v83 c0_i32_55
  let v103 : BitVec 32 := Scalar.extui v102
  let c0_i32_56 : BitVec 32 := 0#32
  let v104 : BitVec 1 := Scalar.cmpi .slt v83 c0_i32_56
  let v105 : BitVec 32 := Scalar.extui v104
  let v106 : BitVec 32 := Scalar.subi v103 v105
  let c2_i32_54 : BitVec 32 := 2#32
  let c0_i32_57 : BitVec 32 := 0#32
  let v107 : BitVec 1 := Scalar.cmpi .sgt c2_i32_54 c0_i32_57
  let v108 : BitVec 32 := Scalar.extui v107
  let c0_i32_58 : BitVec 32 := 0#32
  let v109 : BitVec 1 := Scalar.cmpi .slt c2_i32_54 c0_i32_58
  let v110 : BitVec 32 := Scalar.extui v109
  let v111 : BitVec 32 := Scalar.subi v108 v110
  let v112 : BitVec 1 := Scalar.cmpi .ne v106 v111
  let v113 : BitVec 32 := Scalar.remsi v83 c2_i32_54
  let c0_i32_59 : BitVec 32 := 0#32
  let v114 : BitVec 1 := Scalar.cmpi .ne v113 c0_i32_59
  let v115 : BitVec 1 := Scalar.andi v112 v114
  let v101 : BitVec 32 := Scalar.divsi v83 c2_i32_54
  let c1_i32_60 : BitVec 32 := 1#32
  let v116 : BitVec 32 := Scalar.subi v101 c1_i32_60
  let v117 : BitVec 32 := Scalar.select v115 v116 v101
  let v118 : BitVec 32 := Scalar.xori v83 v117
  let c1_i32_61 : BitVec 32 := 1#32
  let v119 : BitVec 32 := Scalar.andi v118 c1_i32_61
  let c1_i32_65 : BitVec 32 := 1#32
  let v122 : BitVec 32 := Scalar.muli v119 c1_i32_65
  let v123 : BitVec 32 := Scalar.addi v121 v122
  v123.toNat
def k0_dev2 (d0 : Dev nD) : Nat :=
  let c0_i32_90 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c2_i32_66 : BitVec 32 := 2#32
  let v124 : BitVec 32 := Scalar.addi v8 c2_i32_66
  let c4_i32_67 : BitVec 32 := 4#32
  let c0_i32_68 : BitVec 32 := 0#32
  let v125 : BitVec 1 := Scalar.cmpi .eq c4_i32_67 c0_i32_68
  let c1_i32_69 : BitVec 32 := 1#32
  let v126 : BitVec 32 := Scalar.select v125 c1_i32_69 c4_i32_67
  let v127 : BitVec 32 := Scalar.remsi v124 v126
  let c0_i32_71 : BitVec 32 := 0#32
  let v129 : BitVec 1 := Scalar.cmpi .slt v127 c0_i32_71
  let c0_i32_72 : BitVec 32 := 0#32
  let v130 : BitVec 1 := Scalar.cmpi .slt v126 c0_i32_72
  let v131 : BitVec 1 := Scalar.xori v129 v130
  let c0_i32_70 : BitVec 32 := 0#32
  let v128 : BitVec 1 := Scalar.cmpi .ne v127 c0_i32_70
  let v132 : BitVec 1 := Scalar.andi v131 v128
  let v133 : BitVec 32 := Scalar.addi v127 v126
  let v134 : BitVec 32 := Scalar.select v132 v133 v127
  let c0_i32_74 : BitVec 32 := 0#32
  let v136 : BitVec 1 := Scalar.cmpi .sgt v134 c0_i32_74
  let v137 : BitVec 32 := Scalar.extui v136
  let c0_i32_75 : BitVec 32 := 0#32
  let v138 : BitVec 1 := Scalar.cmpi .slt v134 c0_i32_75
  let v139 : BitVec 32 := Scalar.extui v138
  let v140 : BitVec 32 := Scalar.subi v137 v139
  let c2_i32_73 : BitVec 32 := 2#32
  let c0_i32_76 : BitVec 32 := 0#32
  let v141 : BitVec 1 := Scalar.cmpi .sgt c2_i32_73 c0_i32_76
  let v142 : BitVec 32 := Scalar.extui v141
  let c0_i32_77 : BitVec 32 := 0#32
  let v143 : BitVec 1 := Scalar.cmpi .slt c2_i32_73 c0_i32_77
  let v144 : BitVec 32 := Scalar.extui v143
  let v145 : BitVec 32 := Scalar.subi v142 v144
  let v146 : BitVec 1 := Scalar.cmpi .ne v140 v145
  let v147 : BitVec 32 := Scalar.remsi v134 c2_i32_73
  let c0_i32_78 : BitVec 32 := 0#32
  let v148 : BitVec 1 := Scalar.cmpi .ne v147 c0_i32_78
  let v149 : BitVec 1 := Scalar.andi v146 v148
  let v135 : BitVec 32 := Scalar.divsi v134 c2_i32_73
  let c1_i32_79 : BitVec 32 := 1#32
  let v150 : BitVec 32 := Scalar.subi v135 c1_i32_79
  let v151 : BitVec 32 := Scalar.select v149 v150 v135
  let c2_i32_89 : BitVec 32 := 2#32
  let v171 : BitVec 32 := Scalar.muli v151 c2_i32_89
  let v172 : BitVec 32 := Scalar.addi c0_i32_90 v171
  let c0_i32_81 : BitVec 32 := 0#32
  let v153 : BitVec 1 := Scalar.cmpi .sgt v134 c0_i32_81
  let v154 : BitVec 32 := Scalar.extui v153
  let c0_i32_82 : BitVec 32 := 0#32
  let v155 : BitVec 1 := Scalar.cmpi .slt v134 c0_i32_82
  let v156 : BitVec 32 := Scalar.extui v155
  let v157 : BitVec 32 := Scalar.subi v154 v156
  let c2_i32_80 : BitVec 32 := 2#32
  let c0_i32_83 : BitVec 32 := 0#32
  let v158 : BitVec 1 := Scalar.cmpi .sgt c2_i32_80 c0_i32_83
  let v159 : BitVec 32 := Scalar.extui v158
  let c0_i32_84 : BitVec 32 := 0#32
  let v160 : BitVec 1 := Scalar.cmpi .slt c2_i32_80 c0_i32_84
  let v161 : BitVec 32 := Scalar.extui v160
  let v162 : BitVec 32 := Scalar.subi v159 v161
  let v163 : BitVec 1 := Scalar.cmpi .ne v157 v162
  let v164 : BitVec 32 := Scalar.remsi v134 c2_i32_80
  let c0_i32_85 : BitVec 32 := 0#32
  let v165 : BitVec 1 := Scalar.cmpi .ne v164 c0_i32_85
  let v166 : BitVec 1 := Scalar.andi v163 v165
  let v152 : BitVec 32 := Scalar.divsi v134 c2_i32_80
  let c1_i32_86 : BitVec 32 := 1#32
  let v167 : BitVec 32 := Scalar.subi v152 c1_i32_86
  let v168 : BitVec 32 := Scalar.select v166 v167 v152
  let v169 : BitVec 32 := Scalar.xori v134 v168
  let c1_i32_87 : BitVec 32 := 1#32
  let v170 : BitVec 32 := Scalar.andi v169 c1_i32_87
  let c1_i32_91 : BitVec 32 := 1#32
  let v173 : BitVec 32 := Scalar.muli v170 c1_i32_91
  let v174 : BitVec 32 := Scalar.addi v172 v173
  v174.toNat
def k0_dev3 (d0 : Dev nD) : Nat :=
  let c0_i32_116 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c3_i32_92 : BitVec 32 := 3#32
  let v175 : BitVec 32 := Scalar.addi v8 c3_i32_92
  let c4_i32_93 : BitVec 32 := 4#32
  let c0_i32_94 : BitVec 32 := 0#32
  let v176 : BitVec 1 := Scalar.cmpi .eq c4_i32_93 c0_i32_94
  let c1_i32_95 : BitVec 32 := 1#32
  let v177 : BitVec 32 := Scalar.select v176 c1_i32_95 c4_i32_93
  let v178 : BitVec 32 := Scalar.remsi v175 v177
  let c0_i32_97 : BitVec 32 := 0#32
  let v180 : BitVec 1 := Scalar.cmpi .slt v178 c0_i32_97
  let c0_i32_98 : BitVec 32 := 0#32
  let v181 : BitVec 1 := Scalar.cmpi .slt v177 c0_i32_98
  let v182 : BitVec 1 := Scalar.xori v180 v181
  let c0_i32_96 : BitVec 32 := 0#32
  let v179 : BitVec 1 := Scalar.cmpi .ne v178 c0_i32_96
  let v183 : BitVec 1 := Scalar.andi v182 v179
  let v184 : BitVec 32 := Scalar.addi v178 v177
  let v185 : BitVec 32 := Scalar.select v183 v184 v178
  let c0_i32_100 : BitVec 32 := 0#32
  let v187 : BitVec 1 := Scalar.cmpi .sgt v185 c0_i32_100
  let v188 : BitVec 32 := Scalar.extui v187
  let c0_i32_101 : BitVec 32 := 0#32
  let v189 : BitVec 1 := Scalar.cmpi .slt v185 c0_i32_101
  let v190 : BitVec 32 := Scalar.extui v189
  let v191 : BitVec 32 := Scalar.subi v188 v190
  let c2_i32_99 : BitVec 32 := 2#32
  let c0_i32_102 : BitVec 32 := 0#32
  let v192 : BitVec 1 := Scalar.cmpi .sgt c2_i32_99 c0_i32_102
  let v193 : BitVec 32 := Scalar.extui v192
  let c0_i32_103 : BitVec 32 := 0#32
  let v194 : BitVec 1 := Scalar.cmpi .slt c2_i32_99 c0_i32_103
  let v195 : BitVec 32 := Scalar.extui v194
  let v196 : BitVec 32 := Scalar.subi v193 v195
  let v197 : BitVec 1 := Scalar.cmpi .ne v191 v196
  let v198 : BitVec 32 := Scalar.remsi v185 c2_i32_99
  let c0_i32_104 : BitVec 32 := 0#32
  let v199 : BitVec 1 := Scalar.cmpi .ne v198 c0_i32_104
  let v200 : BitVec 1 := Scalar.andi v197 v199
  let v186 : BitVec 32 := Scalar.divsi v185 c2_i32_99
  let c1_i32_105 : BitVec 32 := 1#32
  let v201 : BitVec 32 := Scalar.subi v186 c1_i32_105
  let v202 : BitVec 32 := Scalar.select v200 v201 v186
  let c2_i32_115 : BitVec 32 := 2#32
  let v222 : BitVec 32 := Scalar.muli v202 c2_i32_115
  let v223 : BitVec 32 := Scalar.addi c0_i32_116 v222
  let c0_i32_107 : BitVec 32 := 0#32
  let v204 : BitVec 1 := Scalar.cmpi .sgt v185 c0_i32_107
  let v205 : BitVec 32 := Scalar.extui v204
  let c0_i32_108 : BitVec 32 := 0#32
  let v206 : BitVec 1 := Scalar.cmpi .slt v185 c0_i32_108
  let v207 : BitVec 32 := Scalar.extui v206
  let v208 : BitVec 32 := Scalar.subi v205 v207
  let c2_i32_106 : BitVec 32 := 2#32
  let c0_i32_109 : BitVec 32 := 0#32
  let v209 : BitVec 1 := Scalar.cmpi .sgt c2_i32_106 c0_i32_109
  let v210 : BitVec 32 := Scalar.extui v209
  let c0_i32_110 : BitVec 32 := 0#32
  let v211 : BitVec 1 := Scalar.cmpi .slt c2_i32_106 c0_i32_110
  let v212 : BitVec 32 := Scalar.extui v211
  let v213 : BitVec 32 := Scalar.subi v210 v212
  let v214 : BitVec 1 := Scalar.cmpi .ne v208 v213
  let v215 : BitVec 32 := Scalar.remsi v185 c2_i32_106
  let c0_i32_111 : BitVec 32 := 0#32
  let v216 : BitVec 1 := Scalar.cmpi .ne v215 c0_i32_111
  let v217 : BitVec 1 := Scalar.andi v214 v216
  let v203 : BitVec 32 := Scalar.divsi v185 c2_i32_106
  let c1_i32_112 : BitVec 32 := 1#32
  let v218 : BitVec 32 := Scalar.subi v203 c1_i32_112
  let v219 : BitVec 32 := Scalar.select v217 v218 v203
  let v220 : BitVec 32 := Scalar.xori v185 v219
  let c1_i32_113 : BitVec 32 := 1#32
  let v221 : BitVec 32 := Scalar.andi v220 c1_i32_113
  let c1_i32_117 : BitVec 32 := 1#32
  let v224 : BitVec 32 := Scalar.muli v221 c1_i32_117
  let v225 : BitVec 32 := Scalar.addi v223 v224
  v225.toNat
def k0_dev4 (d0 : Dev nD) : Nat :=
  let c0_i32_123 : BitVec 32 := 0#32
  let c1_i32_119 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v226 : BitVec 32 := Scalar.subi c1_i32_119 v2
  let c2_i32_122 : BitVec 32 := 2#32
  let v227 : BitVec 32 := Scalar.muli v226 c2_i32_122
  let v228 : BitVec 32 := Scalar.addi c0_i32_123 v227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v229 : BitVec 32 := Scalar.muli v5 c1_i32_124
  let v230 : BitVec 32 := Scalar.addi v228 v229
  v230.toNat
def k0_dev5 (d0 : Dev nD) : Nat :=
  let c0_i32_129 : BitVec 32 := 0#32
  let c1_i32_125 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v235 : BitVec 32 := Scalar.subi c1_i32_125 v2
  let c2_i32_128 : BitVec 32 := 2#32
  let v236 : BitVec 32 := Scalar.muli v235 c2_i32_128
  let v237 : BitVec 32 := Scalar.addi c0_i32_129 v236
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_130 : BitVec 32 := 1#32
  let v238 : BitVec 32 := Scalar.muli v5 c1_i32_130
  let v239 : BitVec 32 := Scalar.addi v237 v238
  v239.toNat
def k0_dev6 (d0 : Dev nD) : Nat :=
  let c0_i32_139 : BitVec 32 := 0#32
  let c1_i32_135 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v246 : BitVec 32 := Scalar.subi c1_i32_135 v2
  let c2_i32_138 : BitVec 32 := 2#32
  let v247 : BitVec 32 := Scalar.muli v246 c2_i32_138
  let v248 : BitVec 32 := Scalar.addi c0_i32_139 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v249 : BitVec 32 := Scalar.muli v5 c1_i32_140
  let v250 : BitVec 32 := Scalar.addi v248 v249
  v250.toNat
def k0_off6 (d0 : Dev nD) : Fin 2 → Nat :=
  let c0_156 : Index := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c512_i32_155 : BitVec 32 := 512#32
  let v270 : BitVec 32 := Scalar.muli v8 c512_i32_155
  let v271 : Index := Scalar.indexCast v270
  ![0, v271.toNat]
def k0_dev7 (d0 : Dev nD) : Nat :=
  let c0_i32_308 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c1_i32_281 : BitVec 32 := 1#32
  let v428 : BitVec 32 := Scalar.addi v8 c1_i32_281
  let c4_i32_282 : BitVec 32 := 4#32
  let c0_i32_283 : BitVec 32 := 0#32
  let v429 : BitVec 1 := Scalar.cmpi .eq c4_i32_282 c0_i32_283
  let c1_i32_284 : BitVec 32 := 1#32
  let v430 : BitVec 32 := Scalar.select v429 c1_i32_284 c4_i32_282
  let v431 : BitVec 32 := Scalar.remsi v428 v430
  let c0_i32_286 : BitVec 32 := 0#32
  let v433 : BitVec 1 := Scalar.cmpi .slt v431 c0_i32_286
  let c0_i32_287 : BitVec 32 := 0#32
  let v434 : BitVec 1 := Scalar.cmpi .slt v430 c0_i32_287
  let v435 : BitVec 1 := Scalar.xori v433 v434
  let c0_i32_285 : BitVec 32 := 0#32
  let v432 : BitVec 1 := Scalar.cmpi .ne v431 c0_i32_285
  let v436 : BitVec 1 := Scalar.andi v435 v432
  let v437 : BitVec 32 := Scalar.addi v431 v430
  let v438 : BitVec 32 := Scalar.select v436 v437 v431
  let c0_i32_289 : BitVec 32 := 0#32
  let v440 : BitVec 1 := Scalar.cmpi .sgt v438 c0_i32_289
  let v441 : BitVec 32 := Scalar.extui v440
  let c0_i32_290 : BitVec 32 := 0#32
  let v442 : BitVec 1 := Scalar.cmpi .slt v438 c0_i32_290
  let v443 : BitVec 32 := Scalar.extui v442
  let v444 : BitVec 32 := Scalar.subi v441 v443
  let c2_i32_288 : BitVec 32 := 2#32
  let c0_i32_291 : BitVec 32 := 0#32
  let v445 : BitVec 1 := Scalar.cmpi .sgt c2_i32_288 c0_i32_291
  let v446 : BitVec 32 := Scalar.extui v445
  let c0_i32_292 : BitVec 32 := 0#32
  let v447 : BitVec 1 := Scalar.cmpi .slt c2_i32_288 c0_i32_292
  let v448 : BitVec 32 := Scalar.extui v447
  let v449 : BitVec 32 := Scalar.subi v446 v448
  let v450 : BitVec 1 := Scalar.cmpi .ne v444 v449
  let v451 : BitVec 32 := Scalar.remsi v438 c2_i32_288
  let c0_i32_293 : BitVec 32 := 0#32
  let v452 : BitVec 1 := Scalar.cmpi .ne v451 c0_i32_293
  let v453 : BitVec 1 := Scalar.andi v450 v452
  let v439 : BitVec 32 := Scalar.divsi v438 c2_i32_288
  let c1_i32_294 : BitVec 32 := 1#32
  let v454 : BitVec 32 := Scalar.subi v439 c1_i32_294
  let v455 : BitVec 32 := Scalar.select v453 v454 v439
  let c2_i32_307 : BitVec 32 := 2#32
  let v475 : BitVec 32 := Scalar.muli v455 c2_i32_307
  let v476 : BitVec 32 := Scalar.addi c0_i32_308 v475
  let c0_i32_296 : BitVec 32 := 0#32
  let v457 : BitVec 1 := Scalar.cmpi .sgt v438 c0_i32_296
  let v458 : BitVec 32 := Scalar.extui v457
  let c0_i32_297 : BitVec 32 := 0#32
  let v459 : BitVec 1 := Scalar.cmpi .slt v438 c0_i32_297
  let v460 : BitVec 32 := Scalar.extui v459
  let v461 : BitVec 32 := Scalar.subi v458 v460
  let c2_i32_295 : BitVec 32 := 2#32
  let c0_i32_298 : BitVec 32 := 0#32
  let v462 : BitVec 1 := Scalar.cmpi .sgt c2_i32_295 c0_i32_298
  let v463 : BitVec 32 := Scalar.extui v462
  let c0_i32_299 : BitVec 32 := 0#32
  let v464 : BitVec 1 := Scalar.cmpi .slt c2_i32_295 c0_i32_299
  let v465 : BitVec 32 := Scalar.extui v464
  let v466 : BitVec 32 := Scalar.subi v463 v465
  let v467 : BitVec 1 := Scalar.cmpi .ne v461 v466
  let v468 : BitVec 32 := Scalar.remsi v438 c2_i32_295
  let c0_i32_300 : BitVec 32 := 0#32
  let v469 : BitVec 1 := Scalar.cmpi .ne v468 c0_i32_300
  let v470 : BitVec 1 := Scalar.andi v467 v469
  let v456 : BitVec 32 := Scalar.divsi v438 c2_i32_295
  let c1_i32_301 : BitVec 32 := 1#32
  let v471 : BitVec 32 := Scalar.subi v456 c1_i32_301
  let v472 : BitVec 32 := Scalar.select v470 v471 v456
  let v473 : BitVec 32 := Scalar.xori v438 v472
  let c1_i32_302 : BitVec 32 := 1#32
  let v474 : BitVec 32 := Scalar.andi v473 c1_i32_302
  let c1_i32_309 : BitVec 32 := 1#32
  let v477 : BitVec 32 := Scalar.muli v474 c1_i32_309
  let v478 : BitVec 32 := Scalar.addi v476 v477
  v478.toNat
def k0_dev8 (d0 : Dev nD) : Nat :=
  let c0_i32_341 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c2_i32_314 : BitVec 32 := 2#32
  let v487 : BitVec 32 := Scalar.addi v8 c2_i32_314
  let c4_i32_315 : BitVec 32 := 4#32
  let c0_i32_316 : BitVec 32 := 0#32
  let v488 : BitVec 1 := Scalar.cmpi .eq c4_i32_315 c0_i32_316
  let c1_i32_317 : BitVec 32 := 1#32
  let v489 : BitVec 32 := Scalar.select v488 c1_i32_317 c4_i32_315
  let v490 : BitVec 32 := Scalar.remsi v487 v489
  let c0_i32_319 : BitVec 32 := 0#32
  let v492 : BitVec 1 := Scalar.cmpi .slt v490 c0_i32_319
  let c0_i32_320 : BitVec 32 := 0#32
  let v493 : BitVec 1 := Scalar.cmpi .slt v489 c0_i32_320
  let v494 : BitVec 1 := Scalar.xori v492 v493
  let c0_i32_318 : BitVec 32 := 0#32
  let v491 : BitVec 1 := Scalar.cmpi .ne v490 c0_i32_318
  let v495 : BitVec 1 := Scalar.andi v494 v491
  let v496 : BitVec 32 := Scalar.addi v490 v489
  let v497 : BitVec 32 := Scalar.select v495 v496 v490
  let c0_i32_322 : BitVec 32 := 0#32
  let v499 : BitVec 1 := Scalar.cmpi .sgt v497 c0_i32_322
  let v500 : BitVec 32 := Scalar.extui v499
  let c0_i32_323 : BitVec 32 := 0#32
  let v501 : BitVec 1 := Scalar.cmpi .slt v497 c0_i32_323
  let v502 : BitVec 32 := Scalar.extui v501
  let v503 : BitVec 32 := Scalar.subi v500 v502
  let c2_i32_321 : BitVec 32 := 2#32
  let c0_i32_324 : BitVec 32 := 0#32
  let v504 : BitVec 1 := Scalar.cmpi .sgt c2_i32_321 c0_i32_324
  let v505 : BitVec 32 := Scalar.extui v504
  let c0_i32_325 : BitVec 32 := 0#32
  let v506 : BitVec 1 := Scalar.cmpi .slt c2_i32_321 c0_i32_325
  let v507 : BitVec 32 := Scalar.extui v506
  let v508 : BitVec 32 := Scalar.subi v505 v507
  let v509 : BitVec 1 := Scalar.cmpi .ne v503 v508
  let v510 : BitVec 32 := Scalar.remsi v497 c2_i32_321
  let c0_i32_326 : BitVec 32 := 0#32
  let v511 : BitVec 1 := Scalar.cmpi .ne v510 c0_i32_326
  let v512 : BitVec 1 := Scalar.andi v509 v511
  let v498 : BitVec 32 := Scalar.divsi v497 c2_i32_321
  let c1_i32_327 : BitVec 32 := 1#32
  let v513 : BitVec 32 := Scalar.subi v498 c1_i32_327
  let v514 : BitVec 32 := Scalar.select v512 v513 v498
  let c2_i32_340 : BitVec 32 := 2#32
  let v534 : BitVec 32 := Scalar.muli v514 c2_i32_340
  let v535 : BitVec 32 := Scalar.addi c0_i32_341 v534
  let c0_i32_329 : BitVec 32 := 0#32
  let v516 : BitVec 1 := Scalar.cmpi .sgt v497 c0_i32_329
  let v517 : BitVec 32 := Scalar.extui v516
  let c0_i32_330 : BitVec 32 := 0#32
  let v518 : BitVec 1 := Scalar.cmpi .slt v497 c0_i32_330
  let v519 : BitVec 32 := Scalar.extui v518
  let v520 : BitVec 32 := Scalar.subi v517 v519
  let c2_i32_328 : BitVec 32 := 2#32
  let c0_i32_331 : BitVec 32 := 0#32
  let v521 : BitVec 1 := Scalar.cmpi .sgt c2_i32_328 c0_i32_331
  let v522 : BitVec 32 := Scalar.extui v521
  let c0_i32_332 : BitVec 32 := 0#32
  let v523 : BitVec 1 := Scalar.cmpi .slt c2_i32_328 c0_i32_332
  let v524 : BitVec 32 := Scalar.extui v523
  let v525 : BitVec 32 := Scalar.subi v522 v524
  let v526 : BitVec 1 := Scalar.cmpi .ne v520 v525
  let v527 : BitVec 32 := Scalar.remsi v497 c2_i32_328
  let c0_i32_333 : BitVec 32 := 0#32
  let v528 : BitVec 1 := Scalar.cmpi .ne v527 c0_i32_333
  let v529 : BitVec 1 := Scalar.andi v526 v528
  let v515 : BitVec 32 := Scalar.divsi v497 c2_i32_328
  let c1_i32_334 : BitVec 32 := 1#32
  let v530 : BitVec 32 := Scalar.subi v515 c1_i32_334
  let v531 : BitVec 32 := Scalar.select v529 v530 v515
  let v532 : BitVec 32 := Scalar.xori v497 v531
  let c1_i32_335 : BitVec 32 := 1#32
  let v533 : BitVec 32 := Scalar.andi v532 c1_i32_335
  let c1_i32_342 : BitVec 32 := 1#32
  let v536 : BitVec 32 := Scalar.muli v533 c1_i32_342
  let v537 : BitVec 32 := Scalar.addi v535 v536
  v537.toNat
def k0_dev9 (d0 : Dev nD) : Nat :=
  let c0_i32_374 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c3_i32_347 : BitVec 32 := 3#32
  let v546 : BitVec 32 := Scalar.addi v8 c3_i32_347
  let c4_i32_348 : BitVec 32 := 4#32
  let c0_i32_349 : BitVec 32 := 0#32
  let v547 : BitVec 1 := Scalar.cmpi .eq c4_i32_348 c0_i32_349
  let c1_i32_350 : BitVec 32 := 1#32
  let v548 : BitVec 32 := Scalar.select v547 c1_i32_350 c4_i32_348
  let v549 : BitVec 32 := Scalar.remsi v546 v548
  let c0_i32_352 : BitVec 32 := 0#32
  let v551 : BitVec 1 := Scalar.cmpi .slt v549 c0_i32_352
  let c0_i32_353 : BitVec 32 := 0#32
  let v552 : BitVec 1 := Scalar.cmpi .slt v548 c0_i32_353
  let v553 : BitVec 1 := Scalar.xori v551 v552
  let c0_i32_351 : BitVec 32 := 0#32
  let v550 : BitVec 1 := Scalar.cmpi .ne v549 c0_i32_351
  let v554 : BitVec 1 := Scalar.andi v553 v550
  let v555 : BitVec 32 := Scalar.addi v549 v548
  let v556 : BitVec 32 := Scalar.select v554 v555 v549
  let c0_i32_355 : BitVec 32 := 0#32
  let v558 : BitVec 1 := Scalar.cmpi .sgt v556 c0_i32_355
  let v559 : BitVec 32 := Scalar.extui v558
  let c0_i32_356 : BitVec 32 := 0#32
  let v560 : BitVec 1 := Scalar.cmpi .slt v556 c0_i32_356
  let v561 : BitVec 32 := Scalar.extui v560
  let v562 : BitVec 32 := Scalar.subi v559 v561
  let c2_i32_354 : BitVec 32 := 2#32
  let c0_i32_357 : BitVec 32 := 0#32
  let v563 : BitVec 1 := Scalar.cmpi .sgt c2_i32_354 c0_i32_357
  let v564 : BitVec 32 := Scalar.extui v563
  let c0_i32_358 : BitVec 32 := 0#32
  let v565 : BitVec 1 := Scalar.cmpi .slt c2_i32_354 c0_i32_358
  let v566 : BitVec 32 := Scalar.extui v565
  let v567 : BitVec 32 := Scalar.subi v564 v566
  let v568 : BitVec 1 := Scalar.cmpi .ne v562 v567
  let v569 : BitVec 32 := Scalar.remsi v556 c2_i32_354
  let c0_i32_359 : BitVec 32 := 0#32
  let v570 : BitVec 1 := Scalar.cmpi .ne v569 c0_i32_359
  let v571 : BitVec 1 := Scalar.andi v568 v570
  let v557 : BitVec 32 := Scalar.divsi v556 c2_i32_354
  let c1_i32_360 : BitVec 32 := 1#32
  let v572 : BitVec 32 := Scalar.subi v557 c1_i32_360
  let v573 : BitVec 32 := Scalar.select v571 v572 v557
  let c2_i32_373 : BitVec 32 := 2#32
  let v593 : BitVec 32 := Scalar.muli v573 c2_i32_373
  let v594 : BitVec 32 := Scalar.addi c0_i32_374 v593
  let c0_i32_362 : BitVec 32 := 0#32
  let v575 : BitVec 1 := Scalar.cmpi .sgt v556 c0_i32_362
  let v576 : BitVec 32 := Scalar.extui v575
  let c0_i32_363 : BitVec 32 := 0#32
  let v577 : BitVec 1 := Scalar.cmpi .slt v556 c0_i32_363
  let v578 : BitVec 32 := Scalar.extui v577
  let v579 : BitVec 32 := Scalar.subi v576 v578
  let c2_i32_361 : BitVec 32 := 2#32
  let c0_i32_364 : BitVec 32 := 0#32
  let v580 : BitVec 1 := Scalar.cmpi .sgt c2_i32_361 c0_i32_364
  let v581 : BitVec 32 := Scalar.extui v580
  let c0_i32_365 : BitVec 32 := 0#32
  let v582 : BitVec 1 := Scalar.cmpi .slt c2_i32_361 c0_i32_365
  let v583 : BitVec 32 := Scalar.extui v582
  let v584 : BitVec 32 := Scalar.subi v581 v583
  let v585 : BitVec 1 := Scalar.cmpi .ne v579 v584
  let v586 : BitVec 32 := Scalar.remsi v556 c2_i32_361
  let c0_i32_366 : BitVec 32 := 0#32
  let v587 : BitVec 1 := Scalar.cmpi .ne v586 c0_i32_366
  let v588 : BitVec 1 := Scalar.andi v585 v587
  let v574 : BitVec 32 := Scalar.divsi v556 c2_i32_361
  let c1_i32_367 : BitVec 32 := 1#32
  let v589 : BitVec 32 := Scalar.subi v574 c1_i32_367
  let v590 : BitVec 32 := Scalar.select v588 v589 v574
  let v591 : BitVec 32 := Scalar.xori v556 v590
  let c1_i32_368 : BitVec 32 := 1#32
  let v592 : BitVec 32 := Scalar.andi v591 c1_i32_368
  let c1_i32_375 : BitVec 32 := 1#32
  let v595 : BitVec 32 := Scalar.muli v592 c1_i32_375
  let v596 : BitVec 32 := Scalar.addi v594 v595
  v596.toNat
def k0_dev10 (d0 : Dev nD) : Nat :=
  let c0_i32_523 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c1_i32_496 : BitVec 32 := 1#32
  let v745 : BitVec 32 := Scalar.addi v8 c1_i32_496
  let c4_i32_497 : BitVec 32 := 4#32
  let c0_i32_498 : BitVec 32 := 0#32
  let v746 : BitVec 1 := Scalar.cmpi .eq c4_i32_497 c0_i32_498
  let c1_i32_499 : BitVec 32 := 1#32
  let v747 : BitVec 32 := Scalar.select v746 c1_i32_499 c4_i32_497
  let v748 : BitVec 32 := Scalar.remsi v745 v747
  let c0_i32_501 : BitVec 32 := 0#32
  let v750 : BitVec 1 := Scalar.cmpi .slt v748 c0_i32_501
  let c0_i32_502 : BitVec 32 := 0#32
  let v751 : BitVec 1 := Scalar.cmpi .slt v747 c0_i32_502
  let v752 : BitVec 1 := Scalar.xori v750 v751
  let c0_i32_500 : BitVec 32 := 0#32
  let v749 : BitVec 1 := Scalar.cmpi .ne v748 c0_i32_500
  let v753 : BitVec 1 := Scalar.andi v752 v749
  let v754 : BitVec 32 := Scalar.addi v748 v747
  let v755 : BitVec 32 := Scalar.select v753 v754 v748
  let c0_i32_504 : BitVec 32 := 0#32
  let v757 : BitVec 1 := Scalar.cmpi .sgt v755 c0_i32_504
  let v758 : BitVec 32 := Scalar.extui v757
  let c0_i32_505 : BitVec 32 := 0#32
  let v759 : BitVec 1 := Scalar.cmpi .slt v755 c0_i32_505
  let v760 : BitVec 32 := Scalar.extui v759
  let v761 : BitVec 32 := Scalar.subi v758 v760
  let c2_i32_503 : BitVec 32 := 2#32
  let c0_i32_506 : BitVec 32 := 0#32
  let v762 : BitVec 1 := Scalar.cmpi .sgt c2_i32_503 c0_i32_506
  let v763 : BitVec 32 := Scalar.extui v762
  let c0_i32_507 : BitVec 32 := 0#32
  let v764 : BitVec 1 := Scalar.cmpi .slt c2_i32_503 c0_i32_507
  let v765 : BitVec 32 := Scalar.extui v764
  let v766 : BitVec 32 := Scalar.subi v763 v765
  let v767 : BitVec 1 := Scalar.cmpi .ne v761 v766
  let v768 : BitVec 32 := Scalar.remsi v755 c2_i32_503
  let c0_i32_508 : BitVec 32 := 0#32
  let v769 : BitVec 1 := Scalar.cmpi .ne v768 c0_i32_508
  let v770 : BitVec 1 := Scalar.andi v767 v769
  let v756 : BitVec 32 := Scalar.divsi v755 c2_i32_503
  let c1_i32_509 : BitVec 32 := 1#32
  let v771 : BitVec 32 := Scalar.subi v756 c1_i32_509
  let v772 : BitVec 32 := Scalar.select v770 v771 v756
  let c2_i32_522 : BitVec 32 := 2#32
  let v792 : BitVec 32 := Scalar.muli v772 c2_i32_522
  let v793 : BitVec 32 := Scalar.addi c0_i32_523 v792
  let c0_i32_511 : BitVec 32 := 0#32
  let v774 : BitVec 1 := Scalar.cmpi .sgt v755 c0_i32_511
  let v775 : BitVec 32 := Scalar.extui v774
  let c0_i32_512 : BitVec 32 := 0#32
  let v776 : BitVec 1 := Scalar.cmpi .slt v755 c0_i32_512
  let v777 : BitVec 32 := Scalar.extui v776
  let v778 : BitVec 32 := Scalar.subi v775 v777
  let c2_i32_510 : BitVec 32 := 2#32
  let c0_i32_513 : BitVec 32 := 0#32
  let v779 : BitVec 1 := Scalar.cmpi .sgt c2_i32_510 c0_i32_513
  let v780 : BitVec 32 := Scalar.extui v779
  let c0_i32_514 : BitVec 32 := 0#32
  let v781 : BitVec 1 := Scalar.cmpi .slt c2_i32_510 c0_i32_514
  let v782 : BitVec 32 := Scalar.extui v781
  let v783 : BitVec 32 := Scalar.subi v780 v782
  let v784 : BitVec 1 := Scalar.cmpi .ne v778 v783
  let v785 : BitVec 32 := Scalar.remsi v755 c2_i32_510
  let c0_i32_515 : BitVec 32 := 0#32
  let v786 : BitVec 1 := Scalar.cmpi .ne v785 c0_i32_515
  let v787 : BitVec 1 := Scalar.andi v784 v786
  let v773 : BitVec 32 := Scalar.divsi v755 c2_i32_510
  let c1_i32_516 : BitVec 32 := 1#32
  let v788 : BitVec 32 := Scalar.subi v773 c1_i32_516
  let v789 : BitVec 32 := Scalar.select v787 v788 v773
  let v790 : BitVec 32 := Scalar.xori v755 v789
  let c1_i32_517 : BitVec 32 := 1#32
  let v791 : BitVec 32 := Scalar.andi v790 c1_i32_517
  let c1_i32_524 : BitVec 32 := 1#32
  let v794 : BitVec 32 := Scalar.muli v791 c1_i32_524
  let v795 : BitVec 32 := Scalar.addi v793 v794
  v795.toNat
def k0_dev11 (d0 : Dev nD) : Nat :=
  let c0_i32_556 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c2_i32_529 : BitVec 32 := 2#32
  let v804 : BitVec 32 := Scalar.addi v8 c2_i32_529
  let c4_i32_530 : BitVec 32 := 4#32
  let c0_i32_531 : BitVec 32 := 0#32
  let v805 : BitVec 1 := Scalar.cmpi .eq c4_i32_530 c0_i32_531
  let c1_i32_532 : BitVec 32 := 1#32
  let v806 : BitVec 32 := Scalar.select v805 c1_i32_532 c4_i32_530
  let v807 : BitVec 32 := Scalar.remsi v804 v806
  let c0_i32_534 : BitVec 32 := 0#32
  let v809 : BitVec 1 := Scalar.cmpi .slt v807 c0_i32_534
  let c0_i32_535 : BitVec 32 := 0#32
  let v810 : BitVec 1 := Scalar.cmpi .slt v806 c0_i32_535
  let v811 : BitVec 1 := Scalar.xori v809 v810
  let c0_i32_533 : BitVec 32 := 0#32
  let v808 : BitVec 1 := Scalar.cmpi .ne v807 c0_i32_533
  let v812 : BitVec 1 := Scalar.andi v811 v808
  let v813 : BitVec 32 := Scalar.addi v807 v806
  let v814 : BitVec 32 := Scalar.select v812 v813 v807
  let c0_i32_537 : BitVec 32 := 0#32
  let v816 : BitVec 1 := Scalar.cmpi .sgt v814 c0_i32_537
  let v817 : BitVec 32 := Scalar.extui v816
  let c0_i32_538 : BitVec 32 := 0#32
  let v818 : BitVec 1 := Scalar.cmpi .slt v814 c0_i32_538
  let v819 : BitVec 32 := Scalar.extui v818
  let v820 : BitVec 32 := Scalar.subi v817 v819
  let c2_i32_536 : BitVec 32 := 2#32
  let c0_i32_539 : BitVec 32 := 0#32
  let v821 : BitVec 1 := Scalar.cmpi .sgt c2_i32_536 c0_i32_539
  let v822 : BitVec 32 := Scalar.extui v821
  let c0_i32_540 : BitVec 32 := 0#32
  let v823 : BitVec 1 := Scalar.cmpi .slt c2_i32_536 c0_i32_540
  let v824 : BitVec 32 := Scalar.extui v823
  let v825 : BitVec 32 := Scalar.subi v822 v824
  let v826 : BitVec 1 := Scalar.cmpi .ne v820 v825
  let v827 : BitVec 32 := Scalar.remsi v814 c2_i32_536
  let c0_i32_541 : BitVec 32 := 0#32
  let v828 : BitVec 1 := Scalar.cmpi .ne v827 c0_i32_541
  let v829 : BitVec 1 := Scalar.andi v826 v828
  let v815 : BitVec 32 := Scalar.divsi v814 c2_i32_536
  let c1_i32_542 : BitVec 32 := 1#32
  let v830 : BitVec 32 := Scalar.subi v815 c1_i32_542
  let v831 : BitVec 32 := Scalar.select v829 v830 v815
  let c2_i32_555 : BitVec 32 := 2#32
  let v851 : BitVec 32 := Scalar.muli v831 c2_i32_555
  let v852 : BitVec 32 := Scalar.addi c0_i32_556 v851
  let c0_i32_544 : BitVec 32 := 0#32
  let v833 : BitVec 1 := Scalar.cmpi .sgt v814 c0_i32_544
  let v834 : BitVec 32 := Scalar.extui v833
  let c0_i32_545 : BitVec 32 := 0#32
  let v835 : BitVec 1 := Scalar.cmpi .slt v814 c0_i32_545
  let v836 : BitVec 32 := Scalar.extui v835
  let v837 : BitVec 32 := Scalar.subi v834 v836
  let c2_i32_543 : BitVec 32 := 2#32
  let c0_i32_546 : BitVec 32 := 0#32
  let v838 : BitVec 1 := Scalar.cmpi .sgt c2_i32_543 c0_i32_546
  let v839 : BitVec 32 := Scalar.extui v838
  let c0_i32_547 : BitVec 32 := 0#32
  let v840 : BitVec 1 := Scalar.cmpi .slt c2_i32_543 c0_i32_547
  let v841 : BitVec 32 := Scalar.extui v840
  let v842 : BitVec 32 := Scalar.subi v839 v841
  let v843 : BitVec 1 := Scalar.cmpi .ne v837 v842
  let v844 : BitVec 32 := Scalar.remsi v814 c2_i32_543
  let c0_i32_548 : BitVec 32 := 0#32
  let v845 : BitVec 1 := Scalar.cmpi .ne v844 c0_i32_548
  let v846 : BitVec 1 := Scalar.andi v843 v845
  let v832 : BitVec 32 := Scalar.divsi v814 c2_i32_543
  let c1_i32_549 : BitVec 32 := 1#32
  let v847 : BitVec 32 := Scalar.subi v832 c1_i32_549
  let v848 : BitVec 32 := Scalar.select v846 v847 v832
  let v849 : BitVec 32 := Scalar.xori v814 v848
  let c1_i32_550 : BitVec 32 := 1#32
  let v850 : BitVec 32 := Scalar.andi v849 c1_i32_550
  let c1_i32_557 : BitVec 32 := 1#32
  let v853 : BitVec 32 := Scalar.muli v850 c1_i32_557
  let v854 : BitVec 32 := Scalar.addi v852 v853
  v854.toNat
def k0_dev12 (d0 : Dev nD) : Nat :=
  let c0_i32_588 : BitVec 32 := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.xori v2 v5
  let v8 : BitVec 32 := Scalar.addi v6 v7
  let c3_i32_562 : BitVec 32 := 3#32
  let v863 : BitVec 32 := Scalar.addi v8 c3_i32_562
  let c4_i32_563 : BitVec 32 := 4#32
  let c0_i32_564 : BitVec 32 := 0#32
  let v864 : BitVec 1 := Scalar.cmpi .eq c4_i32_563 c0_i32_564
  let c1_i32_565 : BitVec 32 := 1#32
  let v865 : BitVec 32 := Scalar.select v864 c1_i32_565 c4_i32_563
  let v866 : BitVec 32 := Scalar.remsi v863 v865
  let c0_i32_567 : BitVec 32 := 0#32
  let v868 : BitVec 1 := Scalar.cmpi .slt v866 c0_i32_567
  let c0_i32_568 : BitVec 32 := 0#32
  let v869 : BitVec 1 := Scalar.cmpi .slt v865 c0_i32_568
  let v870 : BitVec 1 := Scalar.xori v868 v869
  let c0_i32_566 : BitVec 32 := 0#32
  let v867 : BitVec 1 := Scalar.cmpi .ne v866 c0_i32_566
  let v871 : BitVec 1 := Scalar.andi v870 v867
  let v872 : BitVec 32 := Scalar.addi v866 v865
  let v873 : BitVec 32 := Scalar.select v871 v872 v866
  let c0_i32_570 : BitVec 32 := 0#32
  let v875 : BitVec 1 := Scalar.cmpi .sgt v873 c0_i32_570
  let v876 : BitVec 32 := Scalar.extui v875
  let c0_i32_571 : BitVec 32 := 0#32
  let v877 : BitVec 1 := Scalar.cmpi .slt v873 c0_i32_571
  let v878 : BitVec 32 := Scalar.extui v877
  let v879 : BitVec 32 := Scalar.subi v876 v878
  let c2_i32_569 : BitVec 32 := 2#32
  let c0_i32_572 : BitVec 32 := 0#32
  let v880 : BitVec 1 := Scalar.cmpi .sgt c2_i32_569 c0_i32_572
  let v881 : BitVec 32 := Scalar.extui v880
  let c0_i32_573 : BitVec 32 := 0#32
  let v882 : BitVec 1 := Scalar.cmpi .slt c2_i32_569 c0_i32_573
  let v883 : BitVec 32 := Scalar.extui v882
  let v884 : BitVec 32 := Scalar.subi v881 v883
  let v885 : BitVec 1 := Scalar.cmpi .ne v879 v884
  let v886 : BitVec 32 := Scalar.remsi v873 c2_i32_569
  let c0_i32_574 : BitVec 32 := 0#32
  let v887 : BitVec 1 := Scalar.cmpi .ne v886 c0_i32_574
  let v888 : BitVec 1 := Scalar.andi v885 v887
  let v874 : BitVec 32 := Scalar.divsi v873 c2_i32_569
  let c1_i32_575 : BitVec 32 := 1#32
  let v889 : BitVec 32 := Scalar.subi v874 c1_i32_575
  let v890 : BitVec 32 := Scalar.select v888 v889 v874
  let c2_i32_587 : BitVec 32 := 2#32
  let v910 : BitVec 32 := Scalar.muli v890 c2_i32_587
  let v911 : BitVec 32 := Scalar.addi c0_i32_588 v910
  let c0_i32_577 : BitVec 32 := 0#32
  let v892 : BitVec 1 := Scalar.cmpi .sgt v873 c0_i32_577
  let v893 : BitVec 32 := Scalar.extui v892
  let c0_i32_578 : BitVec 32 := 0#32
  let v894 : BitVec 1 := Scalar.cmpi .slt v873 c0_i32_578
  let v895 : BitVec 32 := Scalar.extui v894
  let v896 : BitVec 32 := Scalar.subi v893 v895
  let c2_i32_576 : BitVec 32 := 2#32
  let c0_i32_579 : BitVec 32 := 0#32
  let v897 : BitVec 1 := Scalar.cmpi .sgt c2_i32_576 c0_i32_579
  let v898 : BitVec 32 := Scalar.extui v897
  let c0_i32_580 : BitVec 32 := 0#32
  let v899 : BitVec 1 := Scalar.cmpi .slt c2_i32_576 c0_i32_580
  let v900 : BitVec 32 := Scalar.extui v899
  let v901 : BitVec 32 := Scalar.subi v898 v900
  let v902 : BitVec 1 := Scalar.cmpi .ne v896 v901
  let v903 : BitVec 32 := Scalar.remsi v873 c2_i32_576
  let c0_i32_581 : BitVec 32 := 0#32
  let v904 : BitVec 1 := Scalar.cmpi .ne v903 c0_i32_581
  let v905 : BitVec 1 := Scalar.andi v902 v904
  let v891 : BitVec 32 := Scalar.divsi v873 c2_i32_576
  let c1_i32_582 : BitVec 32 := 1#32
  let v906 : BitVec 32 := Scalar.subi v891 c1_i32_582
  let v907 : BitVec 32 := Scalar.select v905 v906 v891
  let v908 : BitVec 32 := Scalar.xori v873 v907
  let c1_i32_583 : BitVec 32 := 1#32
  let v909 : BitVec 32 := Scalar.andi v908 c1_i32_583
  let c1_i32_589 : BitVec 32 := 1#32
  let v912 : BitVec 32 := Scalar.muli v909 c1_i32_589
  let v913 : BitVec 32 := Scalar.addi v911 v912
  v913.toNat
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩
abbrev S1024x2048 : Shape := ⟨2, ![1024, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | .hbm, ⟨41, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Contents.lean ====
/-
# 01_k — what each buffer of a device holds while the kernel runs

Every buffer the kernel fills has ONE full contents here, a function of the launch memory `m` and of the device `c`;
the run (Body.lean) owns a buffer in pieces and shows each piece at these contents. A device's position on the ring is
`ringPos c`, and `nb k c` is the device `k` places further on; `xn c` is its partner along the axis `x`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## The devices' neighbours -/

/-- The device at a ring position, and the position of a device: one table, its own inverse. -/
def ringPos (c : Dev nD) : Dev nD := (![0, 1, 3, 2] : Fin 4 → Fin 4) c
/-- The device `k` places further on the ring. -/
def nb (k : ℕ) (c : Dev nD) : Dev nD := ringPos ⟨((ringPos c).val + k) % 4, Nat.mod_lt _ (by decide)⟩
/-- The partner along `x`. -/
def xn (c : Dev nD) : Dev nD := ⟨(c.val + 2) % 4, Nat.mod_lt _ (by decide)⟩

theorem xn_xn (c : Dev nD) : xn (xn c) = c := by revert c; decide
theorem nb_nb31 (c : Dev nD) : nb 3 (nb 1 c) = c := by revert c; decide
theorem nb_nb13 (c : Dev nD) : nb 1 (nb 3 c) = c := by revert c; decide
theorem nb_nb22 (c : Dev nD) : nb 2 (nb 2 c) = c := by revert c; decide
theorem nb_four (c : Dev nD) : nb 4 c = c := by revert c; decide

theorem dev1_eq (c : Dev nD) : (⟨k0_dev1 c, k0_dev1_lt c⟩ : Dev nD) = nb 1 c := by revert c; decide +kernel
theorem dev2_eq (c : Dev nD) : (⟨k0_dev2 c, k0_dev2_lt c⟩ : Dev nD) = nb 2 c := by revert c; decide +kernel
theorem dev3_eq (c : Dev nD) : (⟨k0_dev3 c, k0_dev3_lt c⟩ : Dev nD) = nb 3 c := by revert c; decide +kernel
theorem dev4_eq (c : Dev nD) : (⟨k0_dev4 c, k0_dev4_lt c⟩ : Dev nD) = xn c := by revert c; decide +kernel
theorem dev5_eq (c : Dev nD) : (⟨k0_dev5 c, k0_dev5_lt c⟩ : Dev nD) = xn c := by revert c; decide +kernel
theorem dev6_eq (c : Dev nD) : (⟨k0_dev6 c, k0_dev6_lt c⟩ : Dev nD) = xn c := by revert c; decide +kernel
theorem dev7_eq (c : Dev nD) : (⟨k0_dev7 c, k0_dev7_lt c⟩ : Dev nD) = nb 1 c := by revert c; decide +kernel
theorem dev8_eq (c : Dev nD) : (⟨k0_dev8 c, k0_dev8_lt c⟩ : Dev nD) = nb 2 c := by revert c; decide +kernel
theorem dev9_eq (c : Dev nD) : (⟨k0_dev9 c, k0_dev9_lt c⟩ : Dev nD) = nb 3 c := by revert c; decide +kernel
theorem dev10_eq (c : Dev nD) : (⟨k0_dev10 c, k0_dev10_lt c⟩ : Dev nD) = nb 1 c := by revert c; decide +kernel
theorem dev11_eq (c : Dev nD) : (⟨k0_dev11 c, k0_dev11_lt c⟩ : Dev nD) = nb 2 c := by revert c; decide +kernel
theorem dev12_eq (c : Dev nD) : (⟨k0_dev12 c, k0_dev12_lt c⟩ : Dev nD) = nb 3 c := by revert c; decide +kernel

/-! ## The rectangles the kernel reads and writes -/

abbrev rX : Rect S2x512x2048 := Rect.unit (s := S2x512x2048) ![0, 0, 0] S2x512x2048.size (by decide)
abbrev rWD : Rect S2048x128 := Rect.unit (s := S2048x128) ![0, 0] S2048x128.size (by decide)
abbrev rW5 (c : Dev nD) : Rect S128x2048 := Rect.unit (s := S128x2048) (k0_off5 c) S128x512.size (k0_off5_inb c)
abbrev rW6 (c : Dev nD) : Rect S128x2048 := Rect.unit (s := S128x2048) (k0_off6 c) S128x512.size (k0_off6_inb c)
abbrev rWQ : Rect S2048x512 := Rect.unit (s := S2048x512) ![0, 0] S2048x512.size (by decide)
abbrev rWK : Rect S2048x32 := Rect.unit (s := S2048x32) ![0, 0] S2048x32.size (by decide)
abbrev rC : Rect S1024x128 := Rect.unit (s := S1024x128) ![0, 0] S1024x128.size (by decide)
/-- Half `b` of the rows. -/
abbrev rCb (b : Fin 2) : Rect S1024x128 := Rect.unit (s := S1024x128) ![512 * b.val, 0] S512x128.size (by revert b; decide)
abbrev rQb (b : Fin 2) : Rect S1024x512 := Rect.unit (s := S1024x512) ![512 * b.val, 0] S512x512.size (by revert b; decide)
abbrev rKb (b : Fin 2) : Rect S1024x32 := Rect.unit (s := S1024x32) ![512 * b.val, 0] S512x32.size (by revert b; decide)
abbrev rTb (b : Fin 2) : Rect S1024x2048 := Rect.unit (s := S1024x2048) ![512 * b.val, 0] S512x2048.size (by revert b; decide)
abbrev rT : Rect S1024x2048 := Rect.unit (s := S1024x2048) ![0, 0] S1024x2048.size (by decide)
/-- Head `h`'s columns of half `b`. -/
abbrev rQh (b : Fin 2) (h : Fin 4) : Rect S1024x512 := Rect.unit (s := S1024x512) ![512 * b.val, 128 * h.val] S512x128.size (by revert b h; decide)
abbrev rW (j : Fin 2) : Rect S2x128x512 := Rect.unit (s := S2x128x512) ![j.val, 0, 0] S1x128x512.size (by revert j; decide)
abbrev rV (j b : Fin 2) : Rect S2x1024x512 := Rect.unit (s := S2x1024x512) ![j.val, 512 * b.val, 0] S1x512x512.size (by revert j b; decide)
abbrev rVh (j b : Fin 2) (h : Fin 4) : Rect S2x1024x512 :=
  Rect.unit (s := S2x1024x512) ![j.val, 512 * b.val, 128 * h.val] S1x512x128.size (by revert j b h; decide)
abbrev rO (k : Fin 4) (b : Fin 2) : Rect S4x1024x512 := Rect.unit (s := S4x1024x512) ![k.val, 512 * b.val, 0] S1x512x512.size (by revert k b; decide)
abbrev rOh (k : Fin 4) (b : Fin 2) (h : Fin 4) : Rect S4x1024x512 :=
  Rect.unit (s := S4x1024x512) ![k.val, 512 * b.val, 128 * h.val] S1x512x128.size (by revert k b h; decide)
abbrev rO0 : Rect S4x1024x512 := Rect.unit (s := S4x1024x512) ![0, 0, 0] S1x1024x512.size (by decide)
abbrev rS (j : Fin 2) : Rect S2x512x2048 := Rect.unit (s := S2x512x2048) ![j.val, 0, 0] S1x512x2048.size (by revert j; decide)
/-- The blocks of the three weights left in HBM. -/
abbrev rA4 (c : Dev nD) : Rect S2048x2048 := Rect.unit (s := S2048x2048) (k0_off1 c) S2048x512.size (k0_off1_inb c)
abbrev rA5 (c : Dev nD) : Rect S2048x512 := Rect.unit (s := S2048x512) (k0_off2 c) S2048x128.size (k0_off2_inb c)
def off7 (c : Dev nD) (k : Fin 4) : Fin 2 → ℕ := if k.val = 0 then k0_off3 c else k0_off4 c (BitVec.ofNat 32 k.val)
theorem off7_inb (c : Dev nD) (k : Fin 4) : ∀ a, off7 c k a + S512x2048.size a ≤ S2048x2048.size a := by revert c k; decide +kernel
abbrev rA7 (c : Dev nD) (k : Fin 4) : Rect S2048x2048 := Rect.unit (s := S2048x2048) (off7 c k) S512x2048.size (off7_inb c k)

/-! ## The contents -/

/-- What a load of the rectangle `r` of buffer `b` reads off the contents `f`. -/
abbrev rd (b : Ref sig .tc) (r : Rect b.ty.shape) (f : b.ty.Contents (Elt F)) : r.shape.Idx → Elt F b.ty.elt :=
  (Memref.whole b).view.readAt (Elt F) r.toLoadRect f

/-- The staged inputs. -/
def X (c : Dev nD) : (cc0_stg0_0 : Ref sig .tc).ty.Contents (Elt F) := (win0_0.blk (0 : Fin 1)).view.read (Elt F) (m ((c : Thread nD τ).loc main_arg0))
def WD (c : Dev nD) : (cc0_stg1_0 : Ref sig .tc).ty.Contents (Elt F) := (win0_1.blk (0 : Fin 1)).view.read (Elt F) (m ((c : Thread nD τ).loc main_arg1))
def WUK (c : Dev nD) : (cc0_stg2_0 : Ref sig .tc).ty.Contents (Elt F) := (win0_2.blk (0 : Fin 1)).view.read (Elt F) (m ((c : Thread nD τ).loc main_arg2))
def WUV (c : Dev nD) : (cc0_stg3_0 : Ref sig .tc).ty.Contents (Elt F) := (win0_3.blk (0 : Fin 1)).view.read (Elt F) (m ((c : Thread nD τ).loc main_arg3))
def WKR (c : Dev nD) : (cc0_stg4_0 : Ref sig .tc).ty.Contents (Elt F) := (win0_4.blk (0 : Fin 1)).view.read (Elt F) (m ((c : Thread nD τ).loc main_arg6))

/-- The blocks copied in from HBM. -/
def WQ (c : Dev nD) : (cc0_scratch5 : Ref sig .tc).ty.Contents (Elt F) := rd main_arg4 (rA4 c) (m ((c : Thread nD τ).loc main_arg4))
def WQR (c : Dev nD) : (cc0_scratch6 : Ref sig .tc).ty.Contents (Elt F) := rd main_arg5 (rA5 c) (m ((c : Thread nD τ).loc main_arg5))
def WOc (c : Dev nD) (k : Fin 4) : S512x2048.Idx → Elt F .f32 := rd main_arg7 (rA7 c k) (m ((c : Thread nD τ).loc main_arg7))
/-- Chunk `k` of the output weight in either slot; -/
def WOB (c : Dev nD) (k : Fin 4) : (cc0_scratch11 : Ref sig .tc).ty.Contents (Elt F) := fun i => WOc m c k (ix2 (i 1) (i 2))

abbrev V44 (c : Dev nD) : Vec F S2x512x2048 .f32 := rd cc0_stg0_0 rX (X m c)
abbrev V47 (c : Dev nD) : FVec F S1024x2048 .bf16 := k0_pay2 (V44 m c)
/-- The device's columns of the latent `x·Wdkv`, and the weights it hands its partner. -/
def CS (c : Dev nD) : (cc0_scratch1 : Ref sig .tc).ty.Contents (Elt F) := k0_pay3 (V44 m c) (rd cc0_stg1_0 rWD (WD m c))
def WS (c : Dev nD) : (cc0_scratch3 : Ref sig .tc).ty.Contents (Elt F) := fun i =>
  if (i 0).val = 0 then k0_pay4 (rd cc0_stg2_0 (rW5 c) (WUK m c)) (ix3 (0 : Fin 1) (i 1) (i 2))
  else k0_pay5 (rd cc0_stg3_0 (rW5 c) (WUV m c)) (ix3 (0 : Fin 1) (i 1) (i 2))
def CR (c : Dev nD) : (cc0_scratch2 : Ref sig .tc).ty.Contents (Elt F) := CS m (xn c)
def WR (c : Dev nD) : (cc0_scratch4 : Ref sig .tc).ty.Contents (Elt F) := WS m (xn c)

abbrev V263 (c : Dev nD) : Vec F S2048x512 .f32 := rd cc0_scratch5 rWQ (WQ m c)
abbrev V265 (c : Dev nD) : Vec F S2048x128 .f32 := rd cc0_scratch6 rWD (WQR m c)
abbrev V269 (c : Dev nD) : FVec F S2048x32 .bf16 := k0_pay8 (rd cc0_stg4_0 rWK (WKR m c))
abbrev V274 (c : Dev nD) : FVec F S128x512 .bf16 := k0_pay9 (rd cc0_stg2_0 (rW6 c) (WUK m c))
abbrev V279 (c : Dev nD) : FVec F S128x512 .bf16 := k0_pay10 (rd cc0_stg3_0 (rW6 c) (WUV m c))

/-- The projections, a half of the rows at a time. -/
def Qb (c : Dev nD) (b : ℕ) : FVec F S512x512 .bf16 := match b with
  | 0 => k0_pay12 (V47 m c) (V263 m c)
  | _ => k0_pay28 (V47 m c) (k0_pay6 (V263 m c))
def Rb (c : Dev nD) (b : ℕ) : FVec F S512x128 .bf16 := match b with
  | 0 => k0_pay14 (k0_pay13 (V47 m c) (V265 m c))
  | _ => k0_pay29 (V47 m c) (k0_pay7 (V265 m c))
def Kb (c : Dev nD) (b : ℕ) : FVec F S512x32 .bf16 := match b with
  | 0 => k0_pay15 (V269 m c) (k0_pay11 (V47 m c))
  | _ => k0_pay30 (V47 m c) (V269 m c)
def Qs (c : Dev nD) : (cc0_scratch7 : Ref sig .tc).ty.Contents (Elt F) := fun i =>
  Qb m c ((i 0).val / 512) (ix2 (⟨(i 0).val % 512, Nat.mod_lt _ (by decide)⟩ : Fin 512) (i 1))
def Rs (c : Dev nD) : (cc0_scratch8 : Ref sig .tc).ty.Contents (Elt F) := fun i =>
  Rb m c ((i 0).val / 512) (ix2 (⟨(i 0).val % 512, Nat.mod_lt _ (by decide)⟩ : Fin 512) (i 1))
def Ks (c : Dev nD) : (cc0_scratch9 : Ref sig .tc).ty.Contents (Elt F) := fun i =>
  Kb m c ((i 0).val / 512) (ix2 (⟨(i 0).val % 512, Nat.mod_lt _ (by decide)⟩ : Fin 512) (i 1))

/-- Keys and values: the device's part of the latent times its weights, plus the partner's. -/
def KVb (c : Dev nD) (j b : ℕ) : FVec F S1x512x512 .bf16 := match b, j with
  | 0, 0 => k0_pay18 (k0_pay16 (V274 m c) (rd cc0_scratch1 (rCb 0) (CS m c))) (rd cc0_scratch2 (rCb 0) (CR m c)) (rd cc0_scratch4 (rW 0) (WR m c))
  | 0, _ => k0_pay19 (k0_pay17 (V279 m c) (rd cc0_scratch1 (rCb 0) (CS m c))) (rd cc0_scratch2 (rCb 0) (CR m c)) (rd cc0_scratch4 (rW 1) (WR m c))
  | _, 0 => k0_pay33 (k0_pay31 (V274 m c) (rd cc0_scratch1 (rCb 1) (CS m c))) (rd cc0_scratch2 (rCb 1) (CR m c)) (rd cc0_scratch4 (rW 0) (WR m c))
  | _, _ => k0_pay34 (k0_pay32 (V279 m c) (rd cc0_scratch1 (rCb 1) (CS m c))) (rd cc0_scratch2 (rCb 1) (CR m c)) (rd cc0_scratch4 (rW 1) (WR m c))
def KV (c : Dev nD) : (cc0_scratch0 : Ref sig .tc).ty.Contents (Elt F) := fun i =>
  KVb m c (i 0).val ((i 1).val / 512) (ix3 (0 : Fin 1) (⟨(i 1).val % 512, Nat.mod_lt _ (by decide)⟩ : Fin 512) (i 2))

/-- What a head reads. -/
abbrev lKr (c : Dev nD) (b : Fin 2) : Vec F S512x32 .bf16 := rd cc0_scratch9 (rKb b) (Ks m c)
abbrev lQr (c : Dev nD) (b : Fin 2) : Vec F S512x128 .bf16 := rd cc0_scratch8 (rCb b) (Rs m c)
abbrev lQ (c : Dev nD) (b : Fin 2) (h : Fin 4) : Vec F S512x128 .bf16 := rd cc0_scratch7 (rQh b h) (Qs m c)
abbrev lV (c : Dev nD) (j b : Fin 2) (h : Fin 4) : Vec F S1x512x128 .bf16 := rd cc0_scratch0 (rVh j b h) (KV m c)

/-- One head's attention over one half of the rows. -/
def Ob (c : Dev nD) (b h : ℕ) : FVec F S1x512x128 .bf16 := match b, h with
  | 0, 0 => k0_pay20 (lKr m c 0) (lQr m c 0) (lQ m c 0 0) (lV m c 0 0 0) (lV m c 1 0 0)
  | 0, 1 => k0_pay24 (k0_pay22 (lKr m c 0) (lQr m c 0) (lQ m c 0 1) (lV m c 0 0 1)) (k0_pay23 (lKr m c 0) (lQr m c 0) (lQ m c 0 1) (lV m c 0 0 1)) (lV m c 1 0 1)
  | 0, 2 => k0_pay25 (lKr m c 0) (lQr m c 0) (lQ m c 0 2) (lV m c 0 0 2) (lV m c 1 0 2)
  | 0, _ => k0_pay26 (lKr m c 0) (lQr m c 0) (lQ m c 0 3) (lV m c 0 0 3) (lV m c 1 0 3)
  | _, 0 => k0_pay35 (lKr m c 1) (lQr m c 1) (lQ m c 1 0) (lV m c 0 1 0) (lV m c 1 1 0)
  | _, 1 => k0_pay37 (k0_pay36 (lKr m c 1) (lQr m c 1) (lQ m c 1 1) (lV m c 0 1 1)) (lV m c 1 1 1)
  | _, 2 => k0_pay38 (lKr m c 1) (lQr m c 1) (lQ m c 1 2) (lV m c 0 1 2) (lV m c 1 1 2)
  | _, _ => k0_pay39 (lKr m c 1) (lQr m c 1) (lQ m c 1 3) (lV m c 0 1 3) (lV m c 1 1 3)
/-- The device whose attention lands in place `k` of `c`'s buffer: `k` places back on the ring. -/
def src (c : Dev nD) (k : ℕ) : Dev nD := nb (4 - k) c
def OB (c : Dev nD) : (cc0_scratch10 : Ref sig .tc).ty.Contents (Elt F) := fun i =>
  Ob m (src c (i 0).val) ((i 1).val / 512) ((i 2).val / 128)
    (ix3 (0 : Fin 1) (⟨(i 1).val % 512, Nat.mod_lt _ (by decide)⟩ : Fin 512) (⟨(i 2).val % 128, Nat.mod_lt _ (by decide)⟩ : Fin 128))

/-- The chunks of the output weight as the products read them. -/
def WBc (c : Dev nD) (k : Fin 4) : FVec F S1x512x2048 .bf16 := match k with
  | 0 => k0_pay40 (rd cc0_scratch11 (rS 0) (WOB m c 0))
  | 1 => k0_pay48 (rd cc0_scratch11 (rS 1) (WOB m c 1))
  | 2 => k0_pay45 (rd cc0_scratch11 (rS 0) (WOB m c 2))
  | 3 => k0_pay42 (rd cc0_scratch11 (rS 1) (WOB m c 3))
def WBF (c : Dev nD) (k : Fin 4) : (cc0_scratch12 : Ref sig .tc).ty.Contents (Elt F) := fun i => WBc m c k (ix3 (0 : Fin 1) (i 1) (i 2))

/-- The result after each of the four products. -/
def T0 (c : Dev nD) : (cc0_stg5_0 : Ref sig .tc).ty.Contents (Elt F) := k0_pay41 (rd cc0_scratch10 rO0 (OB m c)) (rd cc0_scratch12 (rS 0) (WBF m c 0))
/-- A result given by its two halves. -/
def halves (w : ℕ → FVec F S512x2048 .f32) : (cc0_stg5_0 : Ref sig .tc).ty.Contents (Elt F) := fun i =>
  w ((i 0).val / 512) (ix2 (⟨(i 0).val % 512, Nat.mod_lt _ (by decide)⟩ : Fin 512) (i 1))
def T1b (c : Dev nD) (b : ℕ) : FVec F S512x2048 .f32 := match b with
  | 0 => k0_pay43 (rd cc0_stg5_0 (rTb 0) (T0 m c)) (rd cc0_scratch10 (rO 1 0) (OB m c)) (rd cc0_scratch12 (rS 1) (WBF m c 3))
  | _ => k0_pay44 (rd cc0_stg5_0 (rTb 1) (T0 m c)) (rd cc0_scratch10 (rO 1 1) (OB m c)) (rd cc0_scratch12 (rS 1) (WBF m c 3))
def T1 (c : Dev nD) : (cc0_stg5_0 : Ref sig .tc).ty.Contents (Elt F) := halves (T1b m c)
def T2b (c : Dev nD) (b : ℕ) : FVec F S512x2048 .f32 := match b with
  | 0 => k0_pay46 (rd cc0_stg5_0 (rTb 0) (T1 m c)) (rd cc0_scratch10 (rO 2 0) (OB m c)) (rd cc0_scratch12 (rS 0) (WBF m c 2))
  | _ => k0_pay47 (rd cc0_stg5_0 (rTb 1) (T1 m c)) (rd cc0_scratch10 (rO 2 1) (OB m c)) (rd cc0_scratch12 (rS 0) (WBF m c 2))
def T2 (c : Dev nD) : (cc0_stg5_0 : Ref sig .tc).ty.Contents (Elt F) := halves (T2b m c)
def T3b (c : Dev nD) (b : ℕ) : FVec F S512x2048 .f32 := match b with
  | 0 => k0_pay51 (k0_pay49 (rd cc0_stg5_0 (rTb 0) (T2 m c))) (k0_pay50 (rd cc0_scratch10 (rO 3 0) (OB m c))) (rd cc0_scratch12 (rS 1) (WBF m c 1))
  | _ => k0_pay1 (k0_pay52 (rd cc0_stg5_0 (rTb 1) (T2 m c))) (k0_pay53 (rd cc0_scratch10 (rO 3 1) (OB m c))) (k0_pay54 (rd cc0_scratch12 (rS 1) (WBF m c 1)))
def T3 (c : Dev nD) : (cc0_stg5_0 : Ref sig .tc).ty.Contents (Elt F) := halves (T3b m c)

end Cert.KProof

end
-- ==== Proof.Ring.lean ====
/-
# 01_k — the protocol of the four devices

One cell per semaphore and device, 23 of them:

* 0, the barrier: three rounds-zero duties of one unit, duty `d` paid by the device `d + 1` places back, which hands over
  the places of its attention buffer that this device writes, and, if it is the partner along `x`, its landing
  buffers for the latent and for the weights;
* 1–4, the latent's two halves (sent, landed), 5 and 6 the weights (sent, landed), 7–12 the ring's sends and 13–18 its
  landings (place 1, 2, 3; first, second half), 19 and 20 the two slots of the output weight (two rounds each), 21 and 22
  the two projection weights.

A transfer's send cell hands its source share back, its landing cell the landed piece at its contents (Contents.lean).
-/
module

public import proofs.«01_k».proof.Proof.Contents

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces of buffers -/

/-- A share of the elements `S` of buffer `b` of device `c`. -/
abbrev ptq (q : PosShare TreeShare) (c : Dev nD) (b : Ref sig .tc) (S : Finset (Idx ((c : Thread nD τ).loc b))) (f : Buf (Elt F) ((c : Thread nD τ).loc b)) : sProp 𝕄 :=
  ((c : Thread nD τ).loc b) ↦[S]{q} f
abbrev pt (c : Dev nD) (b : Ref sig .tc) (S : Finset (Idx ((c : Thread nD τ).loc b))) (f : Buf (Elt F) ((c : Thread nD τ).loc b)) : sProp 𝕄 :=
  ptq fullShare c b S f

/-- The share of the own attention buffer lent to the send to place `k`; the rest is `shKeep`. -/
def shO (k : ℕ) : PosShare TreeShare := match k with
  | 1 => fullShare.left.left
  | 2 => fullShare.left.right
  | _ => fullShare.right.left
abbrev shKeep : PosShare TreeShare := fullShare.right.right

/-! ## The cells -/

def csem (k : Fin 23) : SemLoc sig := if h : k.val = 0 then .reg (0 : Fin 1) else .dma (⟨k.val + 5, by omega⟩ : Fin 28)
def kidx (s : SemLoc sig) : ℕ := match s with
  | .reg _ => 0
  | .dma q => if q.val < 6 then 99 else q.val - 5
abbrev kcell (ck : Dev nD × Fin 23) : GSem nD τ sig := ((ck.1 : Thread nD τ), csem ck.2)

theorem kidx_csem (k : Fin 23) : kidx (csem k) = k.val := by revert k; decide
theorem csem_inj : Function.Injective csem := fun a b h => Fin.ext (by rw [← kidx_csem a, ← kidx_csem b, h])

def amtK (k : ℕ) : ℕ := match k with
  | 0 => 1
  | 1 | 2 | 3 | 4 => (cc0_scratch1 : Ref sig .tc).dmaCredit S512x128 .bf16
  | 5 | 6 => (cc0_scratch3 : Ref sig .tc).dmaCredit S2x128x512 .bf16
  | 19 | 20 => (cc0_scratch11 : Ref sig .tc).dmaCredit S512x2048 .f32
  | 21 => (cc0_scratch5 : Ref sig .tc).dmaCredit S2048x512 .f32
  | 22 => (cc0_scratch6 : Ref sig .tc).dmaCredit S2048x128 .f32
  | _ => (cc0_scratch10 : Ref sig .tc).dmaCredit S512x512 .bf16

theorem amtK_pos (k : ℕ) : 0 < amtK k := by
  unfold amtK
  split <;> first | exact Nat.one_pos | exact sig.dmaCredit_pos _ _ _ _ _ (by decide)

def dutK (k r : ℕ) : Finset (Fin 3) :=
  if r = 0 then (if k = 0 then Finset.univ else if k ≤ 22 then {0} else ∅)
  else if r = 1 then (if k = 19 ∨ k = 20 then {0} else ∅) else ∅

/-! ## What the cells hand over -/

/-- Places `k` (both halves) of device `s`'s attention buffer, at anything. -/
def landO (s : Dev nD) (k : Fin 4) : sProp 𝕄 :=
  iprop((∃ f, pt (F := F) s cc0_scratch10 (rO k 0).set f) ∗ (∃ f, pt (F := F) s cc0_scratch10 (rO k 1).set f))
/-- Device `s`'s landing buffers for its partner's latent and weights. -/
def landX (s : Dev nD) : sProp 𝕄 :=
  iprop((∃ f, pt (F := F) s cc0_scratch2 (rCb 0).set f) ∗ (∃ f, pt (F := F) s cc0_scratch2 (rCb 1).set f) ∗ (∃ f, pt (F := F) s cc0_scratch4 Finset.univ f))
/-- The duty of `c`'s barrier cell that its partner along `x` pays. -/
def xsel (c : Dev nD) : Fin 3 := if nb 3 c = xn c then 0 else 2
def landX? (s : Dev nD) (d e : Fin 3) : sProp 𝕄 := if d = e then landX (F := F) s else iprop(emp)
/-- The device that pays duty `d` of `c`'s barrier cell, and the place of its attention buffer that `c` writes. -/
def payer (d : Fin 3) (c : Dev nD) : Dev nD := nb (3 - d.val) c
def barPay (c : Dev nD) (d : Fin 3) : sProp 𝕄 :=
  iprop(landO (F := F) (payer d c) ⟨3 - d.val, by omega⟩ ∗ landX? (F := F) (payer d c) d (xsel c))

/-- The output weight's chunk that slot 0 (slot 1) takes in round `r`. -/
def slot0 (r : ℕ) : Fin 4 := if r = 0 then 0 else 2
def slot1 (r : ℕ) : Fin 4 := if r = 0 then 3 else 1

def payK (c : Dev nD) (k r : ℕ) (d : Fin 3) : sProp 𝕄 := match k with
  | 0 => barPay c d
  | 1 => ptq fullShare.left c cc0_scratch1 (rCb 0).set (CS m c)
  | 2 => pt c cc0_scratch2 (rCb 0).set (CR m c)
  | 3 => ptq fullShare.left c cc0_scratch1 (rCb 1).set (CS m c)
  | 4 => pt c cc0_scratch2 (rCb 1).set (CR m c)
  | 5 => pt c cc0_scratch3 Finset.univ (WS m c)
  | 6 => pt c cc0_scratch4 Finset.univ (WR m c)
  | 7 => ptq (shO 1) c cc0_scratch10 (rO 0 0).set (OB m c)
  | 8 => ptq (shO 1) c cc0_scratch10 (rO 0 1).set (OB m c)
  | 9 => ptq (shO 2) c cc0_scratch10 (rO 0 0).set (OB m c)
  | 10 => ptq (shO 2) c cc0_scratch10 (rO 0 1).set (OB m c)
  | 11 => ptq (shO 3) c cc0_scratch10 (rO 0 0).set (OB m c)
  | 12 => ptq (shO 3) c cc0_scratch10 (rO 0 1).set (OB m c)
  | 13 => pt c cc0_scratch10 (rO 1 0).set (OB m c)
  | 14 => pt c cc0_scratch10 (rO 1 1).set (OB m c)
  | 15 => pt c cc0_scratch10 (rO 2 0).set (OB m c)
  | 16 => pt c cc0_scratch10 (rO 2 1).set (OB m c)
  | 17 => pt c cc0_scratch10 (rO 3 0).set (OB m c)
  | 18 => pt c cc0_scratch10 (rO 3 1).set (OB m c)
  | 19 => iprop(pt c cc0_scratch11 (rS 0).set (WOB m c (slot0 r)) ∗ ptq fullShare.left c main_arg7 (rA7 c (slot0 r)).set (m ((c : Thread nD τ).loc main_arg7)))
  | 20 => iprop(pt c cc0_scratch11 (rS 1).set (WOB m c (slot1 r)) ∗ ptq fullShare.right c main_arg7 (rA7 c (slot1 r)).set (m ((c : Thread nD τ).loc main_arg7)))
  | 21 => iprop(pt c cc0_scratch5 Finset.univ (WQ m c) ∗ pt c main_arg4 (rA4 c).set (m ((c : Thread nD τ).loc main_arg4)))
  | 22 => iprop(pt c cc0_scratch6 Finset.univ (WQR m c) ∗ pt c main_arg5 (rA5 c).set (m ((c : Thread nD τ).loc main_arg5)))
  | _ => iprop(emp)

omit [FloatOps F] in
instance landO_storable (s : Dev nD) (k : Fin 4) : BI.Storable (upEmb : UEmb _ 𝕄) (landO (F := F) s k) := by unfold landO; infer_instance
omit [FloatOps F] in
instance landX_storable (s : Dev nD) : BI.Storable (upEmb : UEmb _ 𝕄) (landX (F := F) s) := by unfold landX; infer_instance
omit [FloatOps F] in
instance landX?_storable (s : Dev nD) (d e : Fin 3) : BI.Storable (upEmb : UEmb _ 𝕄) (landX? (F := F) s d e) := by
  unfold landX?; split <;> infer_instance
omit [FloatOps F] in
instance barPay_storable (c : Dev nD) (d : Fin 3) : BI.Storable (upEmb : UEmb _ 𝕄) (barPay (F := F) c d) := by unfold barPay; infer_instance

instance payK_storable (c : Dev nD) (k r : ℕ) (d : Fin 3) : BI.Storable (upEmb : UEmb _ 𝕄) (payK m c k r d) := by
  unfold payK
  split <;> infer_instance

def ringRd : Rounds.Schedule (GSem nD τ sig) (Fin 3) 𝕄 where
  duties g r := if g.1.2 = .tc then dutK (kidx g.2) r else ∅
  unitless _ := False
  amount g _ _ := amtK (kidx g.2)
  payload g r d := payK m g.1.1 (kidx g.2) r d
  amount_pos g _ _ _ := amtK_pos _

instance ringRd_payload_storable (g : GSem nD τ sig) (r : ℕ) (d : Fin 3) :
    BI.Storable (upEmb : UEmb _ 𝕄) ((ringRd (F := F) m).payload g r d) := payK_storable m _ _ _ _

theorem duties_k (c : Dev nD) (k : Fin 23) (r : ℕ) : (ringRd (F := F) m).duties (kcell (c, k)) r = dutK k.val r := by
  dsimp only [ringRd]; rw [if_pos rfl, kidx_csem]
theorem amount_k (c : Dev nD) (k : Fin 23) (r : ℕ) (d : Fin 3) : (ringRd (F := F) m).amount (kcell (c, k)) r d = amtK k.val := by
  dsimp only [ringRd]; rw [kidx_csem]
theorem payload_k (c : Dev nD) (k : Fin 23) (r : ℕ) (d : Fin 3) : (ringRd (F := F) m).payload (kcell (c, k)) r d = payK m c k.val r d := by
  dsimp only [ringRd]; rw [kidx_csem]

theorem expect_k (c : Dev nD) (k : Fin 23) (r : ℕ) (h : dutK k.val r = {0}) : (ringRd (F := F) m).expect (kcell (c, k)) r = amtK k.val := by
  unfold Schedule.expect Schedule.amountOf; rw [duties_k, h, Finset.sum_singleton, amount_k]
theorem expect_bar (c : Dev nD) : (ringRd (F := F) m).expect (kcell (c, 0)) 0 = 3 := by
  unfold Schedule.expect Schedule.amountOf
  rw [duties_k, Finset.sum_congr rfl fun d _ => amount_k m c 0 0 d]; rfl
theorem rest_k (c : Dev nD) (k : Fin 23) (r : ℕ) (h : dutK k.val r = {0}) :
    bigSep ((ringRd (F := F) m).duties (kcell (c, k)) r \ ∅) (fun d => (ringRd (F := F) m).payload (kcell (c, k)) r d) = payK m c k.val r 0 := by
  rw [Finset.sdiff_empty, duties_k, h, bigSep_singleton, payload_k]
theorem rest_bar (c : Dev nD) :
    bigSep ((ringRd (F := F) m).duties (kcell (c, 0)) 0 \ ∅) (fun d => (ringRd (F := F) m).payload (kcell (c, 0)) 0 d)
      = iprop(barPay (F := F) c 0 ∗ barPay (F := F) c 1 ∗ barPay (F := F) c 2) := by
  rw [Finset.sdiff_empty, duties_k, show dutK ((0 : Fin 23) : ℕ) 0 = Finset.univ from rfl,
    bigSep_univ_eq_bigSepL [0, 1, 2] (by decide) (by decide), bigSepL_cons_cons, bigSepL_cons_cons, bigSepL_singleton, payload_k, payload_k, payload_k]
  rfl

/-! ## What each device owes, payment by payment, and the levels -/

/-- The payments in program order: whose cell, which cell. -/
def tgt (j : ℕ) (c : Dev nD) : Dev nD := match j with
  | 0 | 6 | 9 => nb 1 c
  | 1 | 7 | 10 => nb 2 c
  | 2 | 8 | 11 => nb 3 c
  | _ => xn c
def kx (j : ℕ) : Fin 23 := match j with
  | 0 | 1 | 2 => 0
  | 3 => 6
  | 4 => 2
  | 5 => 4
  | 6 => 13
  | 7 => 15
  | 8 => 17
  | 9 => 14
  | 10 => 16
  | _ => 18
/-- What is still owed when `r` payments are left. -/
def Ow (c : Dev nD) : ℕ → CellTallies nD τ sig Unit
  | 0 => 0
  | r + 1 => Ow c r + tallyAt (kcell (tgt (11 - r) c, kx (11 - r))) () (amtK (kx (11 - r)).val)
abbrev O₀ (c : Dev nD) : CellTallies nD τ sig Unit := Ow c 12

def L (g : GSem nD τ sig) : Finset Unit := if g.1.2 = .tc then {()} else ∅
def lvK (k : ℕ) : ℕ := if k = 0 then 1 else if k = 2 ∨ k = 4 ∨ k = 6 then 2 else if 13 ≤ k ∧ k ≤ 18 then 3 else 0
def lv (g : GSem nD τ sig) (_ : Unit) : ℕ := lvK (kidx g.2)

theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {r : ℕ} {g : GSem nD τ sig} {u : Unit} (h : 0 < Ow c r g u) : ∃ j < r, g = kcell (tgt (11 - j) c, kx (11 - j)) := by
  induction r with
  | zero => exact absurd h (Nat.lt_irrefl 0)
  | succ r ih =>
    unfold Ow at h
    rw [Pi.add_apply, Finsupp.add_apply, tallyAt_apply] at h
    by_cases hg : g = kcell (tgt (11 - r) c, kx (11 - r)) ∧ u = ()
    · exact ⟨r, Nat.lt_succ_self r, hg.1⟩
    · rw [if_neg hg] at h
      obtain ⟨j, hj, e⟩ := ih (by omega)
      exact ⟨j, by omega, e⟩

/-- A wait on a semaphore below everything still owed. -/
abbrev Below (s : SemLoc sig) (r : ℕ) : Prop := ∀ j < r, lvK (kidx s) < lvK (kx (11 - j)).val

omit [FloatOps F] in
theorem mayWait (c : Dev nD) (s : SemLoc sig) (r : ℕ) (h : Below s r) :
    (levAts L lv : sProp 𝕄) ⊢ MayWait (c : Thread nD τ) s () (Ow c r) :=
  MayOwe.of_cut (L := L) (lev := lv) (lvK (kidx s))
    (fun p hp => by rw [Finset.mem_singleton.mp hp, L_tc]; exact Finset.mem_singleton_self _)
    (fun g u hg => by obtain ⟨j, _, rfl⟩ := Ow_pos hg; exact Finset.mem_singleton_self _)
    (fun p hp => by rw [Finset.mem_singleton.mp hp]; exact le_rfl)
    (fun g u hg => by
      obtain ⟨j, hj, rfl⟩ := Ow_pos hg
      dsimp only [lv]; rw [kidx_csem]; exact h j hj)

/-! ## The rules, one per kind of step -/

abbrev 𝒱₀ : Variants := Variants.none

variable (K : Dev nD × Fin 23 → ℕ)

/-- What every device knows: every cell's invariant, that every cell is at round 0, and the levels. -/
def REC : sProp 𝕄 :=
  iprop(bigSep Finset.univ (fun ck : Dev nD × Fin 23 => iprop(cellInv ER (ringRd (F := F) m) (K ck) (kcell ck) ∗ reached ER (kcell ck) 0)) ∗ levAts L lv)

instance REC_persistent : BI.Persistent (REC (F := F) m K) := by unfold REC; infer_instance

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The tokens, credits, positions and closed counters of a cell, and what is owed with `r` payments left. -/
abbrev tkr (c : Dev nD) (k : Fin 23) (r : ℕ) : sProp 𝕄 := dutyTok ER (kcell (c, k)) r (0 : Fin 3)
abbrev tk (c : Dev nD) (k : Fin 23) : sProp 𝕄 := tkr (F := F) c k 0
abbrev cr (c : Dev nD) (k : Fin 23) : sProp 𝕄 := cred (tallyAt (kcell (c, k)) () (amtK k.val))
abbrev atr (c : Dev nD) (k : Fin 23) (r : ℕ) : sProp 𝕄 := atPos ER (kcell (c, k)) r ∅ 0
abbrev at0 (c : Dev nD) (k : Fin 23) : sProp 𝕄 := atr (F := F) c k 0
abbrev dn (c : Dev nD) (k : Fin 23) : sProp 𝕄 := semVal (kcell (c, k)) 0
def ow (c : Dev nD) (r : ℕ) : sProp 𝕄 := iprop(∃ W : Waits sig Unit, owes (c : Thread nD τ) (Ow c r) W)

theorem REC_cell (ck : Dev nD × Fin 23) :
    REC (F := F) m K ⊢ iprop(cellInv ER (ringRd (F := F) m) (K ck) (kcell ck) ∗ reached ER (kcell ck) 0) := by
  have h : (bigSep Finset.univ (fun ck : Dev nD × Fin 23 => iprop(cellInv ER (ringRd (F := F) m) (K ck) (kcell ck) ∗ reached ER (kcell ck) 0)) : sProp 𝕄)
      ⊢ iprop(cellInv ER (ringRd (F := F) m) (K ck) (kcell ck) ∗ reached ER (kcell ck) 0) := bigSep_elim (Finset.mem_univ ck)
  unfold REC
  iintro ⟨H, -⟩
  iapply h $$ H

theorem REC_lev : REC (F := F) m K ⊢ levAts L lv := by
  unfold REC
  iintro ⟨-, H⟩
  iexact H

/-- Waiting out a round: the cell moves on and the round's payload comes. -/
theorem step_waitR (c : Dev nD) (k : Fin 23) (n r : ℕ) {sp sp' : Space} {s s' : Shape} {e e' : EltTy} {sem : DmaSem sig} {src : Memref sig .tc sp' s' e'}
    {dst : Memref sig .tc sp s e} {hsrc : src.view.WordExact} {hdst : dst.view.WordExact} {α : Type} {kont : PUnit → Prog (TpuEff nD τ sig (Elt F) Λ₀ .tc) α} {Q : α → sProp 𝕄}
    (hs : (.dma sem : SemLoc sig) = csem k) (ha : dst.view.dmaCredit = amtK k.val) (hd : dutK k.val r = {0}) (hl : Below (csem k) n) :
    REC (F := F) m K ⊢ iprop(cr c k -∗ atr c k r -∗ ow c n
      -∗ ((atr c k (r + 1) ∗ reached ER (kcell (c, k)) (r + 1) ∗ ow c n ∗ payK m c k.val r 0) -∗ WP c (kont ⟨⟩) Q)
      -∗ WP c (.op (.waitDma2 sem src dst hsrc hdst) kont) Q) := by
  unfold ow
  iintro #HR Hc Hat ⟨%W, HO⟩ Hk
  ihave #HI := (REC_cell m K (c, k)) $$ HR
  icases HI with ⟨#HI, #Hr0⟩
  have hcell : ((c : Thread nD τ), (.dma sem : SemLoc sig)) = kcell (c, k) := by rw [hs]
  iapply (Rounds.wp_wait_rest_token 𝒱₀ ER (ringRd (F := F) m) (c : Thread nD τ) none (κ := K (c, k)) (sm := csem k) (k' := amtK k.val)
      (fun KK => by rw [← hs, ← ha]; exact wpE_waitDma2_eq 𝒱₀ (c : Thread nD τ) none Set.univ KK) (Set.mem_univ _) () (O := Ow c n) (W := W) (R := r) (m := 0) (T := ∅)
      (by rw [Nat.zero_add]; exact (expect_k m c k r hd).symm)) $$ [Hc HO Hat]
  · isplitr; · iexact HI
    isplitl [Hc]; · iexact Hc
    isplitl [HO]; · iexact HO
    isplitr
    · iapply (mayWait c (csem k) n hl)
      iapply (REC_lev m K) $$ HR
    iexact Hat
  iintro ⟨HO, Hat, Hr, Hp⟩
  ihave Hp := (Entails.of_eq (rest_k m c k r hd)) $$ Hp
  iapply Hk
  isplitl [Hat]; · iexact Hat
  isplitl [Hr]; · iexact Hr
  isplitl [HO]; · iexists _; iexact HO
  iexact Hp

theorem cell_done (c : Dev nD) (k : Fin 23) (r : ℕ) (hd : ∀ r', r ≤ r' → dutK k.val r' = ∅) :
    REC (F := F) m K ⊢ iprop(atr c k r -∗ |={Set.univ}=> dn c k) := by
  iintro #HR Hat
  ihave #HI := (REC_cell m K (c, k)) $$ HR
  icases HI with ⟨#HI, #Hr0⟩
  iapply (Rounds.cell_close ER (ringRd (F := F) m) (Set.mem_univ (K (c, k))) (fun h => h) (R := r) (fun r' h => (duties_k m c k r').trans (hd r' h)))
  isplitr; · iexact HI
  iexact Hat

/-- Waiting out a cell's last round: its counter is the device's again, at zero. -/
theorem step_wait (c : Dev nD) (k : Fin 23) (n r : ℕ) {sp sp' : Space} {s s' : Shape} {e e' : EltTy} {sem : DmaSem sig} {src : Memref sig .tc sp' s' e'}
    {dst : Memref sig .tc sp s e} {hsrc : src.view.WordExact} {hdst : dst.view.WordExact} {α : Type} {kont : PUnit → Prog (TpuEff nD τ sig (Elt F) Λ₀ .tc) α} {Q : α → sProp 𝕄}
    (hs : (.dma sem : SemLoc sig) = csem k) (ha : dst.view.dmaCredit = amtK k.val) (hd : dutK k.val r = {0}) (hd' : ∀ r', r + 1 ≤ r' → dutK k.val r' = ∅) (hl : Below (csem k) n) :
    REC (F := F) m K ⊢ iprop(cr c k -∗ atr c k r -∗ ow c n
      -∗ ((dn c k ∗ ow c n ∗ payK m c k.val r 0) -∗ WP c (kont ⟨⟩) Q)
      -∗ WP c (.op (.waitDma2 sem src dst hsrc hdst) kont) Q) := by
  iintro #HR Hc Hat HO Hk
  iapply (step_waitR m K c k n r hs ha hd hl) $$ HR Hc Hat HO
  iintro ⟨Hat, -, HO, Hp⟩
  imod (cell_done m K c k (r + 1) hd') $$ HR Hat with Hd
  iapply Hk
  isplitl [Hd]; · iexact Hd
  isplitl [HO]; · iexact HO
  iexact Hp

/-- The barrier wait: the three neighbours' places. -/
theorem step_barrier (c : Dev nD) (n : ℕ) {α : Type} {kont : PUnit → Prog (TpuEff nD τ sig (Elt F) Λ₀ .tc) α} {Q : α → sProp 𝕄} {sem : Sem sig} {k' : ℕ}
    (hs : (.reg sem : SemLoc sig) = csem 0) (hk : k' = 3) (hl : Below (csem 0) n) :
    REC (F := F) m K ⊢ iprop(cred (tallyAt (kcell (c, 0)) () 3) -∗ at0 c 0 -∗ ow c n
      -∗ ((dn c 0 ∗ ow c n ∗ barPay (F := F) c 0 ∗ barPay (F := F) c 1 ∗ barPay (F := F) c 2) -∗ WP c (kont ⟨⟩) Q)
      -∗ WP c (.op (.semWait sem k') kont) Q) := by
  subst hk
  unfold ow
  iintro #HR Hc Hat ⟨%W, HO⟩ Hk
  ihave #HI := (REC_cell m K (c, 0)) $$ HR
  icases HI with ⟨#HI, #Hr0⟩
  iapply (Rounds.wp_wait_rest_token 𝒱₀ ER (ringRd (F := F) m) (c : Thread nD τ) none (κ := K (c, 0)) (sm := csem 0) (k' := 3)
      (fun KK => by rw [← hs]; exact wpE_semWait_eq 𝒱₀ (c : Thread nD τ) none Set.univ KK) (Set.mem_univ _) () (O := Ow c n) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr
    · iapply (mayWait c (csem 0) n hl)
      iapply (REC_lev m K) $$ HR
    iexact Hat
  iintro ⟨HO, Hat, -, Hp⟩
  ihave Hp := (Entails.of_eq (rest_bar m c)) $$ Hp
  imod (cell_done m K c 0 (0 + 1) (fun r' h => by unfold dutK; rw [if_neg (by omega)]; split <;> rfl)) $$ HR Hat with Hd
  iapply Hk
  isplitl [Hd]; · iexact Hd
  isplitl [HO]; · iexists _; iexact HO
  iexact Hp

/-- A signal to the barrier cell of `c'`: its duty `d`, with what it hands over. -/
theorem step_signal (c c' : Dev nD) (d : Fin 3) (n : ℕ) {dst : Dev nD} {sem : Sem sig} {k' : ℕ} {α : Type} {kont : PUnit → Prog (TpuEff nD τ sig (Elt F) Λ₀ .tc) α} {Q : α → sProp 𝕄}
    (hdst : dst = c') (hs : (.reg sem : SemLoc sig) = csem 0) (hk : k' = 1) (hO : Ow c (n + 1) = Ow c n + tallyAt (kcell (c', 0)) () 1) :
    REC (F := F) m K ⊢ iprop(dutyTok ER (kcell (c', 0)) 0 d -∗ ow c (n + 1) -∗ barPay (F := F) c' d
      -∗ (ow c n -∗ WP c (kont ⟨⟩) Q)
      -∗ WP c (.op (.semSignal (dst : Thread nD τ) sem k') kont) Q) := by
  subst hdst hk
  have hsem : sem = (0 : Fin 1) := by
    exact SemLoc.reg.inj (hs.trans (by decide : csem 0 = SemLoc.reg (0 : Fin 1)))
  subst hsem
  unfold ow
  iintro #HR Ht ⟨%W, HO⟩ Hp Hk
  ihave #HI := (REC_cell m K (dst, 0)) $$ HR
  icases HI with ⟨#HI, #Hr0⟩
  iapply (Rounds.wp_signal 𝒱₀ ER (ringRd (F := F) m) (c : Thread nD τ) none (dst := (dst : Thread nD τ)) (sem := (0 : Fin 1)) (κ := K (dst, 0))
      (d := d) (r := 0) (by exact (duties_k m dst 0 0).symm ▸ Finset.mem_univ d) (amount_k m dst 0 0 d) () (Ow c n) hO (W := W))
    $$ [HO Ht Hp]
  · isplitr; · iexact HI
    isplitl [HO]; · iexact HO
    isplitl [Ht]; · iexact Ht
    isplitl [Hp]; · rw [show (ringRd (F := F) m).payload ((dst : Thread nD τ), .reg (0 : Fin 1)) 0 d = barPay (F := F) dst d from payload_k m dst 0 0 d]; iexact Hp
    iexact Hr0
  iintro HO
  iapply Hk
  iexists W
  iexact HO

/-- A transfer to another device: the landing cell is paid, the send cell's credit is the sender's. -/
theorem step_send (c c' : Dev nD) (ks kr : Fin 23) (n : ℕ) {A B : sProp 𝕄} {sp sp' : Space} {s : Shape} {e : EltTy} {dev : Dev nD}
    {src : Memref sig .tc sp s e} {dst : Memref sig .tc sp' s e} {sS sem : SemLoc sig}
    {hsc : dst.view.ref.isScScratch = false} {hsrc : src.view.WordExact} {hdst : dst.view.WordExact}
    {hsem : DmaTarget.Typed sp sem (.remote (dev : Thread nD τ) dst sS hsc)}
    {α : Type} {kont : PUnit → Prog (TpuEff nD τ sig (Elt F) Λ₀ .tc) α} {Q : α → sProp 𝕄} {q : PosShare TreeShare}
    {fs : Buf (Elt F) (src.view.loc (c : Thread nD τ))}
    (hdev : dev = c') (hsS : sS = csem ks) (hsR : sem = csem kr) (hN : dst.view.amount sem = amtK kr.val) (hNs : amtK ks.val = amtK kr.val)
    (hks : dutK ks.val 0 = {0}) (hkr : dutK kr.val 0 = {0})
    (hO : Ow c (n + 1) = Ow c n + tallyAt (kcell (c', kr)) () (amtK kr.val))
    (hA : A ⊢ (src.view.loc (c : Thread nD τ) ↦[src.view.set]{q} fs))
    (hB : B ⊢ iprop(∃ fd, dst.view.loc (c' : Thread nD τ) ↦[dst.view.set]{fullShare} fd))
    (hpay₁ : (src.view.loc (c : Thread nD τ) ↦[src.view.set]{q} fs) ⊢ payK m c ks.val 0 0)
    (hpay₂ : ∀ fd, (dst.view.loc (c' : Thread nD τ) ↦[dst.view.set]{fullShare} (dst.view.write (Elt F) fd (src.view.read (Elt F) fs) Finset.univ)) ⊢ payK m c' kr.val 0 0) :
    REC (F := F) m K ⊢ iprop(A -∗ B -∗ tk c ks -∗ tk c' kr -∗ ow c (n + 1)
      -∗ ((cr c ks ∗ ow c n) -∗ WP c (kont ⟨⟩) Q)
      -∗ WP c (.op (.enqueueDma src (.remote (dev : Thread nD τ) dst sS hsc) sem hsrc hdst hsem) kont) Q) := by
  subst hdev hsS hsR
  unfold ow
  iintro #HR HA HB Hts Htr ⟨%W, HO⟩ Hk
  ihave #HIs := (REC_cell m K (c, ks)) $$ HR
  icases HIs with ⟨#HIs, #Hrs⟩
  ihave #HIr := (REC_cell m K (dev, kr)) $$ HR
  icases HIr with ⟨#HIr, #Hrr⟩
  ihave HA := hA $$ HA
  ihave HB := hB $$ HB
  icases HB with ⟨%fd, HB⟩
  iapply (Rounds.wp_send_pointsTo 𝒱₀ ER (ringRd (F := F) m) (c : Thread nD τ) none (κ₁ := K (c, ks)) (κ₂ := K (dev, kr)) (r₁ := 0) (r₂ := 0)
    (d₁ := 0) (d₂ := 0) (fd := fd) (by rw [duties_k, hks]; exact Finset.mem_singleton_self _) (by rw [duties_k, hkr]; exact Finset.mem_singleton_self _)
    () () (amtK kr.val) hN ((amount_k m c ks 0 0).trans hNs) (amount_k m dev kr 0 0) (Ow c n) hO (W := W)
    (by rw [payload_k]; exact hpay₁) (by rw [payload_k]; exact hpay₂ fd)) $$ [HA HB Hts Htr HO]
  · isplitr; · iexact HIs
    isplitr; · iexact HIr
    isplitl [HA]; · iexact HA
    isplitl [HB]; · iexact HB
    isplitl [HO]; · iexact HO
    isplitl [Hts]; · iexact Hts
    isplitr; · iexact Hrs
    isplitl [Htr]; · iexact Htr
    iexact Hrr
  iintro ⟨Hc, HO⟩
  iapply Hk
  isplitl [Hc]; · unfold cr; rw [hNs]; iexact Hc
  iexists W
  iexact HO

/-- A copy within the device. -/
theorem step_copy (c : Dev nD) (k : Fin 23) (r : ℕ) {A B : sProp 𝕄} {sp sp' : Space} {s : Shape} {e : EltTy}
    {src : Memref sig .tc sp s e} {dst : Memref sig .tc sp' s e} {sem : SemLoc sig}
    {hsrc : src.view.WordExact} {hdst : dst.view.WordExact}
    {hsem : DmaTarget.Typed (nD := nD) sp sem (.here dst : DmaTarget nD τ sig .tc sp' s e)}
    {α : Type} {kont : PUnit → Prog (TpuEff nD τ sig (Elt F) Λ₀ .tc) α} {Q : α → sProp 𝕄} {q : PosShare TreeShare}
    {fs : Buf (Elt F) (src.view.loc (c : Thread nD τ))}
    (hs : sem = csem k) (hN : dst.view.amount sem = amtK k.val) (hd : dutK k.val r = {0})
    (hA : A ⊢ (src.view.loc (c : Thread nD τ) ↦[src.view.set]{q} fs))
    (hB : B ⊢ iprop(∃ fd, dst.view.loc (c : Thread nD τ) ↦[dst.view.set]{fullShare} fd))
    (hpay : ∀ fd, iprop((dst.view.loc (c : Thread nD τ) ↦[dst.view.set]{fullShare} (dst.view.write (Elt F) fd (src.view.read (Elt F) fs) Finset.univ))
      ∗ (src.view.loc (c : Thread nD τ) ↦[src.view.set]{q} fs)) ⊢ payK m c k.val r 0) :
    REC (F := F) m K ⊢ iprop(A -∗ B -∗ tkr c k r -∗ reached ER (kcell (c, k)) r
      -∗ (cr c k -∗ WP c (kont ⟨⟩) Q)
      -∗ WP c (.op (.enqueueDma src (.here dst) sem hsrc hdst hsem) kont) Q) := by
  subst hs
  iintro #HR HA HB Ht Hr Hk
  ihave #HI := (REC_cell m K (c, k)) $$ HR
  icases HI with ⟨#HI, #Hr0⟩
  ihave HA := hA $$ HA
  ihave HB := hB $$ HB
  icases HB with ⟨%fd, HB⟩
  iapply (Rounds.wp_copy_pointsTo 𝒱₀ ER (ringRd (F := F) m) (c : Thread nD τ) none (κ := K (c, k)) (r := r) (d := 0) (fd := fd) (fs := fs) (q := q)
    (by rw [duties_k, hd]; exact Finset.mem_singleton_self _) () (amtK k.val) hN (amount_k m c k r 0)
    (by rw [payload_k]; exact hpay fd)) $$ [HA HB Ht Hr]
  · isplitr; · iexact HI
    isplitl [HA]; · iexact HA
    isplitl [HB]; · iexact HB
    isplitl [Ht]; · iexact Ht
    iexact Hr
  iexact Hk

end Cert.KProof

end
-- ==== Proof.Pieces.lean ====
/-
# 01_k — the pieces the buffers are owned in, and what is read off and written to each
-/
module

public import proofs.«01_k».proof.Proof.Ring
public import Idealize.ShloMosaic.Lib.ValueLayout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loads and stores through whole buffers -/

theorem setOn_whole_sub {b : Ref sig .tc} {r S : Finset b.ty.shape.Idx} (h : r ⊆ S) : (View.whole b : View sig .tc _ _ _).setOn r ⊆ S := fun i hi => by
  obtain ⟨x, hx, rfl⟩ := Finset.mem_map.mp hi
  exact h hx

/-- A store whose payload is what the stored rectangle reads off `G` leaves the rectangle at `G`. -/
theorem step_store (c : Dev nD) {cs : CoreSpace} {s : Shape} {e : EltTy} (M : Memref sig .tc cs s e) {r : Rect s} {w : r.shape.Idx → Elt F e}
    {hx : (M.access r).Stores (Finset.univ : Finset r.shape.Idx)} {hm : (Finset.univ : Finset r.shape.Idx) = Finset.univ ∨ ∀ a, r.stride a = 1}
    {α : Type} {kont : PUnit → Prog (TpuEff nD τ sig (Elt F) Λ₀ .tc) α} {Q : α → sProp 𝕄} {S : Finset (Idx ((M.access r).loc (c : Thread nD τ)))}
    {f : Buf (Elt F) ((M.access r).loc (c : Thread nD τ))} (G : Buf (Elt F) ((M.access r).loc (c : Thread nD τ)))
    (hS : (M.access r).set = S) (hG : (M.access r).read (Elt F) G = w) :
    ((M.access r).loc (c : Thread nD τ) ↦[S]{fullShare} f)
      ⊢ iprop((((M.access r).loc (c : Thread nD τ) ↦[S]{fullShare} G) -∗ WP c (kont ⟨⟩) Q)
        -∗ WP c (.op (.store M r w Finset.univ hx hm) kont) Q) := by
  have h := wp_store (Γ := .empty) (defs := defs₀ (F := F)) 𝒱₀ (c : Thread nD τ) none Set.univ (m := M) (r := r) (w := w) (Mk := Finset.univ) (hx := hx) (hm := hm) (k := kont) (Q := Q) (S := S) (f := f)
    (by rw [View.setOn_univ, hS])
  have e : ((M.access r).loc (c : Thread nD τ) ↦[S]{fullShare} ((M.access r).write (Elt F) f w Finset.univ) : sProp 𝕄)
      = ((M.access r).loc (c : Thread nD τ) ↦[S]{fullShare} G) := pointsTo_congr fun i hi => by
    subst hG
    rw [View.write_read_eq_piecewise, View.setOn_univ, hS]
    exact Finset.piecewise_eq_of_mem _ _ _ hi
  rwa [e] at h

/-- What a landed piece holds: it was sent off contents whose piece reads as `G`'s does. -/
theorem landed {c : Dev nD} {sp sp' : Space} {s : Shape} {e : EltTy} (src : Memref sig .tc sp s e) (dst : Memref sig .tc sp' s e)
    {fs : src.view.ty.Contents (Elt F)} (fd G : Buf (Elt F) (dst.view.loc (c : Thread nD τ))) {S : Finset (Idx (dst.view.loc (c : Thread nD τ)))} (hS : dst.view.set = S)
    (h : src.view.read (Elt F) fs = dst.view.read (Elt F) G) :
    (dst.view.loc (c : Thread nD τ) ↦[dst.view.set]{fullShare} (dst.view.write (Elt F) fd (src.view.read (Elt F) fs) Finset.univ) : sProp 𝕄)
      = (dst.view.loc (c : Thread nD τ) ↦[S]{fullShare} G) := by
  subst hS
  refine pointsTo_congr fun i hi => ?_
  rw [h, View.write_read_eq_piecewise]
  exact Finset.piecewise_eq_of_mem _ _ _ hi

/-! ## What the rectangles read off the contents -/

section Reads
variable (c : Dev nD)

theorem half_div {b : Fin 2} {i j : ℕ} (h : i = 512 * b.val + 1 * j) (hj : j < 512) : i / 512 = b.val := by omega
theorem half_mod {b : Fin 2} {i j : ℕ} (h : i = 512 * b.val + 1 * j) (hj : j < 512) : i % 512 = j := by omega

/-- A contents given by its two halves reads as the half. -/
theorem read_half {n : ℕ} {α : Type} (w : ℕ → (⟨2, ![512, n]⟩ : Shape).Idx → α) (b : Fin 2) (inb) (j : (⟨2, ![512, n]⟩ : Shape).Idx)
    (i : (⟨2, ![1024, n]⟩ : Shape).Idx) (hi : i = (Rect.unit (s := ⟨2, ![1024, n]⟩) ![512 * b.val, 0] (⟨2, ![512, n]⟩ : Shape).size inb).emb j) :
    w ((i 0).val / 512) (ix2 (⟨(i 0).val % 512, Nat.mod_lt _ (by decide)⟩ : Fin 512) (i 1)) = w b.val j := by
  have h0 : (i 0).val = 512 * b.val + 1 * (j 0).val := by rw [hi]; rfl
  have h1 : (i 1).val = 0 + 1 * (j 1).val := by rw [hi]; rfl
  rw [half_div h0 (j 0).isLt]
  congr 1
  rw [eq_ix2 j]
  congr 1
  · exact Fin.ext (half_mod h0 (j 0).isLt)
  · exact Fin.ext (by rw [h1]; omega)

theorem read_Qs (b : Fin 2) : rd cc0_scratch7 (rQb b) (Qs m c) = Qb m c b.val := funext fun j => read_half (Qb m c) b _ j _ rfl
theorem read_Rs (b : Fin 2) : rd cc0_scratch8 (rCb b) (Rs m c) = Rb m c b.val := funext fun j => read_half (Rb m c) b _ j _ rfl
theorem read_Ks (b : Fin 2) : rd cc0_scratch9 (rKb b) (Ks m c) = Kb m c b.val := funext fun j => read_half (Kb m c) b _ j _ rfl
theorem read_halves (w : ℕ → FVec F S512x2048 .f32) (b : Fin 2) : rd cc0_stg5_0 (rTb b) (halves w) = w b.val := funext fun j => read_half w b _ j _ rfl

theorem read_CS : rd cc0_scratch1 rC (CS m c) = CS m c := funext fun j => by
  show CS m c (rC.emb j) = CS m c j
  congr 1; funext a; apply Fin.ext
  match a with
  | ⟨0, _⟩ => show 0 + 1 * _ = _; omega
  | ⟨1, _⟩ => show 0 + 1 * _ = _; omega
theorem read_T0 : rd cc0_stg5_0 rT (T0 m c) = T0 m c := funext fun j => by
  show T0 m c (rT.emb j) = T0 m c j
  congr 1; funext a; apply Fin.ext
  match a with
  | ⟨0, _⟩ => show 0 + 1 * _ = _; omega
  | ⟨1, _⟩ => show 0 + 1 * _ = _; omega

/-- An index of a one-row slab. -/
theorem slab_eq {n1 n2 : ℕ} (j : (⟨3, ![1, n1, n2]⟩ : Shape).Idx) (a : Fin n1) (b : Fin n2) (ha : a.val = (j 1).val) (hb : b.val = (j 2).val) :
    ix3 (0 : Fin 1) a b = j := by
  rw [eq_ix3 j]
  congr 1
  · exact Subsingleton.elim _ _
  · exact Fin.ext ha
  · exact Fin.ext hb

theorem read_WS0 : rd cc0_scratch3 (rW 0) (WS m c) = k0_pay4 (rd cc0_stg2_0 (rW5 c) (WUK m c)) := funext fun j => by
  show WS m c ((rW 0).emb j) = _
  unfold WS
  rw [if_pos (by show 0 + 1 * (j 0).val = 0; have := (j 0).isLt; change (j 0).val < 1 at this; omega)]
  congr 1
  exact slab_eq j _ _ (by show 0 + 1 * _ = _; omega) (by show 0 + 1 * _ = _; omega)
theorem read_WS1 : rd cc0_scratch3 (rW 1) (WS m c) = k0_pay5 (rd cc0_stg3_0 (rW5 c) (WUV m c)) := funext fun j => by
  show WS m c ((rW 1).emb j) = _
  unfold WS
  rw [if_neg (by show ¬ 1 + 1 * (j 0).val = 0; omega)]
  congr 1
  exact slab_eq j _ _ (by show 0 + 1 * _ = _; omega) (by show 0 + 1 * _ = _; omega)

theorem read_KV (j b : Fin 2) : rd cc0_scratch0 (rV j b) (KV m c) = KVb m c j.val b.val := funext fun x => by
  show KV m c ((rV j b).emb x) = _
  have e0 : ((rV j b).emb x 0).val = j.val := by show j.val + 1 * (x 0).val = _; have := (x 0).isLt; change (x 0).val < 1 at this; omega
  have e1 : ((rV j b).emb x 1).val = 512 * b.val + 1 * (x 1).val := rfl
  have e2 : ((rV j b).emb x 2).val = (x 2).val := by show 0 + 1 * (x 2).val = _; omega
  unfold KV
  rw [e0, half_div e1 (x 1).isLt]
  congr 1
  exact slab_eq x _ _ (half_mod e1 (x 1).isLt) e2

theorem read_OB (b : Fin 2) (h : Fin 4) : rd cc0_scratch10 (rOh 0 b h) (OB m c) = Ob m c b.val h.val := funext fun x => by
  show OB m c ((rOh 0 b h).emb x) = _
  have e0 : ((rOh 0 b h).emb x 0).val = 0 := by show 0 + 1 * (x 0).val = _; have := (x 0).isLt; change (x 0).val < 1 at this; omega
  have e1 : ((rOh 0 b h).emb x 1).val = 512 * b.val + 1 * (x 1).val := rfl
  have e2 : ((rOh 0 b h).emb x 2).val = 128 * h.val + 1 * (x 2).val := rfl
  have h2 : (x 2).val < 128 := (x 2).isLt
  unfold OB
  rw [e0, half_div e1 (x 1).isLt, show ((rOh 0 b h).emb x 2).val / 128 = h.val by omega, show src c 0 = c from nb_four c]
  congr 1
  exact slab_eq x _ _ (half_mod e1 (x 1).isLt) (by show _ % 128 = _; omega)

theorem read_WBF (j : Fin 2) (k : Fin 4) : rd cc0_scratch12 (rS j) (WBF m c k) = WBc m c k := funext fun x => by
  show WBF m c k ((rS j).emb x) = _
  unfold WBF
  congr 1
  exact slab_eq x _ _ (by show 0 + 1 * _ = _; omega) (by show 0 + 1 * _ = _; omega)

/-- The attention's piece as the neighbour's place `k` holds it. -/
theorem OB_nb (k : Fin 4) (b : Fin 2) (x : S1x512x512.Idx) : OB m c ((rO 0 b).emb x) = OB m (nb k.val c) ((rO k b).emb x) := by
  have e0 : ((rO 0 b).emb x 0).val = 0 := by show 0 + 1 * (x 0).val = _; have := (x 0).isLt; change (x 0).val < 1 at this; omega
  have e0' : ((rO k b).emb x 0).val = k.val := by show k.val + 1 * (x 0).val = _; have := (x 0).isLt; change (x 0).val < 1 at this; omega
  have es : src (nb k.val c) k.val = src c 0 := by clear e0 e0'; unfold src; revert k c; decide
  unfold OB
  rw [e0, e0', es]
  rfl

end Reads

/-! ## Cutting buffers into pieces -/

theorem rows_cut {n : ℕ} (inb0 inb1) :
    (Finset.univ : Finset (⟨2, ![1024, n]⟩ : Shape).Idx)
      = (Rect.unit (s := ⟨2, ![1024, n]⟩) ![512 * ((0 : Fin 2) : ℕ), 0] (⟨2, ![512, n]⟩ : Shape).size inb0).set
        ∪ (Rect.unit (s := ⟨2, ![1024, n]⟩) ![512 * ((1 : Fin 2) : ℕ), 0] (⟨2, ![512, n]⟩ : Shape).size inb1).set := by
  ext i
  simp only [Finset.mem_univ, Finset.mem_union, Rect.mem_set_unit, true_iff]
  have h0 : (i 0).val < 1024 := (i 0).isLt
  have h1 : (i 1).val < n := (i 1).isLt
  by_cases h : (i 0).val < 512
  · left; intro a
    match a with
    | ⟨0, _⟩ => exact ⟨Nat.zero_le _, by show _ < 0 + 512; exact Nat.lt_of_lt_of_le h (by omega)⟩
    | ⟨1, _⟩ => exact ⟨Nat.zero_le _, by show _ < 0 + n; rw [Nat.zero_add]; exact h1⟩
  · right; intro a
    match a with
    | ⟨0, _⟩ => exact ⟨Nat.not_lt.mp h, by show _ < 512 + 512; exact h0⟩
    | ⟨1, _⟩ => exact ⟨Nat.zero_le _, by show _ < 0 + n; rw [Nat.zero_add]; exact h1⟩

theorem slabs_cut {n1 n2 : ℕ} (inb0 inb1) :
    (Finset.univ : Finset (⟨3, ![2, n1, n2]⟩ : Shape).Idx)
      = (Rect.unit (s := ⟨3, ![2, n1, n2]⟩) ![((0 : Fin 2) : ℕ), 0, 0] (⟨3, ![1, n1, n2]⟩ : Shape).size inb0).set
        ∪ (Rect.unit (s := ⟨3, ![2, n1, n2]⟩) ![((1 : Fin 2) : ℕ), 0, 0] (⟨3, ![1, n1, n2]⟩ : Shape).size inb1).set := by
  ext i
  simp only [Finset.mem_univ, Finset.mem_union, Rect.mem_set_unit, true_iff]
  have h0 : (i 0).val < 2 := (i 0).isLt
  have h1 : (i 1).val < n1 := (i 1).isLt
  have h2 : (i 2).val < n2 := (i 2).isLt
  by_cases h : (i 0).val < 1
  · left; intro a
    match a with
    | ⟨0, _⟩ => exact ⟨Nat.zero_le _, by show _ < 0 + 1; exact h⟩
    | ⟨1, _⟩ => exact ⟨Nat.zero_le _, by show _ < 0 + n1; rw [Nat.zero_add]; exact h1⟩
    | ⟨2, _⟩ => exact ⟨Nat.zero_le _, by show _ < 0 + n2; rw [Nat.zero_add]; exact h2⟩
  · right; intro a
    match a with
    | ⟨0, _⟩ => exact ⟨Nat.not_lt.mp h, by show _ < 1 + 1; exact h0⟩
    | ⟨1, _⟩ => exact ⟨Nat.zero_le _, by show _ < 0 + n1; rw [Nat.zero_add]; exact h1⟩
    | ⟨2, _⟩ => exact ⟨Nat.zero_le _, by show _ < 0 + n2; rw [Nat.zero_add]; exact h2⟩

theorem cut_C : (Finset.univ : Finset S1024x128.Idx) = (rCb 0).set ∪ (rCb 1).set := rows_cut _ _
theorem cut_Q : (Finset.univ : Finset S1024x512.Idx) = (rQb 0).set ∪ (rQb 1).set := rows_cut _ _
theorem cut_K : (Finset.univ : Finset S1024x32.Idx) = (rKb 0).set ∪ (rKb 1).set := rows_cut _ _
theorem cut_T : (Finset.univ : Finset S1024x2048.Idx) = (rTb 0).set ∪ (rTb 1).set := rows_cut _ _
theorem cut_W : (Finset.univ : Finset S2x128x512.Idx) = (rW 0).set ∪ (rW 1).set := slabs_cut _ _
theorem cut_S : (Finset.univ : Finset S2x512x2048.Idx) = (rS 0).set ∪ (rS 1).set := slabs_cut _ _
theorem dis_C : Disjoint (rCb 0).set (rCb 1).set := Rect.unit_disjoint 0 (by decide)
theorem dis_Q : Disjoint (rQb 0).set (rQb 1).set := Rect.unit_disjoint 0 (by decide)
theorem dis_K : Disjoint (rKb 0).set (rKb 1).set := Rect.unit_disjoint 0 (by decide)
theorem dis_T : Disjoint (rTb 0).set (rTb 1).set := Rect.unit_disjoint 0 (by decide)
theorem dis_W : Disjoint (rW 0).set (rW 1).set := Rect.unit_disjoint 0 (by decide)
theorem dis_S : Disjoint (rS 0).set (rS 1).set := Rect.unit_disjoint 0 (by decide)

/-- Four of the buffer's slabs and halves. -/
theorem cut_V : (Finset.univ : Finset S2x1024x512.Idx) = (Finset.univ : Finset (Fin 2 × Fin 2)).biUnion fun p => (rV p.1 p.2).set := by
  ext i
  simp only [Finset.mem_univ, Finset.mem_biUnion, Rect.mem_set_unit, true_iff, true_and]
  have h0 : (i 0).val < 2 := (i 0).isLt
  have h1 : (i 1).val < 1024 := (i 1).isLt
  have h2 : (i 2).val < 512 := (i 2).isLt
  refine ⟨(⟨(i 0).val, h0⟩, ⟨(i 1).val / 512, by omega⟩), fun a => ?_⟩
  match a with
  | ⟨0, _⟩ => exact ⟨le_rfl, Nat.lt_succ_self _⟩
  | ⟨1, _⟩ => exact ⟨by show 512 * ((i 1).val / 512) ≤ (i 1).val; omega, by show (i 1).val < 512 * ((i 1).val / 512) + 512; omega⟩
  | ⟨2, _⟩ => exact ⟨Nat.zero_le _, by show _ < 0 + 512; exact Nat.lt_of_lt_of_le h2 (by omega)⟩
theorem dis_V : ∀ p ∈ (Finset.univ : Finset (Fin 2 × Fin 2)), ∀ p' ∈ (Finset.univ : Finset (Fin 2 × Fin 2)), p ≠ p' → Disjoint (rV p.1 p.2).set (rV p'.1 p'.2).set := by
  rintro ⟨j, b⟩ - ⟨j', b'⟩ - h
  by_cases hj : j = j'
  · subst hj
    refine Rect.unit_disjoint 1 ?_
    have hb : b.val ≠ b'.val := fun e => h (by rw [Fin.ext e])
    show 512 * b.val + 512 ≤ 512 * b'.val ∨ 512 * b'.val + 512 ≤ 512 * b.val
    omega
  · refine Rect.unit_disjoint 0 ?_
    have hb : j.val ≠ j'.val := fun e => hj (Fin.ext e)
    show j.val + 1 ≤ j'.val ∨ j'.val + 1 ≤ j.val
    omega

theorem cut_O : (Finset.univ : Finset S4x1024x512.Idx) = (Finset.univ : Finset (Fin 4 × Fin 2)).biUnion fun p => (rO p.1 p.2).set := by
  ext i
  simp only [Finset.mem_univ, Finset.mem_biUnion, Rect.mem_set_unit, true_iff, true_and]
  have h0 : (i 0).val < 4 := (i 0).isLt
  have h1 : (i 1).val < 1024 := (i 1).isLt
  have h2 : (i 2).val < 512 := (i 2).isLt
  refine ⟨(⟨(i 0).val, h0⟩, ⟨(i 1).val / 512, by omega⟩), fun a => ?_⟩
  match a with
  | ⟨0, _⟩ => exact ⟨le_rfl, Nat.lt_succ_self _⟩
  | ⟨1, _⟩ => exact ⟨by show 512 * ((i 1).val / 512) ≤ (i 1).val; omega, by show (i 1).val < 512 * ((i 1).val / 512) + 512; omega⟩
  | ⟨2, _⟩ => exact ⟨Nat.zero_le _, by show _ < 0 + 512; exact Nat.lt_of_lt_of_le h2 (by omega)⟩
theorem dis_O : ∀ p ∈ (Finset.univ : Finset (Fin 4 × Fin 2)), ∀ p' ∈ (Finset.univ : Finset (Fin 4 × Fin 2)), p ≠ p' → Disjoint (rO p.1 p.2).set (rO p'.1 p'.2).set := by
  rintro ⟨j, b⟩ - ⟨j', b'⟩ - h
  by_cases hj : j = j'
  · subst hj
    refine Rect.unit_disjoint 1 ?_
    have hb : b.val ≠ b'.val := fun e => h (by rw [Fin.ext e])
    show 512 * b.val + 512 ≤ 512 * b'.val ∨ 512 * b'.val + 512 ≤ 512 * b.val
    omega
  · refine Rect.unit_disjoint 0 ?_
    have hb : j.val ≠ j'.val := fun e => hj (Fin.ext e)
    show j.val + 1 ≤ j'.val ∨ j'.val + 1 ≤ j.val
    omega

/-- A half of the own attention, head by head. -/
theorem cut_Oh (b : Fin 2) : (rO 0 b).set = (Finset.univ : Finset (Fin 4)).biUnion fun h => (rOh 0 b h).set := by
  ext i
  simp only [Finset.mem_univ, Finset.mem_biUnion, Rect.mem_set_unit, true_and]
  have h2 : (i 2).val < 512 := (i 2).isLt
  constructor
  · intro hi
    refine ⟨⟨(i 2).val / 128, by omega⟩, fun a => ?_⟩
    match a with
    | ⟨0, _⟩ => exact hi 0
    | ⟨1, _⟩ => exact hi 1
    | ⟨2, _⟩ => exact ⟨by show 128 * ((i 2).val / 128) ≤ (i 2).val; omega, by show (i 2).val < 128 * ((i 2).val / 128) + 128; omega⟩
  · rintro ⟨h, hi⟩ a
    match a with
    | ⟨0, _⟩ => exact hi 0
    | ⟨1, _⟩ => exact hi 1
    | ⟨2, _⟩ => exact ⟨Nat.zero_le _, by show _ < 0 + 512; exact Nat.lt_of_lt_of_le h2 (by omega)⟩
theorem dis_Oh (b : Fin 2) : ∀ h ∈ (Finset.univ : Finset (Fin 4)), ∀ h' ∈ (Finset.univ : Finset (Fin 4)), h ≠ h' → Disjoint (rOh 0 b h).set (rOh 0 b h').set := by
  rintro h - h' - hne
  refine Rect.unit_disjoint 2 ?_
  have hb : h.val ≠ h'.val := fun e => hne (Fin.ext e)
  show 128 * h.val + 128 ≤ 128 * h'.val ∨ 128 * h'.val + 128 ≤ 128 * h.val
  omega

theorem cut_O0 : rO0.set = (rO 0 0).set ∪ (rO 0 1).set := by
  ext i
  simp only [Finset.mem_union, Rect.mem_set_unit]
  have h1 : (i 1).val < 1024 := (i 1).isLt
  constructor
  · intro hi
    by_cases h : (i 1).val < 512
    · left; intro a
      match a with
      | ⟨0, _⟩ => exact hi 0
      | ⟨1, _⟩ => exact ⟨Nat.zero_le _, by show _ < 0 + 512; exact Nat.lt_of_lt_of_le h (by omega)⟩
      | ⟨2, _⟩ => exact hi 2
    · right; intro a
      match a with
      | ⟨0, _⟩ => exact hi 0
      | ⟨1, _⟩ => exact ⟨Nat.not_lt.mp h, by show _ < 512 + 512; exact h1⟩
      | ⟨2, _⟩ => exact hi 2
  · rintro (hi | hi) a
    · match a with
      | ⟨0, _⟩ => exact hi 0
      | ⟨1, _⟩ => exact ⟨Nat.zero_le _, by show _ < 0 + 1024; exact Nat.lt_of_lt_of_le h1 (by omega)⟩
      | ⟨2, _⟩ => exact hi 2
    · match a with
      | ⟨0, _⟩ => exact hi 0
      | ⟨1, _⟩ => exact ⟨Nat.zero_le _, by show _ < 0 + 1024; exact Nat.lt_of_lt_of_le h1 (by omega)⟩
      | ⟨2, _⟩ => exact hi 2

section Cuts
variable {c : Dev nD} {b : Ref sig .tc} {q : PosShare TreeShare} {f : Buf (Elt F) ((c : Thread nD τ).loc b)}
  {S A B : Finset (Idx ((c : Thread nD τ).loc b))}

omit [FloatOps F] in
theorem cut2 (h : S = A ∪ B) (hd : Disjoint A B) : ptq (F := F) q c b S f ⊢ iprop(ptq q c b A f ∗ ptq q c b B f) := by
  subst h; exact (pointsTo_union hd).1
omit [FloatOps F] in
theorem join2 (h : S = A ∪ B) (hd : Disjoint A B) : iprop(ptq (F := F) q c b A f ∗ ptq q c b B f) ⊢ ptq q c b S f := by
  subst h; exact (pointsTo_union hd).2
omit [FloatOps F] in
theorem cut2e (h : S = A ∪ B) (hd : Disjoint A B) :
    iprop(∃ f, ptq (F := F) q c b S f) ⊢ iprop((∃ f, ptq (F := F) q c b A f) ∗ (∃ f, ptq (F := F) q c b B f)) := by
  iintro ⟨%f, H⟩
  ihave H := (cut2 h hd) $$ H
  icases H with ⟨H1, H2⟩
  isplitl [H1]
  · iexists f; iexact H1
  · iexists f; iexact H2
omit [FloatOps F] in
theorem join2e (h : S = A ∪ B) (hd : Disjoint A B) {f g : Buf (Elt F) ((c : Thread nD τ).loc b)} :
    iprop(ptq (F := F) q c b A f ∗ ptq q c b B g) ⊢ iprop(∃ f, ptq (F := F) q c b S f) := by
  subst h
  iintro H
  iexists _
  iapply (pointsTo_join hd) $$ H
omit [FloatOps F] in
/-- A subset set aside, the rest kept. -/
theorem cutS (h : A ⊆ S) : ptq (F := F) q c b S f ⊢ iprop(ptq q c b A f ∗ ptq q c b (S \ A) f) := (pointsTo_split_subset h).1
omit [FloatOps F] in
theorem joinS (h : A ⊆ S) : iprop(ptq (F := F) q c b A f ∗ ptq q c b (S \ A) f) ⊢ ptq q c b S f := (pointsTo_split_subset h).2
omit [FloatOps F] in
theorem cutq : ptq (F := F) q c b S f ⊢ iprop(ptq q.left c b S f ∗ ptq q.right c b S f) := (pointsTo_share (PosShare.mem_left_op_right q)).1
omit [FloatOps F] in
theorem joinq : iprop(ptq (F := F) q.left c b S f ∗ ptq q.right c b S f) ⊢ ptq q c b S f := (pointsTo_share (PosShare.mem_left_op_right q)).2
end Cuts

end Cert.KProof

end
-- ==== Proof.Dma.lean ====
/-
# 01_k — the transfers, each with what it takes and what it leaves
-/
module

public import proofs.«01_k».proof.Proof.Pieces

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

universe u

/-- The body's parts at the call's own windows, buffers and semaphores. -/
abbrev onW {β : Sort u} (k : ∀ (arg0 : Memref sig .tc .vmem S2x512x2048 .f32) (harg0 : arg0.IsWhole) (arg1 : Memref sig .tc .vmem S2048x128 .f32) (harg1 : arg1.IsWhole) (arg2 : Memref sig .tc .vmem S128x2048 .f32) (harg2 : arg2.IsWhole) (arg3 : Memref sig .tc .vmem S128x2048 .f32) (harg3 : arg3.IsWhole) (arg4 : Memref sig .tc .hbm S2048x2048 .f32) (harg4 : arg4.IsWhole) (arg5 : Memref sig .tc .hbm S2048x512 .f32) (harg5 : arg5.IsWhole) (arg6 : Memref sig .tc .vmem S2048x32 .f32) (harg6 : arg6.IsWhole) (arg7 : Memref sig .tc .hbm S2048x2048 .f32) (harg7 : arg7.IsWhole) (arg8 : Memref sig .tc .vmem S1024x2048 .f32) (harg8 : arg8.IsWhole) (arg9 : Memref sig .tc .vmem S2x1024x512 .bf16) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S2x128x512 .bf16) (harg12 : arg12.IsWhole) (arg13 : Memref sig .tc .vmem S2x128x512 .bf16) (harg13 : arg13.IsWhole) (arg14 : Memref sig .tc .vmem S2048x512 .f32) (harg14 : arg14.IsWhole) (arg15 : Memref sig .tc .vmem S2048x128 .f32) (harg15 : arg15.IsWhole) (arg16 : Memref sig .tc .vmem S1024x512 .bf16) (harg16 : arg16.IsWhole) (arg17 : Memref sig .tc .vmem S1024x128 .bf16) (harg17 : arg17.IsWhole) (arg18 : Memref sig .tc .vmem S1024x32 .bf16) (harg18 : arg18.IsWhole) (arg19 : Memref sig .tc .vmem S4x1024x512 .bf16) (harg19 : arg19.IsWhole) (arg20 : Memref sig .tc .vmem S2x512x2048 .f32) (harg20 : arg20.IsWhole) (arg21 : Memref sig .tc .vmem S2x512x2048 .bf16) (harg21 : arg21.IsWhole) (arg22 : DmaSems sig S4) (arg23 : DmaSems sig S2) (arg24 : DmaSems sig S6) (arg25 : DmaSems sig S6) (arg26 : DmaSems sig S2) (arg27 : DmaSems sig S2), β) : β :=
  k (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole main_arg7) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18

/-! ## Pieces as the slices a transfer names -/

section Forms
variable {c : Dev nD} {q : PosShare TreeShare} {b : Ref sig .tc} {f : b.ty.Contents (Elt F)}

omit [FloatOps F] in
theorem pt_slice (r : Rect b.ty.shape) :
    ptq (F := F) q c b r.set f = (((View.whole b).slice r).loc (c : Thread nD τ) ↦[((View.whole b).slice r).set]{q} f) := by
  rw [View.set_slice_whole]
omit [FloatOps F] in
theorem pt_whole : ptq (F := F) q c b Finset.univ f = ((View.whole b).loc (c : Thread nD τ) ↦[(View.whole b).set]{q} f) := by
  rw [View.set_whole]
omit [FloatOps F] in
theorem set_squeeze (r : Rect b.ty.shape) (s : Shape) (h : s.numel = r.shape.numel) : (((View.whole b).slice r).reshape s h).set = r.set := by
  rw [View.set_reshape, View.set_slice_whole]
omit [FloatOps F] in
theorem pt_squeeze (r : Rect b.ty.shape) (s : Shape) (h : s.numel = r.shape.numel) :
    ptq (F := F) q c b r.set f = ((((View.whole b).slice r).reshape s h).loc (c : Thread nD τ) ↦[(((View.whole b).slice r).reshape s h).set]{q} f) := by
  rw [View.set_reshape, View.set_slice_whole]
end Forms

theorem REC_r0 (c : Dev nD) (k : Fin 23) : REC (F := F) m K ⊢ reached ER (kcell (c, k)) 0 := by
  iintro #HR
  ihave #H := (REC_cell m K (c, k)) $$ HR
  icases H with ⟨-, #H⟩
  iexact H

/-! ## The slices -/

abbrev mO (k : Fin 4) (b : Fin 2) : Memref sig .tc .vmem S512x512 .bf16 :=
  ((Memref.whole cc0_scratch10).slice (rO k b) (fun _ => rfl)).squeeze S512x512 squeezes_S1x512x512_S512x512
abbrev mS (j : Fin 2) : Memref sig .tc .vmem S512x2048 .f32 :=
  ((Memref.whole cc0_scratch11).slice (rS j) (fun _ => rfl)).squeeze S512x2048 squeezes_S1x512x2048_S512x2048
abbrev mA4 (c : Dev nD) : Memref sig .tc .hbm S2048x512 .f32 := (Memref.whole main_arg4).slice (rA4 c) (fun _ => rfl)
abbrev mA5 (c : Dev nD) : Memref sig .tc .hbm S2048x128 .f32 := (Memref.whole main_arg5).slice (rA5 c) (fun _ => rfl)
abbrev mA7 (c : Dev nD) (k : Fin 4) : Memref sig .tc .hbm S512x2048 .f32 := (Memref.whole main_arg7).slice (rA7 c k) (fun _ => rfl)
abbrev m1 (b : Fin 2) : Memref sig .tc .vmem S512x128 .bf16 := (Memref.whole cc0_scratch1).slice (rCb b) (fun _ => rfl)
abbrev m2 (b : Fin 2) : Memref sig .tc .vmem S512x128 .bf16 := (Memref.whole cc0_scratch2).slice (rCb b) (fun _ => rfl)
abbrev w3 : Memref sig .tc .vmem S2x128x512 .bf16 := Memref.whole cc0_scratch3
abbrev w4 : Memref sig .tc .vmem S2x128x512 .bf16 := Memref.whole cc0_scratch4
abbrev w5 : Memref sig .tc .vmem S2048x512 .f32 := Memref.whole cc0_scratch5
abbrev w6 : Memref sig .tc .vmem S2048x128 .f32 := Memref.whole cc0_scratch6

/-- The chunk of the output weight, as its slot of the buffer holds it. -/
theorem read_slot (c : Dev nD) (k : Fin 4) (j : Fin 2) :
    (mA7 c k).view.read (Elt F) (m ((c : Thread nD τ).loc main_arg7)) = (mS j).view.read (Elt F) (WOB m c k) := by
  funext x
  obtain ⟨a, b, rfl⟩ : ∃ a b, x = ix2 a b := ⟨x 0, x 1, eq_ix2 x⟩
  have h := ValueIdx.reshapeEquiv_ix2_1ab (a := 512) (b := 2048) squeezes_S1x512x2048_S512x2048.numel_eq a b
  show WOc m c k (ix2 a b) = WOB m c k ((rS j).emb (Shape.reshapeEquiv squeezes_S1x512x2048_S512x2048.numel_eq (ix2 a b)))
  rw [show Shape.reshapeEquiv squeezes_S1x512x2048_S512x2048.numel_eq (ix2 a b) = ix3 (⟨0, Nat.one_pos⟩ : Fin 1) a b from h]
  unfold WOB
  congr 1
  congr 1
  · exact Fin.ext (by show a.val = 0 + 1 * a.val; omega)
  · exact Fin.ext (by show b.val = 0 + 1 * b.val; omega)

theorem copy_wq (c : Dev nD) {sem : SemLoc sig} {hsrc : (mA4 c).view.WordExact} {hdst : (w5).view.WordExact} {hsem : DmaTarget.Typed (nD := nD) (τ := τ) .hbm sem (.here (w5) : DmaTarget nD τ sig .tc .vmem S2048x512 .f32)}
    {α : Type} {kont : PUnit → Prog (TpuEff nD τ sig (Elt F) Λ₀ .tc) α} {Q : α → sProp 𝕄} (hs : sem = csem 21) :
    REC (F := F) m K ⊢ iprop(ptq fullShare c main_arg4 (rA4 c).set (m ((c : Thread nD τ).loc main_arg4)) -∗ (∃ f, pt c cc0_scratch5 Finset.univ f) -∗ tkr c 21 0 -∗ reached ER (kcell (c, 21)) 0
      -∗ (cr c 21 -∗ WP c (kont ⟨⟩) Q)
      -∗ WP c (.op (.enqueueDma (mA4 c) (.here (w5)) sem hsrc hdst hsem) kont) Q) :=
  step_copy m K c 21 0 (src := mA4 c) (dst := w5) (q := fullShare) (fs := m ((c : Thread nD τ).loc main_arg4)) hs (by subst hs; rfl) (by decide)
    (.of_eq (pt_slice (b := main_arg4) (rA4 c))) (exists_mono fun f => .of_eq (pt_whole (b := cc0_scratch5)))
    (fun fd => sep_mono (.of_eq (landed (c := c) (mA4 c) (w5) fd (WQ m c) (View.set_whole _) rfl)) (.of_eq (pt_slice (b := main_arg4) (rA4 c)).symm))

theorem copy_wqr (c : Dev nD) {sem : SemLoc sig} {hsrc : (mA5 c).view.WordExact} {hdst : (w6).view.WordExact} {hsem : DmaTarget.Typed (nD := nD) (τ := τ) .hbm sem (.here (w6) : DmaTarget nD τ sig .tc .vmem S2048x128 .f32)}
    {α : Type} {kont : PUnit → Prog (TpuEff nD τ sig (Elt F) Λ₀ .tc) α} {Q : α → sProp 𝕄} (hs : sem = csem 22) :
    REC (F := F) m K ⊢ iprop(ptq fullShare c main_arg5 (rA5 c).set (m ((c : Thread nD τ).loc main_arg5)) -∗ (∃ f, pt c cc0_scratch6 Finset.univ f) -∗ tkr c 22 0 -∗ reached ER (kcell (c, 22)) 0
      -∗ (cr c 22 -∗ WP c (kont ⟨⟩) Q)
      -∗ WP c (.op (.enqueueDma (mA5 c) (.here (w6)) sem hsrc hdst hsem) kont) Q) :=
  step_copy m K c 22 0 (src := mA5 c) (dst := w6) (q := fullShare) (fs := m ((c : Thread nD τ).loc main_arg5)) hs (by subst hs; rfl) (by decide)
    (.of_eq (pt_slice (b := main_arg5) (rA5 c))) (exists_mono fun f => .of_eq (pt_whole (b := cc0_scratch6)))
    (fun fd => sep_mono (.of_eq (landed (c := c) (mA5 c) (w6) fd (WQR m c) (View.set_whole _) rfl)) (.of_eq (pt_slice (b := main_arg5) (rA5 c)).symm))

theorem copy_wo0 (c : Dev nD) {sem : SemLoc sig} {hsrc : (mA7 c 0).view.WordExact} {hdst : (mS 0).view.WordExact} {hsem : DmaTarget.Typed (nD := nD) (τ := τ) .hbm sem (.here (mS 0) : DmaTarget nD τ sig .tc .vmem S512x2048 .f32)}
    {α : Type} {kont : PUnit → Prog (TpuEff nD τ sig (Elt F) Λ₀ .tc) α} {Q : α → sProp 𝕄} (hs : sem = csem 19) :
    REC (F := F) m K ⊢ iprop(ptq fullShare.left c main_arg7 (rA7 c 0).set (m ((c : Thread nD τ).loc main_arg7)) -∗ (∃ f, pt c cc0_scratch11 (rS 0).set f) -∗ tkr c 19 0 -∗ reached ER (kcell (c, 19)) 0
      -∗ (cr c 19 -∗ WP c (kont ⟨⟩) Q)
      -∗ WP c (.op (.enqueueDma (mA7 c 0) (.here (mS 0)) sem hsrc hdst hsem) kont) Q) :=
  step_copy m K c 19 0 (src := mA7 c 0) (dst := mS 0) (q := fullShare.left) (fs := m ((c : Thread nD τ).loc main_arg7)) hs (by subst hs; rfl) (by decide)
    (.of_eq (pt_slice (b := main_arg7) (rA7 c 0))) (exists_mono fun f => .of_eq (pt_squeeze (b := cc0_scratch11) (rS 0) S512x2048 squeezes_S1x512x2048_S512x2048.numel_eq))
    (fun fd => sep_mono (.of_eq (landed (c := c) (mA7 c 0) (mS 0) fd (WOB m c 0) (set_squeeze (b := cc0_scratch11) (rS 0) S512x2048 squeezes_S1x512x2048_S512x2048.numel_eq) (read_slot m c 0 0))) (.of_eq (pt_slice (b := main_arg7) (rA7 c 0)).symm))

theorem copy_wo3 (c : Dev nD) {sem : SemLoc sig} {hsrc : (mA7 c 3).view.WordExact} {hdst : (mS 1).view.WordExact} {hsem : DmaTarget.Typed (nD := nD) (τ := τ) .hbm sem (.here (mS 1) : DmaTarget nD τ sig .tc .vmem S512x2048 .f32)}
    {α : Type} {kont : PUnit → Prog (TpuEff nD τ sig (Elt F) Λ₀ .tc) α} {Q : α → sProp 𝕄} (hs : sem = csem 20) :
    REC (F := F) m K ⊢ iprop(ptq fullShare.right c main_arg7 (rA7 c 3).set (m ((c : Thread nD τ).loc main_arg7)) -∗ (∃ f, pt c cc0_scratch11 (rS 1).set f) -∗ tkr c 20 0 -∗ reached ER (kcell (c, 20)) 0
      -∗ (cr c 20 -∗ WP c (kont ⟨⟩) Q)
      -∗ WP c (.op (.enqueueDma (mA7 c 3) (.here (mS 1)) sem hsrc hdst hsem) kont) Q) :=
  step_copy m K c 20 0 (src := mA7 c 3) (dst := mS 1) (q := fullShare.right) (fs := m ((c : Thread nD τ).loc main_arg7)) hs (by subst hs; rfl) (by decide)
    (.of_eq (pt_slice (b := main_arg7) (rA7 c 3))) (exists_mono fun f => .of_eq (pt_squeeze (b := cc0_scratch11) (rS 1) S512x2048 squeezes_S1x512x2048_S512x2048.numel_eq))
    (fun fd => sep_mono (.of_eq (landed (c := c) (mA7 c 3) (mS 1) fd (WOB m c 3) (set_squeeze (b := cc0_scratch11) (rS 1) S512x2048 squeezes_S1x512x2048_S512x2048.numel_eq) (read_slot m c 3 1))) (.of_eq (pt_slice (b := main_arg7) (rA7 c 3)).symm))

theorem copy_wo2 (c : Dev nD) {sem : SemLoc sig} {hsrc : (mA7 c 2).view.WordExact} {hdst : (mS 0).view.WordExact} {hsem : DmaTarget.Typed (nD := nD) (τ := τ) .hbm sem (.here (mS 0) : DmaTarget nD τ sig .tc .vmem S512x2048 .f32)}
    {α : Type} {kont : PUnit → Prog (TpuEff nD τ sig (Elt F) Λ₀ .tc) α} {Q : α → sProp 𝕄} (hs : sem = csem 19) :
    REC (F := F) m K ⊢ iprop(ptq fullShare.left c main_arg7 (rA7 c 2).set (m ((c : Thread nD τ).loc main_arg7)) -∗ (∃ f, pt c cc0_scratch11 (rS 0).set f) -∗ tkr c 19 1 -∗ reached ER (kcell (c, 19)) 1
      -∗ (cr c 19 -∗ WP c (kont ⟨⟩) Q)
      -∗ WP c (.op (.enqueueDma (mA7 c 2) (.here (mS 0)) sem hsrc hdst hsem) kont) Q) :=
  step_copy m K c 19 1 (src := mA7 c 2) (dst := mS 0) (q := fullShare.left) (fs := m ((c : Thread nD τ).loc main_arg7)) hs (by subst hs; rfl) (by decide)
    (.of_eq (pt_slice (b := main_arg7) (rA7 c 2))) (exists_mono fun f => .of_eq (pt_squeeze (b := cc0_scratch11) (rS 0) S512x2048 squeezes_S1x512x2048_S512x2048.numel_eq))
    (fun fd => sep_mono (.of_eq (landed (c := c) (mA7 c 2) (mS 0) fd (WOB m c 2) (set_squeeze (b := cc0_scratch11) (rS 0) S512x2048 squeezes_S1x512x2048_S512x2048.numel_eq) (read_slot m c 2 0))) (.of_eq (pt_slice (b := main_arg7) (rA7 c 2)).symm))

theorem copy_wo1 (c : Dev nD) {sem : SemLoc sig} {hsrc : (mA7 c 1).view.WordExact} {hdst : (mS 1).view.WordExact} {hsem : DmaTarget.Typed (nD := nD) (τ := τ) .hbm sem (.here (mS 1) : DmaTarget nD τ sig .tc .vmem S512x2048 .f32)}
    {α : Type} {kont : PUnit → Prog (TpuEff nD τ sig (Elt F) Λ₀ .tc) α} {Q : α → sProp 𝕄} (hs : sem = csem 20) :
    REC (F := F) m K ⊢ iprop(ptq fullShare.right c main_arg7 (rA7 c 1).set (m ((c : Thread nD τ).loc main_arg7)) -∗ (∃ f, pt c cc0_scratch11 (rS 1).set f) -∗ tkr c 20 1 -∗ reached ER (kcell (c, 20)) 1
      -∗ (cr c 20 -∗ WP c (kont ⟨⟩) Q)
      -∗ WP c (.op (.enqueueDma (mA7 c 1) (.here (mS 1)) sem hsrc hdst hsem) kont) Q) :=
  step_copy m K c 20 1 (src := mA7 c 1) (dst := mS 1) (q := fullShare.right) (fs := m ((c : Thread nD τ).loc main_arg7)) hs (by subst hs; rfl) (by decide)
    (.of_eq (pt_slice (b := main_arg7) (rA7 c 1))) (exists_mono fun f => .of_eq (pt_squeeze (b := cc0_scratch11) (rS 1) S512x2048 squeezes_S1x512x2048_S512x2048.numel_eq))
    (fun fd => sep_mono (.of_eq (landed (c := c) (mA7 c 1) (mS 1) fd (WOB m c 1) (set_squeeze (b := cc0_scratch11) (rS 1) S512x2048 squeezes_S1x512x2048_S512x2048.numel_eq) (read_slot m c 1 1))) (.of_eq (pt_slice (b := main_arg7) (rA7 c 1)).symm))

theorem send_w (c : Dev nD) {dev : Dev nD} {sS sem : SemLoc sig} {hsc : (w4).view.ref.isScScratch = false} {hsrc : (w3).view.WordExact} {hdst : (w4).view.WordExact}
    {hsem : DmaTarget.Typed .vmem sem (.remote (dev : Thread nD τ) (w4) sS hsc)}
    {α : Type} {kont : PUnit → Prog (TpuEff nD τ sig (Elt F) Λ₀ .tc) α} {Q : α → sProp 𝕄} (hdev : dev = xn c) (hsS : sS = csem 5) (hsR : sem = csem 6) :
    REC (F := F) m K ⊢ iprop(pt c cc0_scratch3 Finset.univ (WS m c) -∗ (∃ f, pt (xn c) cc0_scratch4 Finset.univ f) -∗ tk c 5 -∗ tk (xn c) 6 -∗ ow c (8 + 1)
      -∗ ((cr c 5 ∗ ow c 8) -∗ WP c (kont ⟨⟩) Q)
      -∗ WP c (.op (.enqueueDma (w3) (.remote (dev : Thread nD τ) (w4) sS hsc) sem hsrc hdst hsem) kont) Q) :=
  step_send m K c (xn c) 5 6 8 (src := w3) (dst := w4) (q := fullShare) (fs := WS m c) hdev hsS hsR (by subst hsR; rfl) rfl (by decide) (by decide) rfl
    (.of_eq (pt_whole (b := cc0_scratch3))) (exists_mono fun f => .of_eq (pt_whole (b := cc0_scratch4)))
    (.of_eq (pt_whole (b := cc0_scratch3)).symm) (fun fd => .of_eq (landed (c := xn c) (w3) (w4) fd (WR m (xn c)) (View.set_whole _) (by show WS m c = WS m (xn (xn c)); rw [xn_xn])))

theorem send_x0 (c : Dev nD) {dev : Dev nD} {sS sem : SemLoc sig} {hsc : (m2 0).view.ref.isScScratch = false} {hsrc : (m1 0).view.WordExact} {hdst : (m2 0).view.WordExact}
    {hsem : DmaTarget.Typed .vmem sem (.remote (dev : Thread nD τ) (m2 0) sS hsc)}
    {α : Type} {kont : PUnit → Prog (TpuEff nD τ sig (Elt F) Λ₀ .tc) α} {Q : α → sProp 𝕄} (hdev : dev = xn c) (hsS : sS = csem 1) (hsR : sem = csem 2) :
    REC (F := F) m K ⊢ iprop(ptq fullShare.left c cc0_scratch1 (rCb 0).set (CS m c) -∗ (∃ f, pt (xn c) cc0_scratch2 (rCb 0).set f) -∗ tk c 1 -∗ tk (xn c) 2 -∗ ow c (7 + 1)
      -∗ ((cr c 1 ∗ ow c 7) -∗ WP c (kont ⟨⟩) Q)
      -∗ WP c (.op (.enqueueDma (m1 0) (.remote (dev : Thread nD τ) (m2 0) sS hsc) sem hsrc hdst hsem) kont) Q) :=
  step_send m K c (xn c) 1 2 7 (src := m1 0) (dst := m2 0) (q := fullShare.left) (fs := CS m c) hdev hsS hsR (by subst hsR; rfl) rfl (by decide) (by decide) rfl
    (.of_eq (pt_slice (b := cc0_scratch1) (rCb 0))) (exists_mono fun f => .of_eq (pt_slice (b := cc0_scratch2) (rCb 0)))
    (.of_eq (pt_slice (b := cc0_scratch1) (rCb 0)).symm) (fun fd => .of_eq (landed (c := xn c) (m1 0) (m2 0) fd (CR m (xn c)) (View.set_slice_whole _ _) (by show (m1 0).view.read (Elt F) (CS m c) = (m1 0).view.read (Elt F) (CS m (xn (xn c))); rw [xn_xn])))

theorem send_x1 (c : Dev nD) {dev : Dev nD} {sS sem : SemLoc sig} {hsc : (m2 1).view.ref.isScScratch = false} {hsrc : (m1 1).view.WordExact} {hdst : (m2 1).view.WordExact}
    {hsem : DmaTarget.Typed .vmem sem (.remote (dev : Thread nD τ) (m2 1) sS hsc)}
    {α : Type} {kont : PUnit → Prog (TpuEff nD τ sig (Elt F) Λ₀ .tc) α} {Q : α → sProp 𝕄} (hdev : dev = xn c) (hsS : sS = csem 3) (hsR : sem = csem 4) :
    REC (F := F) m K ⊢ iprop(ptq fullShare.left c cc0_scratch1 (rCb 1).set (CS m c) -∗ (∃ f, pt (xn c) cc0_scratch2 (rCb 1).set f) -∗ tk c 3 -∗ tk (xn c) 4 -∗ ow c (6 + 1)
      -∗ ((cr c 3 ∗ ow c 6) -∗ WP c (kont ⟨⟩) Q)
      -∗ WP c (.op (.enqueueDma (m1 1) (.remote (dev : Thread nD τ) (m2 1) sS hsc) sem hsrc hdst hsem) kont) Q) :=
  step_send m K c (xn c) 3 4 6 (src := m1 1) (dst := m2 1) (q := fullShare.left) (fs := CS m c) hdev hsS hsR (by subst hsR; rfl) rfl (by decide) (by decide) rfl
    (.of_eq (pt_slice (b := cc0_scratch1) (rCb 1))) (exists_mono fun f => .of_eq (pt_slice (b := cc0_scratch2) (rCb 1)))
    (.of_eq (pt_slice (b := cc0_scratch1) (rCb 1)).symm) (fun fd => .of_eq (landed (c := xn c) (m1 1) (m2 1) fd (CR m (xn c)) (View.set_slice_whole _ _) (by show (m1 1).view.read (Elt F) (CS m c) = (m1 1).view.read (Elt F) (CS m (xn (xn c))); rw [xn_xn])))

theorem send_o10 (c : Dev nD) {dev : Dev nD} {sS sem : SemLoc sig} {hsc : (mO 1 0).view.ref.isScScratch = false} {hsrc : (mO 0 0).view.WordExact} {hdst : (mO 1 0).view.WordExact}
    {hsem : DmaTarget.Typed .vmem sem (.remote (dev : Thread nD τ) (mO 1 0) sS hsc)}
    {α : Type} {kont : PUnit → Prog (TpuEff nD τ sig (Elt F) Λ₀ .tc) α} {Q : α → sProp 𝕄} (hdev : dev = nb 1 c) (hsS : sS = csem 7) (hsR : sem = csem 13) :
    REC (F := F) m K ⊢ iprop(ptq (shO 1) c cc0_scratch10 (rO 0 0).set (OB m c) -∗ (∃ f, pt (nb 1 c) cc0_scratch10 (rO 1 0).set f) -∗ tk c 7 -∗ tk (nb 1 c) 13 -∗ ow c (5 + 1)
      -∗ ((cr c 7 ∗ ow c 5) -∗ WP c (kont ⟨⟩) Q)
      -∗ WP c (.op (.enqueueDma (mO 0 0) (.remote (dev : Thread nD τ) (mO 1 0) sS hsc) sem hsrc hdst hsem) kont) Q) :=
  step_send m K c (nb 1 c) 7 13 5 (src := mO 0 0) (dst := mO 1 0) (q := shO 1) (fs := OB m c) hdev hsS hsR (by subst hsR; rfl) rfl (by decide) (by decide) rfl
    (.of_eq (pt_squeeze (b := cc0_scratch10) (rO 0 0) S512x512 squeezes_S1x512x512_S512x512.numel_eq)) (exists_mono fun f => .of_eq (pt_squeeze (b := cc0_scratch10) (rO 1 0) S512x512 squeezes_S1x512x512_S512x512.numel_eq))
    (.of_eq (pt_squeeze (b := cc0_scratch10) (rO 0 0) S512x512 squeezes_S1x512x512_S512x512.numel_eq).symm) (fun fd => .of_eq (landed (c := nb 1 c) (mO 0 0) (mO 1 0) fd (OB m (nb 1 c)) (set_squeeze (b := cc0_scratch10) (rO 1 0) S512x512 squeezes_S1x512x512_S512x512.numel_eq) (funext fun x => OB_nb m c 1 0 _)))

theorem send_o20 (c : Dev nD) {dev : Dev nD} {sS sem : SemLoc sig} {hsc : (mO 2 0).view.ref.isScScratch = false} {hsrc : (mO 0 0).view.WordExact} {hdst : (mO 2 0).view.WordExact}
    {hsem : DmaTarget.Typed .vmem sem (.remote (dev : Thread nD τ) (mO 2 0) sS hsc)}
    {α : Type} {kont : PUnit → Prog (TpuEff nD τ sig (Elt F) Λ₀ .tc) α} {Q : α → sProp 𝕄} (hdev : dev = nb 2 c) (hsS : sS = csem 9) (hsR : sem = csem 15) :
    REC (F := F) m K ⊢ iprop(ptq (shO 2) c cc0_scratch10 (rO 0 0).set (OB m c) -∗ (∃ f, pt (nb 2 c) cc0_scratch10 (rO 2 0).set f) -∗ tk c 9 -∗ tk (nb 2 c) 15 -∗ ow c (4 + 1)
      -∗ ((cr c 9 ∗ ow c 4) -∗ WP c (kont ⟨⟩) Q)
      -∗ WP c (.op (.enqueueDma (mO 0 0) (.remote (dev : Thread nD τ) (mO 2 0) sS hsc) sem hsrc hdst hsem) kont) Q) :=
  step_send m K c (nb 2 c) 9 15 4 (src := mO 0 0) (dst := mO 2 0) (q := shO 2) (fs := OB m c) hdev hsS hsR (by subst hsR; rfl) rfl (by decide) (by decide) rfl
    (.of_eq (pt_squeeze (b := cc0_scratch10) (rO 0 0) S512x512 squeezes_S1x512x512_S512x512.numel_eq)) (exists_mono fun f => .of_eq (pt_squeeze (b := cc0_scratch10) (rO 2 0) S512x512 squeezes_S1x512x512_S512x512.numel_eq))
    (.of_eq (pt_squeeze (b := cc0_scratch10) (rO 0 0) S512x512 squeezes_S1x512x512_S512x512.numel_eq).symm) (fun fd => .of_eq (landed (c := nb 2 c) (mO 0 0) (mO 2 0) fd (OB m (nb 2 c)) (set_squeeze (b := cc0_scratch10) (rO 2 0) S512x512 squeezes_S1x512x512_S512x512.numel_eq) (funext fun x => OB_nb m c 2 0 _)))

theorem send_o30 (c : Dev nD) {dev : Dev nD} {sS sem : SemLoc sig} {hsc : (mO 3 0).view.ref.isScScratch = false} {hsrc : (mO 0 0).view.WordExact} {hdst : (mO 3 0).view.WordExact}
    {hsem : DmaTarget.Typed .vmem sem (.remote (dev : Thread nD τ) (mO 3 0) sS hsc)}
    {α : Type} {kont : PUnit → Prog (TpuEff nD τ sig (Elt F) Λ₀ .tc) α} {Q : α → sProp 𝕄} (hdev : dev = nb 3 c) (hsS : sS = csem 11) (hsR : sem = csem 17) :
    REC (F := F) m K ⊢ iprop(ptq (shO 3) c cc0_scratch10 (rO 0 0).set (OB m c) -∗ (∃ f, pt (nb 3 c) cc0_scratch10 (rO 3 0).set f) -∗ tk c 11 -∗ tk (nb 3 c) 17 -∗ ow c (3 + 1)
      -∗ ((cr c 11 ∗ ow c 3) -∗ WP c (kont ⟨⟩) Q)
      -∗ WP c (.op (.enqueueDma (mO 0 0) (.remote (dev : Thread nD τ) (mO 3 0) sS hsc) sem hsrc hdst hsem) kont) Q) :=
  step_send m K c (nb 3 c) 11 17 3 (src := mO 0 0) (dst := mO 3 0) (q := shO 3) (fs := OB m c) hdev hsS hsR (by subst hsR; rfl) rfl (by decide) (by decide) rfl
    (.of_eq (pt_squeeze (b := cc0_scratch10) (rO 0 0) S512x512 squeezes_S1x512x512_S512x512.numel_eq)) (exists_mono fun f => .of_eq (pt_squeeze (b := cc0_scratch10) (rO 3 0) S512x512 squeezes_S1x512x512_S512x512.numel_eq))
    (.of_eq (pt_squeeze (b := cc0_scratch10) (rO 0 0) S512x512 squeezes_S1x512x512_S512x512.numel_eq).symm) (fun fd => .of_eq (landed (c := nb 3 c) (mO 0 0) (mO 3 0) fd (OB m (nb 3 c)) (set_squeeze (b := cc0_scratch10) (rO 3 0) S512x512 squeezes_S1x512x512_S512x512.numel_eq) (funext fun x => OB_nb m c 3 0 _)))

theorem send_o11 (c : Dev nD) {dev : Dev nD} {sS sem : SemLoc sig} {hsc : (mO 1 1).view.ref.isScScratch = false} {hsrc : (mO 0 1).view.WordExact} {hdst : (mO 1 1).view.WordExact}
    {hsem : DmaTarget.Typed .vmem sem (.remote (dev : Thread nD τ) (mO 1 1) sS hsc)}
    {α : Type} {kont : PUnit → Prog (TpuEff nD τ sig (Elt F) Λ₀ .tc) α} {Q : α → sProp 𝕄} (hdev : dev = nb 1 c) (hsS : sS = csem 8) (hsR : sem = csem 14) :
    REC (F := F) m K ⊢ iprop(ptq (shO 1) c cc0_scratch10 (rO 0 1).set (OB m c) -∗ (∃ f, pt (nb 1 c) cc0_scratch10 (rO 1 1).set f) -∗ tk c 8 -∗ tk (nb 1 c) 14 -∗ ow c (2 + 1)
      -∗ ((cr c 8 ∗ ow c 2) -∗ WP c (kont ⟨⟩) Q)
      -∗ WP c (.op (.enqueueDma (mO 0 1) (.remote (dev : Thread nD τ) (mO 1 1) sS hsc) sem hsrc hdst hsem) kont) Q) :=
  step_send m K c (nb 1 c) 8 14 2 (src := mO 0 1) (dst := mO 1 1) (q := shO 1) (fs := OB m c) hdev hsS hsR (by subst hsR; rfl) rfl (by decide) (by decide) rfl
    (.of_eq (pt_squeeze (b := cc0_scratch10) (rO 0 1) S512x512 squeezes_S1x512x512_S512x512.numel_eq)) (exists_mono fun f => .of_eq (pt_squeeze (b := cc0_scratch10) (rO 1 1) S512x512 squeezes_S1x512x512_S512x512.numel_eq))
    (.of_eq (pt_squeeze (b := cc0_scratch10) (rO 0 1) S512x512 squeezes_S1x512x512_S512x512.numel_eq).symm) (fun fd => .of_eq (landed (c := nb 1 c) (mO 0 1) (mO 1 1) fd (OB m (nb 1 c)) (set_squeeze (b := cc0_scratch10) (rO 1 1) S512x512 squeezes_S1x512x512_S512x512.numel_eq) (funext fun x => OB_nb m c 1 1 _)))

theorem send_o21 (c : Dev nD) {dev : Dev nD} {sS sem : SemLoc sig} {hsc : (mO 2 1).view.ref.isScScratch = false} {hsrc : (mO 0 1).view.WordExact} {hdst : (mO 2 1).view.WordExact}
    {hsem : DmaTarget.Typed .vmem sem (.remote (dev : Thread nD τ) (mO 2 1) sS hsc)}
    {α : Type} {kont : PUnit → Prog (TpuEff nD τ sig (Elt F) Λ₀ .tc) α} {Q : α → sProp 𝕄} (hdev : dev = nb 2 c) (hsS : sS = csem 10) (hsR : sem = csem 16) :
    REC (F := F) m K ⊢ iprop(ptq (shO 2) c cc0_scratch10 (rO 0 1).set (OB m c) -∗ (∃ f, pt (nb 2 c) cc0_scratch10 (rO 2 1).set f) -∗ tk c 10 -∗ tk (nb 2 c) 16 -∗ ow c (1 + 1)
      -∗ ((cr c 10 ∗ ow c 1) -∗ WP c (kont ⟨⟩) Q)
      -∗ WP c (.op (.enqueueDma (mO 0 1) (.remote (dev : Thread nD τ) (mO 2 1) sS hsc) sem hsrc hdst hsem) kont) Q) :=
  step_send m K c (nb 2 c) 10 16 1 (src := mO 0 1) (dst := mO 2 1) (q := shO 2) (fs := OB m c) hdev hsS hsR (by subst hsR; rfl) rfl (by decide) (by decide) rfl
    (.of_eq (pt_squeeze (b := cc0_scratch10) (rO 0 1) S512x512 squeezes_S1x512x512_S512x512.numel_eq)) (exists_mono fun f => .of_eq (pt_squeeze (b := cc0_scratch10) (rO 2 1) S512x512 squeezes_S1x512x512_S512x512.numel_eq))
    (.of_eq (pt_squeeze (b := cc0_scratch10) (rO 0 1) S512x512 squeezes_S1x512x512_S512x512.numel_eq).symm) (fun fd => .of_eq (landed (c := nb 2 c) (mO 0 1) (mO 2 1) fd (OB m (nb 2 c)) (set_squeeze (b := cc0_scratch10) (rO 2 1) S512x512 squeezes_S1x512x512_S512x512.numel_eq) (funext fun x => OB_nb m c 2 1 _)))

theorem send_o31 (c : Dev nD) {dev : Dev nD} {sS sem : SemLoc sig} {hsc : (mO 3 1).view.ref.isScScratch = false} {hsrc : (mO 0 1).view.WordExact} {hdst : (mO 3 1).view.WordExact}
    {hsem : DmaTarget.Typed .vmem sem (.remote (dev : Thread nD τ) (mO 3 1) sS hsc)}
    {α : Type} {kont : PUnit → Prog (TpuEff nD τ sig (Elt F) Λ₀ .tc) α} {Q : α → sProp 𝕄} (hdev : dev = nb 3 c) (hsS : sS = csem 12) (hsR : sem = csem 18) :
    REC (F := F) m K ⊢ iprop(ptq (shO 3) c cc0_scratch10 (rO 0 1).set (OB m c) -∗ (∃ f, pt (nb 3 c) cc0_scratch10 (rO 3 1).set f) -∗ tk c 12 -∗ tk (nb 3 c) 18 -∗ ow c (0 + 1)
      -∗ ((cr c 12 ∗ ow c 0) -∗ WP c (kont ⟨⟩) Q)
      -∗ WP c (.op (.enqueueDma (mO 0 1) (.remote (dev : Thread nD τ) (mO 3 1) sS hsc) sem hsrc hdst hsem) kont) Q) :=
  step_send m K c (nb 3 c) 12 18 0 (src := mO 0 1) (dst := mO 3 1) (q := shO 3) (fs := OB m c) hdev hsS hsR (by subst hsR; rfl) rfl (by decide) (by decide) rfl
    (.of_eq (pt_squeeze (b := cc0_scratch10) (rO 0 1) S512x512 squeezes_S1x512x512_S512x512.numel_eq)) (exists_mono fun f => .of_eq (pt_squeeze (b := cc0_scratch10) (rO 3 1) S512x512 squeezes_S1x512x512_S512x512.numel_eq))
    (.of_eq (pt_squeeze (b := cc0_scratch10) (rO 0 1) S512x512 squeezes_S1x512x512_S512x512.numel_eq).symm) (fun fd => .of_eq (landed (c := nb 3 c) (mO 0 1) (mO 3 1) fd (OB m (nb 3 c)) (set_squeeze (b := cc0_scratch10) (rO 3 1) S512x512 squeezes_S1x512x512_S512x512.numel_eq) (funext fun x => OB_nb m c 3 1 _)))

end Cert.KProof

end
-- ==== Proof.Steps.lean ====
/-
# 01_k — what a load, a wait and the barrier come to
-/
module

public import proofs.«01_k».proof.Proof.Dma

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

theorem step_load (c : Dev nD) {cs : CoreSpace} {s : Shape} {e : EltTy} (M : Memref sig .tc cs s e) {r : Rect s} {hx : M.view.LoadsAt r.toLoadRect}
    {α : Type} {kont : (r.shape.Idx → Elt F e) → Prog (TpuEff nD τ sig (Elt F) Λ₀ .tc) α} {Q : α → sProp 𝕄} {q : PosShare TreeShare} {S : Finset (Idx (M.view.loc (c : Thread nD τ)))}
    (f : Buf (Elt F) (M.view.loc (c : Thread nD τ))) (hS : M.view.setOn r.set ⊆ S) :
    (M.view.loc (c : Thread nD τ) ↦[S]{q} f)
      ⊢ iprop(((M.view.loc (c : Thread nD τ) ↦[S]{q} f) -∗ WP c (kont (M.view.readAt (Elt F) r.toLoadRect f)) Q)
        -∗ WP c (.op (.load M r.toLoadRect hx) kont) Q) :=
  wp_load (Γ := .empty) (defs := defs₀ (F := F)) 𝒱₀ (c : Thread nD τ) none Set.univ (m := M) (r := r.toLoadRect) hS

theorem dut_end {k : ℕ} (h : k ≠ 19 ∧ k ≠ 20) : ∀ r', 0 + 1 ≤ r' → dutK k r' = ∅ := fun r' hr => by
  unfold dutK
  rw [if_neg (by omega)]
  split
  · rw [if_neg (by omega)]
  · rfl
theorem dut_end2 {k : ℕ} : ∀ r', 1 + 1 ≤ r' → dutK k r' = ∅ := fun r' hr => by
  unfold dutK
  rw [if_neg (by omega), if_neg (by omega)]

/-- The last wait of a cell, with what its round hands over written out. -/
theorem wait_last (c : Dev nD) (k : Fin 23) (n r : ℕ) {sp sp' : Space} {s s' : Shape} {e e' : EltTy} {sem : DmaSem sig} {src : Memref sig .tc sp' s' e'}
    {dst : Memref sig .tc sp s e} {hsrc : src.view.WordExact} {hdst : dst.view.WordExact} {α : Type} {kont : PUnit → Prog (TpuEff nD τ sig (Elt F) Λ₀ .tc) α} {Q : α → sProp 𝕄} {P : sProp 𝕄}
    (hP : payK m c k.val r 0 = P) (hs : (.dma sem : SemLoc sig) = csem k) (ha : dst.view.dmaCredit = amtK k.val) (hd : dutK k.val r = {0}) (hd' : ∀ r', r + 1 ≤ r' → dutK k.val r' = ∅) (hl : Below (csem k) n) :
    REC (F := F) m K ⊢ iprop(cr c k -∗ atr c k r -∗ ow c n
      -∗ ((dn c k ∗ ow c n ∗ P) -∗ WP c (kont ⟨⟩) Q)
      -∗ WP c (.op (.waitDma2 sem src dst hsrc hdst) kont) Q) := by
  subst hP
  exact step_wait m K c k n r hs ha hd hd' hl

/-- A wait with a further round to come. -/
theorem wait_mid (c : Dev nD) (k : Fin 23) (n r : ℕ) {sp sp' : Space} {s s' : Shape} {e e' : EltTy} {sem : DmaSem sig} {src : Memref sig .tc sp' s' e'}
    {dst : Memref sig .tc sp s e} {hsrc : src.view.WordExact} {hdst : dst.view.WordExact} {α : Type} {kont : PUnit → Prog (TpuEff nD τ sig (Elt F) Λ₀ .tc) α} {Q : α → sProp 𝕄} {P : sProp 𝕄}
    (hP : payK m c k.val r 0 = P) (hs : (.dma sem : SemLoc sig) = csem k) (ha : dst.view.dmaCredit = amtK k.val) (hd : dutK k.val r = {0}) (hl : Below (csem k) n) :
    REC (F := F) m K ⊢ iprop(cr c k -∗ atr c k r -∗ ow c n
      -∗ ((atr c k (r + 1) ∗ reached ER (kcell (c, k)) (r + 1) ∗ ow c n ∗ P) -∗ WP c (kont ⟨⟩) Q)
      -∗ WP c (.op (.waitDma2 sem src dst hsrc hdst) kont) Q) := by
  subst hP
  exact step_waitR m K c k n r hs ha hd hl

theorem set_whole_2 {n1 n2 : ℕ} (inb) : (Rect.unit (s := ⟨2, ![n1, n2]⟩) ![0, 0] (⟨2, ![n1, n2]⟩ : Shape).size inb).set = Finset.univ := by
  ext i
  simp only [Finset.mem_univ, iff_true, Rect.mem_set_unit]
  intro a
  match a with
  | ⟨0, _⟩ => exact ⟨Nat.zero_le _, by show _ < 0 + n1; rw [Nat.zero_add]; exact (i 0).isLt⟩
  | ⟨1, _⟩ => exact ⟨Nat.zero_le _, by show _ < 0 + n2; rw [Nat.zero_add]; exact (i 1).isLt⟩
theorem set_rC : rC.set = Finset.univ := set_whole_2 _
theorem set_rT : rT.set = Finset.univ := set_whole_2 _

theorem rQh_sub (b : Fin 2) (h : Fin 4) : (rQh b h).set ⊆ (rQb b).set := fun i hi => by
  rw [Rect.mem_set_unit] at hi ⊢
  intro a
  match a with
  | ⟨0, _⟩ => exact hi 0
  | ⟨1, _⟩ => exact ⟨Nat.zero_le _, by show _ < 0 + 512; rw [Nat.zero_add]; exact (i 1).isLt⟩
theorem rVh_sub (j b : Fin 2) (h : Fin 4) : (rVh j b h).set ⊆ (rV j b).set := fun i hi => by
  rw [Rect.mem_set_unit] at hi ⊢
  intro a
  match a with
  | ⟨0, _⟩ => exact hi 0
  | ⟨1, _⟩ => exact hi 1
  | ⟨2, _⟩ => exact ⟨Nat.zero_le _, by show _ < 0 + 512; rw [Nat.zero_add]; exact (i 2).isLt⟩

/-! ## The barrier's payloads, opened and closed -/

omit [FloatOps F] in
theorem bar_open (c : Dev nD) : iprop(barPay (F := F) c 0 ∗ barPay (F := F) c 1 ∗ barPay (F := F) c 2)
    ⊢ iprop(landO (F := F) (nb 3 c) 3 ∗ landO (F := F) (nb 2 c) 2 ∗ landO (F := F) (nb 1 c) 1 ∗ landX (F := F) (xn c)) := by
  have h : (xsel c = 0 ∧ nb 3 c = xn c) ∨ (xsel c = 2 ∧ nb 1 c = xn c) := by revert c; decide
  unfold barPay
  show iprop((landO (F := F) (nb 3 c) 3 ∗ landX? (F := F) (nb 3 c) 0 (xsel c)) ∗ (landO (F := F) (nb 2 c) 2 ∗ landX? (F := F) (nb 2 c) 1 (xsel c)) ∗ (landO (F := F) (nb 1 c) 1 ∗ landX? (F := F) (nb 1 c) 2 (xsel c))) ⊢ _
  obtain ⟨hs, hn⟩ | ⟨hs, hn⟩ := h
  · rw [hs, show landX? (F := F) (nb 3 c) 0 0 = landX (F := F) (nb 3 c) from if_pos rfl, hn]
    iintro ⟨⟨H3, HX⟩, ⟨H2, -⟩, ⟨H1, -⟩⟩
    isplitl [H3]; · iexact H3
    isplitl [H2]; · iexact H2
    isplitl [H1]; · iexact H1
    iexact HX
  · rw [hs, show landX? (F := F) (nb 1 c) 2 2 = landX (F := F) (nb 1 c) from if_pos rfl, hn]
    iintro ⟨⟨H3, -⟩, ⟨H2, -⟩, ⟨H1, HX⟩⟩
    isplitl [H3]; · iexact H3
    isplitl [H2]; · iexact H2
    isplitl [H1]; · iexact H1
    iexact HX

omit [FloatOps F] in
theorem bar_close (c : Dev nD) : iprop(landO (F := F) c 1 ∗ landO (F := F) c 2 ∗ landO (F := F) c 3 ∗ landX (F := F) c)
    ⊢ iprop(barPay (F := F) (nb 1 c) 0 ∗ barPay (F := F) (nb 2 c) 1 ∗ barPay (F := F) (nb 3 c) 2) := by
  have h2 : (1 : Fin 3) ≠ xsel (nb 2 c) := by revert c; decide
  have h : (0 = xsel (nb 1 c) ∧ 2 ≠ xsel (nb 3 c)) ∨ (0 ≠ xsel (nb 1 c) ∧ 2 = xsel (nb 3 c)) := by revert c; decide
  have e : ∀ (d e : Fin 3), d = e → landX? (F := F) c d e = landX (F := F) c := fun d e h => if_pos h
  have e' : ∀ (d e : Fin 3), d ≠ e → landX? (F := F) c d e = iprop(emp) := fun d e h => if_neg h
  unfold barPay
  rw [show payer 0 (nb 1 c) = c from nb_nb31 c, show payer 1 (nb 2 c) = c from nb_nb22 c, show payer 2 (nb 3 c) = c from nb_nb13 c, e' 1 _ h2]
  show _ ⊢ iprop((landO (F := F) c 3 ∗ landX? (F := F) c 0 _) ∗ (landO (F := F) c 2 ∗ emp) ∗ (landO (F := F) c 1 ∗ landX? (F := F) c 2 _))
  obtain ⟨ha, hb⟩ | ⟨ha, hb⟩ := h
  · rw [e 0 _ ha, e' 2 _ hb]
    iintro ⟨H1, H2, H3, HX⟩
    isplitl [H3 HX]
    · isplitl [H3]; · iexact H3
      iexact HX
    isplitl [H2]
    · isplitl [H2]; · iexact H2
      iempintro
    isplitl [H1]; · iexact H1
    iempintro
  · rw [e' 0 _ ha, e 2 _ hb]
    iintro ⟨H1, H2, H3, HX⟩
    isplitl [H3]
    · isplitl [H3]; · iexact H3
      iempintro
    isplitl [H2]
    · isplitl [H2]; · iexact H2
      iempintro
    isplitl [H1]; · iexact H1
    iexact HX

end Cert.KProof

end
-- ==== Proof.BodyA.lean ====
/-
# 01_k — the first parts of the body: fetches, the barrier, the exchange along x, the projections
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

theorem part1 (c : Dev nD) {Q : (Σ' (d0 : Dev nD) (v2 : BitVec 32) (v5 : BitVec 32) (v8 : BitVec 32), BitVec 32) → sProp 𝕄} :
    REC (F := F) m K ⊢ iprop(pt (c) main_arg4 (rA4 c).set (m ((c : Thread nD τ).loc main_arg4)) -∗ (∃ f, pt (c) cc0_scratch5 Finset.univ f) -∗ pt (c) main_arg5 (rA5 c).set (m ((c : Thread nD τ).loc main_arg5)) -∗ (∃ f, pt (c) cc0_scratch6 Finset.univ f) -∗ tk c 21 -∗ tk c 22 -∗ (∀ (w_v2 : BitVec 32) (w_v5 : BitVec 32) (w_v8 : BitVec 32) (w_wlast : BitVec 32), (cr c 21 ∗ cr c 22) -∗ Q ⟨c, w_v2, w_v5, w_v8, w_wlast⟩)
      -∗ WP c (onW (k0_part1 (F := F)) ) Q) := by
  rw [k0_part1_eq_skeleton]
  unfold k0_part1_skel
  simp only [semSignalWord, semWaitWord, Prog.lift, Prog.bind_op, Prog.bind_ret, Prog.pure_eq_ret, wp_deviceId]
  iintro #HR HA4 H5 HA5 H6 Ht1 Ht2 Hk
  ihave #Hr1 := (REC_r0 m K c 21) $$ HR
  ihave #Hr2 := (REC_r0 m K c 22) $$ HR
  iapply (copy_wq m K c rfl) $$ HR HA4 H5 Ht1 Hr1; iintro Hc21
  iapply (copy_wqr m K c rfl) $$ HR HA5 H6 Ht2 Hr2; iintro Hc22
  rw [WP, wp_ret]
  imodintro
  iapply Hk
  isplitl [Hc21]; · iexact Hc21
  iexact Hc22

theorem part2 (c : Dev nD) (v12 : BitVec 32) {Q : (FVec F S1024x2048 .bf16) → sProp 𝕄} :
    REC (F := F) m K ⊢ iprop(ptq (fullShare.left) (c) main_arg7 (rA7 c 0).set (m ((c : Thread nD τ).loc main_arg7)) -∗ (∃ f, pt (c) cc0_scratch11 (rS 0).set f) -∗ tk c 19 -∗ ptq (fullShare.right) (c) main_arg7 (rA7 c 3).set (m ((c : Thread nD τ).loc main_arg7)) -∗ (∃ f, pt (c) cc0_scratch11 (rS 1).set f) -∗ tk c 20 -∗ pt (c) cc0_stg0_0 Finset.univ (X m c) -∗ pt (c) cc0_stg1_0 Finset.univ (WD m c) -∗ pt (c) cc0_stg2_0 Finset.univ (WUK m c) -∗ (∃ f, pt (c) cc0_scratch1 Finset.univ f) -∗ (∃ f, pt (c) cc0_scratch3 (rW 0).set f) -∗ ((cr c 19 ∗ cr c 20 ∗ pt (c) cc0_stg0_0 Finset.univ (X m c) ∗ pt (c) cc0_stg1_0 Finset.univ (WD m c) ∗ pt (c) cc0_stg2_0 Finset.univ (WUK m c) ∗ pt (c) cc0_scratch1 Finset.univ (CS m c) ∗ pt (c) cc0_scratch3 (rW 0).set (WS m c)) -∗ Q (V47 m c))
      -∗ WP c (onW (k0_part2 (F := F)) (c) v12) Q) := by
  rw [k0_part2_eq_skeleton]
  unfold k0_part2_skel
  simp only [semSignalWord, semWaitWord, Prog.lift, Prog.bind_op, Prog.bind_ret, Prog.pure_eq_ret, wp_deviceId]
  iintro #HR HA70 H110 Ht19 HA73 H111 Ht20 Hx Hwd Hwuk ⟨%fH1, H1⟩ ⟨%fH3, H3⟩ Hk
  ihave #Hr1 := (REC_r0 m K c 19) $$ HR
  ihave #Hr2 := (REC_r0 m K c 20) $$ HR
  iapply (copy_wo0 m K c rfl) $$ HR HA70 H110 Ht19 Hr1; iintro Hc19
  iapply (copy_wo3 m K c rfl) $$ HR HA73 H111 Ht20 Hr2; iintro Hc20
  iapply (step_load c (Memref.whole cc0_stg0_0) (r := rX) (S := Finset.univ) (q := fullShare) (X m c) (setOn_whole_sub (Finset.subset_univ _))) $$ Hx; iintro Hx
  iapply (step_load c (Memref.whole cc0_stg1_0) (r := rWD) (S := Finset.univ) (q := fullShare) (WD m c) (setOn_whole_sub (Finset.subset_univ _))) $$ Hwd; iintro Hwd
  iapply (step_load c (Memref.whole cc0_scratch1) (r := rC) (S := Finset.univ) (q := fullShare) (fH1) (setOn_whole_sub (Finset.subset_univ _))) $$ H1; iintro H1
  iapply (step_store c (Memref.whole cc0_scratch1) (r := rC) (S := Finset.univ) (CS m c) ((View.set_slice_whole _ _).trans set_rC) (read_CS m c)) $$ H1; iintro H1
  iapply (step_load c (Memref.whole cc0_stg2_0) (r := rW5 c) (S := Finset.univ) (q := fullShare) (WUK m c) (setOn_whole_sub (Finset.subset_univ _))) $$ Hwuk; iintro Hwuk
  iapply (step_load c (Memref.whole cc0_scratch3) (r := rW 0) (S := (rW 0).set) (q := fullShare) (fH3) (setOn_whole_sub (Finset.Subset.refl _))) $$ H3; iintro H3
  iapply (step_store c (Memref.whole cc0_scratch3) (r := rW 0) (S := (rW 0).set) (WS m c) (View.set_slice_whole _ _) (read_WS0 m c)) $$ H3; iintro H3
  rw [WP, wp_ret]
  imodintro
  iapply Hk
  isplitl [Hc19]; · iexact Hc19
  isplitl [Hc20]; · iexact Hc20
  isplitl [Hx]; · iexact Hx
  isplitl [Hwd]; · iexact Hwd
  isplitl [Hwuk]; · iexact Hwuk
  isplitl [H1]; · iexact H1
  iexact H3

theorem part3 (c : Dev nD) (v8 : BitVec 32) {Q : (Σ' (v72 : Sems sig S_) (v83 : BitVec 32) (v100 : BitVec 32) (c2_i32_54 : BitVec 32) (v101 : BitVec 32) (v103 : BitVec 32), BitVec 1) → sProp 𝕄} :
    REC (F := F) m K ⊢ iprop(pt (c) cc0_stg3_0 Finset.univ (WUV m c) -∗ (∃ f, pt (c) cc0_scratch3 (rW 1).set f) -∗ (∀ (w_v83 : BitVec 32) (w_v100 : BitVec 32) (w_c2_i32_54 : BitVec 32) (w_v101 : BitVec 32) (w_v103 : BitVec 32) (w_wlast : BitVec 1), (pt (c) cc0_stg3_0 Finset.univ (WUV m c) ∗ pt (c) cc0_scratch3 (rW 1).set (WS m c)) -∗ Q ⟨SemArray.scalar (sig.barrier 0 rfl), w_v83, w_v100, w_c2_i32_54, w_v101, w_v103, w_wlast⟩)
      -∗ WP c (onW (k0_part3 (F := F)) (c) v8) Q) := by
  rw [k0_part3_eq_skeleton]
  unfold k0_part3_skel
  simp only [semSignalWord, semWaitWord, Prog.lift, Prog.bind_op, Prog.bind_ret, Prog.pure_eq_ret, wp_deviceId]
  iintro #HR Hwuv ⟨%fH3, H3⟩ Hk
  iapply (step_load c (Memref.whole cc0_stg3_0) (r := rW5 c) (S := Finset.univ) (q := fullShare) (WUV m c) (setOn_whole_sub (Finset.subset_univ _))) $$ Hwuv; iintro Hwuv
  iapply (step_load c (Memref.whole cc0_scratch3) (r := rW 1) (S := (rW 1).set) (q := fullShare) (fH3) (setOn_whole_sub (Finset.Subset.refl _))) $$ H3; iintro H3
  iapply (step_store c (Memref.whole cc0_scratch3) (r := rW 1) (S := (rW 1).set) (WS m c) (View.set_slice_whole _ _) (read_WS1 m c)) $$ H3; iintro H3
  rw [WP, wp_ret]
  imodintro
  iapply Hk
  isplitl [Hwuv]; · iexact Hwuv
  iexact H3

theorem part4 (c : Dev nD) (v8 : BitVec 32) (v83 : BitVec 32) (v100 : BitVec 32) (c2_i32_54 : BitVec 32) (v101 : BitVec 32) (v103 : BitVec 32) (v104 : BitVec 1) {Q : (Σ' (v134 : BitVec 32) (c2_i32_73 : BitVec 32) (v135 : BitVec 32) (v140 : BitVec 32) (v142 : BitVec 32), BitVec 32) → sProp 𝕄} :
    REC (F := F) m K ⊢ iprop(dutyTok ER (kcell (nb 1 c, 0)) 0 (0 : Fin 3) -∗ ow c 12 -∗ barPay (F := F) (nb 1 c) 0 -∗ (∀ (w_v134 : BitVec 32) (w_c2_i32_73 : BitVec 32) (w_v135 : BitVec 32) (w_v140 : BitVec 32) (w_v142 : BitVec 32) (w_wlast : BitVec 32), (ow c 11) -∗ Q ⟨w_v134, w_c2_i32_73, w_v135, w_v140, w_v142, w_wlast⟩)
      -∗ WP c (onW (k0_part4 (F := F)) (c) v8 (SemArray.scalar (sig.barrier 0 rfl)) v83 v100 c2_i32_54 v101 v103 v104) Q) := by
  rw [k0_part4_eq_skeleton]
  unfold k0_part4_skel
  simp only [semSignalWord, semWaitWord, Prog.lift, Prog.bind_op, Prog.bind_ret, Prog.pure_eq_ret, wp_deviceId]
  iintro #HR Ht HO Hp Hk
  iapply (step_signal m K c (nb 1 c) 0 11 (dev1_eq c) rfl rfl rfl) $$ HR Ht HO Hp; iintro HO
  rw [WP, wp_ret]
  imodintro
  iapply Hk
  iexact HO

theorem part5 (c : Dev nD) (v8 : BitVec 32) (v134 : BitVec 32) (c2_i32_73 : BitVec 32) (v135 : BitVec 32) (v140 : BitVec 32) (v142 : BitVec 32) (c0_i32_77 : BitVec 32) {Q : (Σ' (v177 : BitVec 32) (v178 : BitVec 32) (v179 : BitVec 1) (v180 : BitVec 1), BitVec 32) → sProp 𝕄} :
    REC (F := F) m K ⊢ iprop(dutyTok ER (kcell (nb 2 c, 0)) 0 (1 : Fin 3) -∗ ow c 11 -∗ barPay (F := F) (nb 2 c) 1 -∗ (∀ (w_v177 : BitVec 32) (w_v178 : BitVec 32) (w_v179 : BitVec 1) (w_v180 : BitVec 1) (w_wlast : BitVec 32), (ow c 10) -∗ Q ⟨w_v177, w_v178, w_v179, w_v180, w_wlast⟩)
      -∗ WP c (onW (k0_part5 (F := F)) (c) v8 (SemArray.scalar (sig.barrier 0 rfl)) v134 c2_i32_73 v135 v140 v142 c0_i32_77) Q) := by
  rw [k0_part5_eq_skeleton]
  unfold k0_part5_skel
  simp only [semSignalWord, semWaitWord, Prog.lift, Prog.bind_op, Prog.bind_ret, Prog.pure_eq_ret, wp_deviceId]
  iintro #HR Ht HO Hp Hk
  iapply (step_signal m K c (nb 2 c) 1 10 (dev2_eq c) rfl rfl rfl) $$ HR Ht HO Hp; iintro HO
  rw [WP, wp_ret]
  imodintro
  iapply Hk
  iexact HO

theorem part6 (c : Dev nD) (v177 : BitVec 32) (v178 : BitVec 32) (v179 : BitVec 1) (v180 : BitVec 1) (c0_i32_98 : BitVec 32) {Q : (Σ' (v221 : BitVec 32) (v222 : BitVec 32), BitVec 32) → sProp 𝕄} :
    REC (F := F) m K ⊢ iprop((∀ (w_v221 : BitVec 32) (w_v222 : BitVec 32) (w_wlast : BitVec 32), Q ⟨w_v221, w_v222, w_wlast⟩)
      -∗ WP c (onW (k0_part6 (F := F)) v177 v178 v179 v180 c0_i32_98) Q) := by
  rw [k0_part6_eq_skeleton]
  unfold k0_part6_skel
  simp only [semSignalWord, semWaitWord, Prog.lift, Prog.bind_op, Prog.bind_ret, Prog.pure_eq_ret, wp_deviceId]
  iintro #HR  Hk
  rw [WP, wp_ret]
  imodintro
  iapply Hk

theorem part7 (c : Dev nD) (v2 : BitVec 32) (v5 : BitVec 32) (v221 : BitVec 32) (v222 : BitVec 32) (c0_i32_116 : BitVec 32) {Q : (Σ' (v226 : BitVec 32) (v235 : BitVec 32), BitVec 32) → sProp 𝕄} :
    REC (F := F) m K ⊢ iprop(dutyTok ER (kcell (nb 3 c, 0)) 0 (2 : Fin 3) -∗ ow c 10 -∗ barPay (F := F) (nb 3 c) 2 -∗ cred (tallyAt (kcell (c, 0)) () 3) -∗ at0 c 0 -∗ pt (c) cc0_scratch3 Finset.univ (WS m c) -∗ tk c 5 -∗ tk (xn c) 6 -∗ ptq (fullShare.left) (c) cc0_scratch1 (rCb 0).set (CS m c) -∗ tk c 1 -∗ tk (xn c) 2 -∗ (∀ (w_v226 : BitVec 32) (w_v235 : BitVec 32) (w_wlast : BitVec 32), (dn c 0 ∗ ow c 7 ∗ cr c 5 ∗ cr c 1 ∗ landO (F := F) (nb 1 c) 1 ∗ landO (F := F) (nb 2 c) 2 ∗ landO (F := F) (nb 3 c) 3 ∗ (∃ f, pt (xn c) cc0_scratch2 (rCb 1).set f)) -∗ Q ⟨w_v226, w_v235, w_wlast⟩)
      -∗ WP c (onW (k0_part7 (F := F)) (c) v2 v5 (SemArray.scalar (sig.barrier 0 rfl)) v221 v222 c0_i32_116) Q) := by
  rw [k0_part7_eq_skeleton]
  unfold k0_part7_skel
  simp only [semSignalWord, semWaitWord, Prog.lift, Prog.bind_op, Prog.bind_ret, Prog.pure_eq_ret, wp_deviceId]
  iintro #HR Ht HO Hp Hcb Hab H3 Ht5 Ht6 H1 Ht1 Ht2 Hk
  iapply (step_signal m K c (nb 3 c) 2 9 (dev3_eq c) rfl rfl rfl) $$ HR Ht HO Hp; iintro HO
  iapply (step_barrier m K c 9 rfl rfl (by decide)) $$ HR Hcb Hab HO; iintro ⟨Hd0, HO, Hb⟩
  ihave Hb := (bar_open c) $$ Hb
  icases Hb with ⟨HL3, HL2, HL1, HX⟩
  unfold landX
  icases HX with ⟨Hx20, Hx21, Hx4⟩
  iapply (send_w m K c (dev4_eq c) rfl rfl) $$ HR H3 Hx4 Ht5 Ht6 HO; iintro ⟨Hc5, HO⟩
  iapply (send_x0 m K c (dev5_eq c) rfl rfl) $$ HR H1 Hx20 Ht1 Ht2 HO; iintro ⟨Hc1, HO⟩
  rw [WP, wp_ret]
  imodintro
  iapply Hk
  isplitl [Hd0]; · iexact Hd0
  isplitl [HO]; · iexact HO
  isplitl [Hc5]; · iexact Hc5
  isplitl [Hc1]; · iexact Hc1
  isplitl [HL1]; · iexact HL1
  isplitl [HL2]; · iexact HL2
  isplitl [HL3]; · iexact HL3
  iexact Hx21

theorem part8 (c : Dev nD) (v8 : BitVec 32) {Q : (Σ' (v264 : FVec F S2048x512 .bf16) (v266 : FVec F S2048x128 .bf16) (v269 : FVec F S2048x32 .bf16) (v274 : FVec F S128x512 .bf16) (v279 : FVec F S128x512 .bf16) (v280 : FVec F S512x2048 .bf16), FVec F S512x128 .bf16) → sProp 𝕄} :
    REC (F := F) m K ⊢ iprop(ptq (fullShare.left) (c) cc0_scratch1 (rCb 1).set (CS m c) -∗ (∃ f, pt (xn c) cc0_scratch2 (rCb 1).set f) -∗ tk c 3 -∗ tk (xn c) 4 -∗ ow c 7 -∗ cr c 21 -∗ atr c 21 0 -∗ cr c 22 -∗ atr c 22 0 -∗ pt (c) cc0_stg4_0 Finset.univ (WKR m c) -∗ pt (c) cc0_stg2_0 Finset.univ (WUK m c) -∗ pt (c) cc0_stg3_0 Finset.univ (WUV m c) -∗ (∃ f, pt (c) cc0_scratch7 (rQb 0).set f) -∗ ((cr c 3 ∗ dn c 21 ∗ dn c 22 ∗ pt (c) cc0_scratch5 Finset.univ (WQ m c) ∗ pt (c) main_arg4 (rA4 c).set (m ((c : Thread nD τ).loc main_arg4)) ∗ pt (c) cc0_scratch6 Finset.univ (WQR m c) ∗ pt (c) main_arg5 (rA5 c).set (m ((c : Thread nD τ).loc main_arg5)) ∗ pt (c) cc0_stg4_0 Finset.univ (WKR m c) ∗ pt (c) cc0_stg2_0 Finset.univ (WUK m c) ∗ pt (c) cc0_stg3_0 Finset.univ (WUV m c) ∗ pt (c) cc0_scratch7 (rQb 0).set (Qs m c) ∗ ow c 6) -∗ Q ⟨k0_pay6 (V263 m c), k0_pay7 (V265 m c), V269 m c, V274 m c, V279 m c, k0_pay11 (V47 m c), k0_pay13 (V47 m c) (V265 m c)⟩)
      -∗ WP c (onW (k0_part8 (F := F)) (c) v8 (V47 m c)) Q) := by
  rw [k0_part8_eq_skeleton]
  unfold k0_part8_skel
  simp only [semSignalWord, semWaitWord, Prog.lift, Prog.bind_op, Prog.bind_ret, Prog.pure_eq_ret, wp_deviceId]
  iintro #HR H1 Hx21 Ht3 Ht4 HO Hc21 Ha21 Hc22 Ha22 Hwkr Hwuk Hwuv ⟨%fH7, H7⟩ Hk
  iapply (send_x1 m K c (dev6_eq c) rfl rfl) $$ HR H1 Hx21 Ht3 Ht4 HO; iintro ⟨Hc3, HO⟩
  iapply (wait_last m K c 21 6 0 (P := iprop(pt (c) cc0_scratch5 Finset.univ (WQ m c) ∗ pt (c) main_arg4 (rA4 c).set (m ((c : Thread nD τ).loc main_arg4)))) rfl (by decide) rfl (by decide) (dut_end (by decide)) (by decide)) $$ HR Hc21 Ha21 HO; iintro ⟨Hd21, HO, H5, HA4⟩
  iapply (wait_last m K c 22 6 0 (P := iprop(pt (c) cc0_scratch6 Finset.univ (WQR m c) ∗ pt (c) main_arg5 (rA5 c).set (m ((c : Thread nD τ).loc main_arg5)))) rfl (by decide) rfl (by decide) (dut_end (by decide)) (by decide)) $$ HR Hc22 Ha22 HO; iintro ⟨Hd22, HO, H6, HA5⟩
  iapply (step_load c (Memref.whole cc0_scratch5) (r := rWQ) (S := Finset.univ) (q := fullShare) (WQ m c) (setOn_whole_sub (Finset.subset_univ _))) $$ H5; iintro H5
  iapply (step_load c (Memref.whole cc0_scratch6) (r := rWD) (S := Finset.univ) (q := fullShare) (WQR m c) (setOn_whole_sub (Finset.subset_univ _))) $$ H6; iintro H6
  iapply (step_load c (Memref.whole cc0_stg4_0) (r := rWK) (S := Finset.univ) (q := fullShare) (WKR m c) (setOn_whole_sub (Finset.subset_univ _))) $$ Hwkr; iintro Hwkr
  iapply (step_load c (Memref.whole cc0_stg2_0) (r := rW6 c) (S := Finset.univ) (q := fullShare) (WUK m c) (setOn_whole_sub (Finset.subset_univ _))) $$ Hwuk; iintro Hwuk
  iapply (step_load c (Memref.whole cc0_stg3_0) (r := rW6 c) (S := Finset.univ) (q := fullShare) (WUV m c) (setOn_whole_sub (Finset.subset_univ _))) $$ Hwuv; iintro Hwuv
  iapply (step_load c (Memref.whole cc0_scratch7) (r := rQb 0) (S := (rQb 0).set) (q := fullShare) (fH7) (setOn_whole_sub (Finset.Subset.refl _))) $$ H7; iintro H7
  iapply (step_store c (Memref.whole cc0_scratch7) (r := rQb 0) (S := (rQb 0).set) (Qs m c) (View.set_slice_whole _ _) (read_Qs m c 0)) $$ H7; iintro H7
  rw [WP, wp_ret]
  imodintro
  iapply Hk
  isplitl [Hc3]; · iexact Hc3
  isplitl [Hd21]; · iexact Hd21
  isplitl [Hd22]; · iexact Hd22
  isplitl [H5]; · iexact H5
  isplitl [HA4]; · iexact HA4
  isplitl [H6]; · iexact H6
  isplitl [HA5]; · iexact HA5
  isplitl [Hwkr]; · iexact Hwkr
  isplitl [Hwuk]; · iexact Hwuk
  isplitl [Hwuv]; · iexact Hwuv
  isplitl [H7]; · iexact H7
  iexact HO

theorem part9 (c : Dev nD) (v5 : BitVec 32) (v226 : BitVec 32) (v235 : BitVec 32) {Q : (Σ' (v297 : FVec F S512x512 .f32) (v299 : FVec F S512x512 .f32) (v312 : BitVec 32), BitVec 32) → sProp 𝕄} :
    REC (F := F) m K ⊢ iprop((∃ f, pt (c) cc0_scratch8 (rCb 0).set f) -∗ (∃ f, pt (c) cc0_scratch9 (rKb 0).set f) -∗ ptq (fullShare.right) (c) cc0_scratch1 (rCb 0).set (CS m c) -∗ cr c 5 -∗ atr c 5 0 -∗ cr c 6 -∗ atr c 6 0 -∗ cr c 1 -∗ atr c 1 0 -∗ ow c 6 -∗ (∀ (w_v312 : BitVec 32) (w_wlast : BitVec 32), (pt (c) cc0_scratch8 (rCb 0).set (Rs m c) ∗ pt (c) cc0_scratch9 (rKb 0).set (Ks m c) ∗ ptq (fullShare.right) (c) cc0_scratch1 (rCb 0).set (CS m c) ∗ dn c 5 ∗ pt (c) cc0_scratch3 Finset.univ (WS m c) ∗ dn c 6 ∗ pt (c) cc0_scratch4 Finset.univ (WR m c) ∗ dn c 1 ∗ ptq (fullShare.left) (c) cc0_scratch1 (rCb 0).set (CS m c) ∗ ow c 6) -∗ Q ⟨k0_pay16 (V274 m c) (rd cc0_scratch1 (rCb 0) (CS m c)), k0_pay17 (V279 m c) (rd cc0_scratch1 (rCb 0) (CS m c)), w_v312, w_wlast⟩)
      -∗ WP c (onW (k0_part9 (F := F)) v5 v226 v235 (V269 m c) (V274 m c) (V279 m c) (k0_pay11 (V47 m c)) (k0_pay13 (V47 m c) (V265 m c))) Q) := by
  rw [k0_part9_eq_skeleton]
  unfold k0_part9_skel
  simp only [semSignalWord, semWaitWord, Prog.lift, Prog.bind_op, Prog.bind_ret, Prog.pure_eq_ret, wp_deviceId]
  iintro #HR ⟨%fH8, H8⟩ ⟨%fH9, H9⟩ H1R Hc5 Ha5 Hc6 Ha6 Hc1 Ha1 HO Hk
  iapply (step_load c (Memref.whole cc0_scratch8) (r := rCb 0) (S := (rCb 0).set) (q := fullShare) (fH8) (setOn_whole_sub (Finset.Subset.refl _))) $$ H8; iintro H8
  iapply (step_store c (Memref.whole cc0_scratch8) (r := rCb 0) (S := (rCb 0).set) (Rs m c) (View.set_slice_whole _ _) (read_Rs m c 0)) $$ H8; iintro H8
  iapply (step_load c (Memref.whole cc0_scratch9) (r := rKb 0) (S := (rKb 0).set) (q := fullShare) (fH9) (setOn_whole_sub (Finset.Subset.refl _))) $$ H9; iintro H9
  iapply (step_store c (Memref.whole cc0_scratch9) (r := rKb 0) (S := (rKb 0).set) (Ks m c) (View.set_slice_whole _ _) (read_Ks m c 0)) $$ H9; iintro H9
  iapply (step_load c (Memref.whole cc0_scratch1) (r := rCb 0) (S := (rCb 0).set) (q := fullShare.right) (CS m c) (setOn_whole_sub (Finset.Subset.refl _))) $$ H1R; iintro H1R
  iapply (step_load c (Memref.whole cc0_scratch1) (r := rCb 0) (S := (rCb 0).set) (q := fullShare.right) (CS m c) (setOn_whole_sub (Finset.Subset.refl _))) $$ H1R; iintro H1R
  iapply (wait_last m K c 5 6 0 (P := iprop(pt (c) cc0_scratch3 Finset.univ (WS m c))) rfl (by decide) rfl (by decide) (dut_end (by decide)) (by decide)) $$ HR Hc5 Ha5 HO; iintro ⟨Hd5, HO, H3⟩
  iapply (wait_last m K c 6 6 0 (P := iprop(pt (c) cc0_scratch4 Finset.univ (WR m c))) rfl (by decide) rfl (by decide) (dut_end (by decide)) (by decide)) $$ HR Hc6 Ha6 HO; iintro ⟨Hd6, HO, H4⟩
  iapply (wait_last m K c 1 6 0 (P := iprop(ptq (fullShare.left) (c) cc0_scratch1 (rCb 0).set (CS m c))) rfl (by decide) rfl (by decide) (dut_end (by decide)) (by decide)) $$ HR Hc1 Ha1 HO; iintro ⟨Hd1, HO, H1L⟩
  rw [WP, wp_ret]
  imodintro
  iapply Hk
  isplitl [H8]; · iexact H8
  isplitl [H9]; · iexact H9
  isplitl [H1R]; · iexact H1R
  isplitl [Hd5]; · iexact Hd5
  isplitl [H3]; · iexact H3
  isplitl [Hd6]; · iexact Hd6
  isplitl [H4]; · iexact H4
  isplitl [Hd1]; · iexact Hd1
  isplitl [H1L]; · iexact H1L
  iexact HO

end Cert.KProof

end
-- ==== Proof.BodyB.lean ====
/-
# 01_k — the first half of the rows: keys, values, the four heads, and the result sent round the ring
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

theorem part10 (c : Dev nD) (v5 : BitVec 32) (v312 : BitVec 32) (c0_i32_192 : BitVec 32) {Q : (Σ' (v338 : Vec F S512x32 .bf16) (v339 : Vec F S512x128 .bf16), Vec F S512x128 .bf16) → sProp 𝕄} :
    REC (F := F) m K ⊢ iprop(cr c 2 -∗ atr c 2 0 -∗ ow c 6 -∗ pt (c) cc0_scratch4 Finset.univ (WR m c) -∗ (∃ f, pt (c) cc0_scratch0 (rV 0 0).set f) -∗ (∃ f, pt (c) cc0_scratch0 (rV 1 0).set f) -∗ pt (c) cc0_scratch9 (rKb 0).set (Ks m c) -∗ pt (c) cc0_scratch8 (rCb 0).set (Rs m c) -∗ pt (c) cc0_scratch7 (rQb 0).set (Qs m c) -∗ ((dn c 2 ∗ ow c 6 ∗ pt (c) cc0_scratch2 (rCb 0).set (CR m c) ∗ pt (c) cc0_scratch4 Finset.univ (WR m c) ∗ pt (c) cc0_scratch0 (rV 0 0).set (KV m c) ∗ pt (c) cc0_scratch0 (rV 1 0).set (KV m c) ∗ pt (c) cc0_scratch9 (rKb 0).set (Ks m c) ∗ pt (c) cc0_scratch8 (rCb 0).set (Rs m c) ∗ pt (c) cc0_scratch7 (rQb 0).set (Qs m c)) -∗ Q ⟨lKr m c 0, lQr m c 0, lQ m c 0 0⟩)
      -∗ WP c (onW (k0_part10 (F := F)) v5 (k0_pay16 (V274 m c) (rd cc0_scratch1 (rCb 0) (CS m c))) (k0_pay17 (V279 m c) (rd cc0_scratch1 (rCb 0) (CS m c))) v312 c0_i32_192) Q) := by
  rw [k0_part10_eq_skeleton]
  unfold k0_part10_skel
  simp only [semSignalWord, semWaitWord, Prog.lift, Prog.bind_op, Prog.bind_ret, Prog.pure_eq_ret, wp_deviceId]
  iintro #HR Hc2 Ha2 HO H4 ⟨%fHV0, HV0⟩ ⟨%fHV1, HV1⟩ H9 H8 H7 Hk
  iapply (wait_last m K c 2 6 0 (P := iprop(pt (c) cc0_scratch2 (rCb 0).set (CR m c))) rfl (by decide) rfl (by decide) (dut_end (by decide)) (by decide)) $$ HR Hc2 Ha2 HO; iintro ⟨Hd2, HO, H2⟩
  iapply (step_load c (Memref.whole cc0_scratch2) (r := rCb 0) (S := (rCb 0).set) (q := fullShare) (CR m c) (setOn_whole_sub (Finset.Subset.refl _))) $$ H2; iintro H2
  iapply (step_load c (Memref.whole cc0_scratch4) (r := rW 0) (S := Finset.univ) (q := fullShare) (WR m c) (setOn_whole_sub (Finset.subset_univ _))) $$ H4; iintro H4
  iapply (step_load c (Memref.whole cc0_scratch0) (r := rV 0 0) (S := (rV 0 0).set) (q := fullShare) (fHV0) (setOn_whole_sub (Finset.Subset.refl _))) $$ HV0; iintro HV0
  iapply (step_store c (Memref.whole cc0_scratch0) (r := rV 0 0) (S := (rV 0 0).set) (KV m c) (View.set_slice_whole _ _) (read_KV m c 0 0)) $$ HV0; iintro HV0
  iapply (step_load c (Memref.whole cc0_scratch2) (r := rCb 0) (S := (rCb 0).set) (q := fullShare) (CR m c) (setOn_whole_sub (Finset.Subset.refl _))) $$ H2; iintro H2
  iapply (step_load c (Memref.whole cc0_scratch4) (r := rW 1) (S := Finset.univ) (q := fullShare) (WR m c) (setOn_whole_sub (Finset.subset_univ _))) $$ H4; iintro H4
  iapply (step_load c (Memref.whole cc0_scratch0) (r := rV 1 0) (S := (rV 1 0).set) (q := fullShare) (fHV1) (setOn_whole_sub (Finset.Subset.refl _))) $$ HV1; iintro HV1
  iapply (step_store c (Memref.whole cc0_scratch0) (r := rV 1 0) (S := (rV 1 0).set) (KV m c) (View.set_slice_whole _ _) (read_KV m c 1 0)) $$ HV1; iintro HV1
  iapply (step_load c (Memref.whole cc0_scratch9) (r := rKb 0) (S := (rKb 0).set) (q := fullShare) (Ks m c) (setOn_whole_sub (Finset.Subset.refl _))) $$ H9; iintro H9
  iapply (step_load c (Memref.whole cc0_scratch8) (r := rCb 0) (S := (rCb 0).set) (q := fullShare) (Rs m c) (setOn_whole_sub (Finset.Subset.refl _))) $$ H8; iintro H8
  iapply (step_load c (Memref.whole cc0_scratch7) (r := rQh 0 0) (S := (rQb 0).set) (q := fullShare) (Qs m c) (setOn_whole_sub (rQh_sub 0 0))) $$ H7; iintro H7
  rw [WP, wp_ret]
  imodintro
  iapply Hk
  isplitl [Hd2]; · iexact Hd2
  isplitl [HO]; · iexact HO
  isplitl [H2]; · iexact H2
  isplitl [H4]; · iexact H4
  isplitl [HV0]; · iexact HV0
  isplitl [HV1]; · iexact HV1
  isplitl [H9]; · iexact H9
  isplitl [H8]; · iexact H8
  iexact H7

theorem part11 (c : Dev nD) {Q : (Σ' (v373 : FVec F S512x1 .f32), FVec F S512x512 .bf16) → sProp 𝕄} :
    REC (F := F) m K ⊢ iprop(pt (c) cc0_scratch0 (rV 0 0).set (KV m c) -∗ pt (c) cc0_scratch0 (rV 1 0).set (KV m c) -∗ pt (c) cc0_scratch7 (rQb 0).set (Qs m c) -∗ (∃ f, pt (c) cc0_scratch10 (rOh 0 0 0).set f) -∗ ((pt (c) cc0_scratch0 (rV 0 0).set (KV m c) ∗ pt (c) cc0_scratch0 (rV 1 0).set (KV m c) ∗ pt (c) cc0_scratch7 (rQb 0).set (Qs m c) ∗ pt (c) cc0_scratch10 (rOh 0 0 0).set (OB m c)) -∗ Q ⟨k0_pay22 (lKr m c 0) (lQr m c 0) (lQ m c 0 1) (lV m c 0 0 1), k0_pay23 (lKr m c 0) (lQr m c 0) (lQ m c 0 1) (lV m c 0 0 1)⟩)
      -∗ WP c (onW (k0_part11 (F := F)) (lKr m c 0) (lQr m c 0) (lQ m c 0 0)) Q) := by
  rw [k0_part11_eq_skeleton]
  unfold k0_part11_skel
  simp only [semSignalWord, semWaitWord, Prog.lift, Prog.bind_op, Prog.bind_ret, Prog.pure_eq_ret, wp_deviceId]
  iintro #HR HV0 HV1 H7 ⟨%fHO0, HO0⟩ Hk
  iapply (step_load c (Memref.whole cc0_scratch0) (r := rVh 0 0 0) (S := (rV 0 0).set) (q := fullShare) (KV m c) (setOn_whole_sub (rVh_sub 0 0 0))) $$ HV0; iintro HV0
  iapply (step_load c (Memref.whole cc0_scratch0) (r := rVh 1 0 0) (S := (rV 1 0).set) (q := fullShare) (KV m c) (setOn_whole_sub (rVh_sub 1 0 0))) $$ HV1; iintro HV1
  iapply (step_load c (Memref.whole cc0_scratch10) (r := rOh 0 0 0) (S := (rOh 0 0 0).set) (q := fullShare) (fHO0) (setOn_whole_sub (Finset.Subset.refl _))) $$ HO0; iintro HO0
  iapply (step_store c (Memref.whole cc0_scratch10) (r := rOh 0 0 0) (S := (rOh 0 0 0).set) (OB m c) (View.set_slice_whole _ _) (read_OB m c 0 0)) $$ HO0; iintro HO0
  iapply (step_load c (Memref.whole cc0_scratch7) (r := rQh 0 1) (S := (rQb 0).set) (q := fullShare) (Qs m c) (setOn_whole_sub (rQh_sub 0 1))) $$ H7; iintro H7
  iapply (step_load c (Memref.whole cc0_scratch0) (r := rVh 0 0 1) (S := (rV 0 0).set) (q := fullShare) (KV m c) (setOn_whole_sub (rVh_sub 0 0 1))) $$ HV0; iintro HV0
  rw [WP, wp_ret]
  imodintro
  iapply Hk
  isplitl [HV0]; · iexact HV0
  isplitl [HV1]; · iexact HV1
  isplitl [H7]; · iexact H7
  iexact HO0

theorem part12 (c : Dev nD) {Q : (Vec F S512x128 .bf16) → sProp 𝕄} :
    REC (F := F) m K ⊢ iprop(pt (c) cc0_scratch0 (rV 0 0).set (KV m c) -∗ pt (c) cc0_scratch0 (rV 1 0).set (KV m c) -∗ pt (c) cc0_scratch7 (rQb 0).set (Qs m c) -∗ (∃ f, pt (c) cc0_scratch10 (rOh 0 0 1).set f) -∗ (∃ f, pt (c) cc0_scratch10 (rOh 0 0 2).set f) -∗ ((pt (c) cc0_scratch0 (rV 0 0).set (KV m c) ∗ pt (c) cc0_scratch0 (rV 1 0).set (KV m c) ∗ pt (c) cc0_scratch7 (rQb 0).set (Qs m c) ∗ pt (c) cc0_scratch10 (rOh 0 0 1).set (OB m c) ∗ pt (c) cc0_scratch10 (rOh 0 0 2).set (OB m c)) -∗ Q (lQ m c 0 3))
      -∗ WP c (onW (k0_part12 (F := F)) (lKr m c 0) (lQr m c 0) (k0_pay22 (lKr m c 0) (lQr m c 0) (lQ m c 0 1) (lV m c 0 0 1)) (k0_pay23 (lKr m c 0) (lQr m c 0) (lQ m c 0 1) (lV m c 0 0 1))) Q) := by
  rw [k0_part12_eq_skeleton]
  unfold k0_part12_skel
  simp only [semSignalWord, semWaitWord, Prog.lift, Prog.bind_op, Prog.bind_ret, Prog.pure_eq_ret, wp_deviceId]
  iintro #HR HV0 HV1 H7 ⟨%fHO1, HO1⟩ ⟨%fHO2, HO2⟩ Hk
  iapply (step_load c (Memref.whole cc0_scratch0) (r := rVh 1 0 1) (S := (rV 1 0).set) (q := fullShare) (KV m c) (setOn_whole_sub (rVh_sub 1 0 1))) $$ HV1; iintro HV1
  iapply (step_load c (Memref.whole cc0_scratch10) (r := rOh 0 0 1) (S := (rOh 0 0 1).set) (q := fullShare) (fHO1) (setOn_whole_sub (Finset.Subset.refl _))) $$ HO1; iintro HO1
  iapply (step_store c (Memref.whole cc0_scratch10) (r := rOh 0 0 1) (S := (rOh 0 0 1).set) (OB m c) (View.set_slice_whole _ _) (read_OB m c 0 1)) $$ HO1; iintro HO1
  iapply (step_load c (Memref.whole cc0_scratch7) (r := rQh 0 2) (S := (rQb 0).set) (q := fullShare) (Qs m c) (setOn_whole_sub (rQh_sub 0 2))) $$ H7; iintro H7
  iapply (step_load c (Memref.whole cc0_scratch0) (r := rVh 0 0 2) (S := (rV 0 0).set) (q := fullShare) (KV m c) (setOn_whole_sub (rVh_sub 0 0 2))) $$ HV0; iintro HV0
  iapply (step_load c (Memref.whole cc0_scratch0) (r := rVh 1 0 2) (S := (rV 1 0).set) (q := fullShare) (KV m c) (setOn_whole_sub (rVh_sub 1 0 2))) $$ HV1; iintro HV1
  iapply (step_load c (Memref.whole cc0_scratch10) (r := rOh 0 0 2) (S := (rOh 0 0 2).set) (q := fullShare) (fHO2) (setOn_whole_sub (Finset.Subset.refl _))) $$ HO2; iintro HO2
  iapply (step_store c (Memref.whole cc0_scratch10) (r := rOh 0 0 2) (S := (rOh 0 0 2).set) (OB m c) (View.set_slice_whole _ _) (read_OB m c 0 2)) $$ HO2; iintro HO2
  iapply (step_load c (Memref.whole cc0_scratch7) (r := rQh 0 3) (S := (rQb 0).set) (q := fullShare) (Qs m c) (setOn_whole_sub (rQh_sub 0 3))) $$ H7; iintro H7
  rw [WP, wp_ret]
  imodintro
  iapply Hk
  isplitl [HV0]; · iexact HV0
  isplitl [HV1]; · iexact HV1
  isplitl [H7]; · iexact H7
  isplitl [HO1]; · iexact HO1
  iexact HO2

theorem part13 (c : Dev nD) (v8 : BitVec 32) {Q : (Σ' (v438 : BitVec 32) (c2_i32_288 : BitVec 32) (v439 : BitVec 32), BitVec 32) → sProp 𝕄} :
    REC (F := F) m K ⊢ iprop(pt (c) cc0_scratch0 (rV 0 0).set (KV m c) -∗ pt (c) cc0_scratch0 (rV 1 0).set (KV m c) -∗ (∃ f, pt (c) cc0_scratch10 (rOh 0 0 3).set f) -∗ (∀ (w_v438 : BitVec 32) (w_c2_i32_288 : BitVec 32) (w_v439 : BitVec 32) (w_wlast : BitVec 32), (pt (c) cc0_scratch0 (rV 0 0).set (KV m c) ∗ pt (c) cc0_scratch0 (rV 1 0).set (KV m c) ∗ pt (c) cc0_scratch10 (rOh 0 0 3).set (OB m c)) -∗ Q ⟨w_v438, w_c2_i32_288, w_v439, w_wlast⟩)
      -∗ WP c (onW (k0_part13 (F := F)) v8 (lKr m c 0) (lQr m c 0) (lQ m c 0 3)) Q) := by
  rw [k0_part13_eq_skeleton]
  unfold k0_part13_skel
  simp only [semSignalWord, semWaitWord, Prog.lift, Prog.bind_op, Prog.bind_ret, Prog.pure_eq_ret, wp_deviceId]
  iintro #HR HV0 HV1 ⟨%fHO3, HO3⟩ Hk
  iapply (step_load c (Memref.whole cc0_scratch0) (r := rVh 0 0 3) (S := (rV 0 0).set) (q := fullShare) (KV m c) (setOn_whole_sub (rVh_sub 0 0 3))) $$ HV0; iintro HV0
  iapply (step_load c (Memref.whole cc0_scratch0) (r := rVh 1 0 3) (S := (rV 1 0).set) (q := fullShare) (KV m c) (setOn_whole_sub (rVh_sub 1 0 3))) $$ HV1; iintro HV1
  iapply (step_load c (Memref.whole cc0_scratch10) (r := rOh 0 0 3) (S := (rOh 0 0 3).set) (q := fullShare) (fHO3) (setOn_whole_sub (Finset.Subset.refl _))) $$ HO3; iintro HO3
  iapply (step_store c (Memref.whole cc0_scratch10) (r := rOh 0 0 3) (S := (rOh 0 0 3).set) (OB m c) (View.set_slice_whole _ _) (read_OB m c 0 3)) $$ HO3; iintro HO3
  rw [WP, wp_ret]
  imodintro
  iapply Hk
  isplitl [HV0]; · iexact HV0
  isplitl [HV1]; · iexact HV1
  iexact HO3

theorem part14 (c : Dev nD) (v438 : BitVec 32) (c2_i32_288 : BitVec 32) (v439 : BitVec 32) (v444 : BitVec 32) {Q : (Σ' (v455 : BitVec 32), BitVec 32) → sProp 𝕄} :
    REC (F := F) m K ⊢ iprop((∀ (w_v455 : BitVec 32) (w_wlast : BitVec 32), Q ⟨w_v455, w_wlast⟩)
      -∗ WP c (onW (k0_part14 (F := F)) v438 c2_i32_288 v439 v444) Q) := by
  rw [k0_part14_eq_skeleton]
  unfold k0_part14_skel
  simp only [semSignalWord, semWaitWord, Prog.lift, Prog.bind_op, Prog.bind_ret, Prog.pure_eq_ret, wp_deviceId]
  iintro #HR  Hk
  rw [WP, wp_ret]
  imodintro
  iapply Hk

theorem part15 (c : Dev nD) (v8 : BitVec 32) {Q : (Σ' (v497 : BitVec 32) (v514 : BitVec 32) (c2_i32_328 : BitVec 32) (v515 : BitVec 32) (v520 : BitVec 32), BitVec 32) → sProp 𝕄} :
    REC (F := F) m K ⊢ iprop(ptq (shO 1) (c) cc0_scratch10 (rO 0 0).set (OB m c) -∗ (∃ f, pt (nb 1 c) cc0_scratch10 (rO 1 0).set f) -∗ tk c 7 -∗ tk (nb 1 c) 13 -∗ ow c 6 -∗ (∀ (w_v497 : BitVec 32) (w_v514 : BitVec 32) (w_c2_i32_328 : BitVec 32) (w_v515 : BitVec 32) (w_v520 : BitVec 32) (w_wlast : BitVec 32), (cr c 7 ∗ ow c 5) -∗ Q ⟨w_v497, w_v514, w_c2_i32_328, w_v515, w_v520, w_wlast⟩)
      -∗ WP c (onW (k0_part15 (F := F)) (c) v8) Q) := by
  rw [k0_part15_eq_skeleton]
  unfold k0_part15_skel
  simp only [semSignalWord, semWaitWord, Prog.lift, Prog.bind_op, Prog.bind_ret, Prog.pure_eq_ret, wp_deviceId]
  iintro #HR HA HB Hts Htr HO Hk
  iapply (send_o10 m K c (dev7_eq c) rfl rfl) $$ HR HA HB Hts Htr HO; iintro ⟨Hc7, HO⟩
  rw [WP, wp_ret]
  imodintro
  iapply Hk
  isplitl [Hc7]; · iexact Hc7
  iexact HO

theorem part16 (c : Dev nD) (v8 : BitVec 32) (v497 : BitVec 32) (v514 : BitVec 32) (c2_i32_328 : BitVec 32) (v515 : BitVec 32) (v520 : BitVec 32) (v522 : BitVec 32) {Q : (Σ' (v533 : BitVec 32) (v556 : BitVec 32) (c2_i32_354 : BitVec 32) (v557 : BitVec 32), BitVec 32) → sProp 𝕄} :
    REC (F := F) m K ⊢ iprop(ptq (shO 2) (c) cc0_scratch10 (rO 0 0).set (OB m c) -∗ (∃ f, pt (nb 2 c) cc0_scratch10 (rO 2 0).set f) -∗ tk c 9 -∗ tk (nb 2 c) 15 -∗ ow c 5 -∗ (∀ (w_v533 : BitVec 32) (w_v556 : BitVec 32) (w_c2_i32_354 : BitVec 32) (w_v557 : BitVec 32) (w_wlast : BitVec 32), (cr c 9 ∗ ow c 4) -∗ Q ⟨w_v533, w_v556, w_c2_i32_354, w_v557, w_wlast⟩)
      -∗ WP c (onW (k0_part16 (F := F)) (c) v8 v497 v514 c2_i32_328 v515 v520 v522) Q) := by
  rw [k0_part16_eq_skeleton]
  unfold k0_part16_skel
  simp only [semSignalWord, semWaitWord, Prog.lift, Prog.bind_op, Prog.bind_ret, Prog.pure_eq_ret, wp_deviceId]
  iintro #HR HA HB Hts Htr HO Hk
  iapply (send_o20 m K c (dev8_eq c) rfl rfl) $$ HR HA HB Hts Htr HO; iintro ⟨Hc9, HO⟩
  rw [WP, wp_ret]
  imodintro
  iapply Hk
  isplitl [Hc9]; · iexact Hc9
  iexact HO

theorem part17 (c : Dev nD) (v556 : BitVec 32) (c2_i32_354 : BitVec 32) (v557 : BitVec 32) (c0_i32_355 : BitVec 32) {Q : (Σ' (v573 : BitVec 32), BitVec 32) → sProp 𝕄} :
    REC (F := F) m K ⊢ iprop((∀ (w_v573 : BitVec 32) (w_wlast : BitVec 32), Q ⟨w_v573, w_wlast⟩)
      -∗ WP c (onW (k0_part17 (F := F)) v556 c2_i32_354 v557 c0_i32_355) Q) := by
  rw [k0_part17_eq_skeleton]
  unfold k0_part17_skel
  simp only [semSignalWord, semWaitWord, Prog.lift, Prog.bind_op, Prog.bind_ret, Prog.pure_eq_ret, wp_deviceId]
  iintro #HR  Hk
  rw [WP, wp_ret]
  imodintro
  iapply Hk

theorem part18 (c : Dev nD) {Q : (Σ' (v622 : FVec F S512x512 .f32), FVec F S512x512 .f32) → sProp 𝕄} :
    REC (F := F) m K ⊢ iprop(ptq (shO 3) (c) cc0_scratch10 (rO 0 0).set (OB m c) -∗ (∃ f, pt (nb 3 c) cc0_scratch10 (rO 3 0).set f) -∗ tk c 11 -∗ tk (nb 3 c) 17 -∗ ow c 4 -∗ (∃ f, pt (c) cc0_scratch7 (rQb 1).set f) -∗ (∃ f, pt (c) cc0_scratch8 (rCb 1).set f) -∗ (∃ f, pt (c) cc0_scratch9 (rKb 1).set f) -∗ ptq (fullShare.right) (c) cc0_scratch1 (rCb 1).set (CS m c) -∗ ((cr c 11 ∗ ow c 3 ∗ pt (c) cc0_scratch7 (rQb 1).set (Qs m c) ∗ pt (c) cc0_scratch8 (rCb 1).set (Rs m c) ∗ pt (c) cc0_scratch9 (rKb 1).set (Ks m c) ∗ ptq (fullShare.right) (c) cc0_scratch1 (rCb 1).set (CS m c)) -∗ Q ⟨k0_pay31 (V274 m c) (rd cc0_scratch1 (rCb 1) (CS m c)), k0_pay32 (V279 m c) (rd cc0_scratch1 (rCb 1) (CS m c))⟩)
      -∗ WP c (onW (k0_part18 (F := F)) (c) (V47 m c) (k0_pay6 (V263 m c)) (k0_pay7 (V265 m c)) (V269 m c) (V274 m c) (V279 m c)) Q) := by
  rw [k0_part18_eq_skeleton]
  unfold k0_part18_skel
  simp only [semSignalWord, semWaitWord, Prog.lift, Prog.bind_op, Prog.bind_ret, Prog.pure_eq_ret, wp_deviceId]
  iintro #HR HA HB Hts Htr HO ⟨%fH7, H7⟩ ⟨%fH8, H8⟩ ⟨%fH9, H9⟩ H1R Hk
  iapply (send_o30 m K c (dev9_eq c) rfl rfl) $$ HR HA HB Hts Htr HO; iintro ⟨Hc11, HO⟩
  iapply (step_load c (Memref.whole cc0_scratch7) (r := rQb 1) (S := (rQb 1).set) (q := fullShare) (fH7) (setOn_whole_sub (Finset.Subset.refl _))) $$ H7; iintro H7
  iapply (step_store c (Memref.whole cc0_scratch7) (r := rQb 1) (S := (rQb 1).set) (Qs m c) (View.set_slice_whole _ _) (read_Qs m c 1)) $$ H7; iintro H7
  iapply (step_load c (Memref.whole cc0_scratch8) (r := rCb 1) (S := (rCb 1).set) (q := fullShare) (fH8) (setOn_whole_sub (Finset.Subset.refl _))) $$ H8; iintro H8
  iapply (step_store c (Memref.whole cc0_scratch8) (r := rCb 1) (S := (rCb 1).set) (Rs m c) (View.set_slice_whole _ _) (read_Rs m c 1)) $$ H8; iintro H8
  iapply (step_load c (Memref.whole cc0_scratch9) (r := rKb 1) (S := (rKb 1).set) (q := fullShare) (fH9) (setOn_whole_sub (Finset.Subset.refl _))) $$ H9; iintro H9
  iapply (step_store c (Memref.whole cc0_scratch9) (r := rKb 1) (S := (rKb 1).set) (Ks m c) (View.set_slice_whole _ _) (read_Ks m c 1)) $$ H9; iintro H9
  iapply (step_load c (Memref.whole cc0_scratch1) (r := rCb 1) (S := (rCb 1).set) (q := fullShare.right) (CS m c) (setOn_whole_sub (Finset.Subset.refl _))) $$ H1R; iintro H1R
  iapply (step_load c (Memref.whole cc0_scratch1) (r := rCb 1) (S := (rCb 1).set) (q := fullShare.right) (CS m c) (setOn_whole_sub (Finset.Subset.refl _))) $$ H1R; iintro H1R
  rw [WP, wp_ret]
  imodintro
  iapply Hk
  isplitl [Hc11]; · iexact Hc11
  isplitl [HO]; · iexact HO
  isplitl [H7]; · iexact H7
  isplitl [H8]; · iexact H8
  isplitl [H9]; · iexact H9
  iexact H1R

end Cert.KProof

end
-- ==== Proof.BodyC.lean ====
/-
# 01_k — the second half of the rows: keys, values, the four heads, and the result sent round the ring
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

theorem part19 (c : Dev nD) (v5 : BitVec 32) (v246 : BitVec 32) {Q : (PUnit) → sProp 𝕄} :
    REC (F := F) m K ⊢ iprop(cr c 3 -∗ atr c 3 0 -∗ cr c 4 -∗ atr c 4 0 -∗ ow c 3 -∗ pt (c) cc0_scratch4 Finset.univ (WR m c) -∗ (∃ f, pt (c) cc0_scratch0 (rV 0 1).set f) -∗ (∃ f, pt (c) cc0_scratch0 (rV 1 1).set f) -∗ ((dn c 3 ∗ ptq (fullShare.left) (c) cc0_scratch1 (rCb 1).set (CS m c) ∗ dn c 4 ∗ ow c 3 ∗ pt (c) cc0_scratch2 (rCb 1).set (CR m c) ∗ pt (c) cc0_scratch4 Finset.univ (WR m c) ∗ pt (c) cc0_scratch0 (rV 0 1).set (KV m c) ∗ pt (c) cc0_scratch0 (rV 1 1).set (KV m c)) -∗ Q ⟨⟩)
      -∗ WP c (onW (k0_part19 (F := F)) v5 v246 (k0_pay31 (V274 m c) (rd cc0_scratch1 (rCb 1) (CS m c))) (k0_pay32 (V279 m c) (rd cc0_scratch1 (rCb 1) (CS m c)))) Q) := by
  rw [k0_part19_eq_skeleton]
  unfold k0_part19_skel
  simp only [semSignalWord, semWaitWord, Prog.lift, Prog.bind_op, Prog.bind_ret, Prog.pure_eq_ret, wp_deviceId]
  iintro #HR Hc3 Ha3 Hc4 Ha4 HO H4 ⟨%fHV0, HV0⟩ ⟨%fHV1, HV1⟩ Hk
  iapply (wait_last m K c 3 3 0 (P := iprop(ptq (fullShare.left) (c) cc0_scratch1 (rCb 1).set (CS m c))) rfl (by decide) rfl (by decide) (dut_end (by decide)) (by decide)) $$ HR Hc3 Ha3 HO; iintro ⟨Hd3, HO, H1L⟩
  iapply (wait_last m K c 4 3 0 (P := iprop(pt (c) cc0_scratch2 (rCb 1).set (CR m c))) rfl (by decide) rfl (by decide) (dut_end (by decide)) (by decide)) $$ HR Hc4 Ha4 HO; iintro ⟨Hd4, HO, H2⟩
  iapply (step_load c (Memref.whole cc0_scratch2) (r := rCb 1) (S := (rCb 1).set) (q := fullShare) (CR m c) (setOn_whole_sub (Finset.Subset.refl _))) $$ H2; iintro H2
  iapply (step_load c (Memref.whole cc0_scratch4) (r := rW 0) (S := Finset.univ) (q := fullShare) (WR m c) (setOn_whole_sub (Finset.subset_univ _))) $$ H4; iintro H4
  iapply (step_load c (Memref.whole cc0_scratch0) (r := rV 0 1) (S := (rV 0 1).set) (q := fullShare) (fHV0) (setOn_whole_sub (Finset.Subset.refl _))) $$ HV0; iintro HV0
  iapply (step_store c (Memref.whole cc0_scratch0) (r := rV 0 1) (S := (rV 0 1).set) (KV m c) (View.set_slice_whole _ _) (read_KV m c 0 1)) $$ HV0; iintro HV0
  iapply (step_load c (Memref.whole cc0_scratch2) (r := rCb 1) (S := (rCb 1).set) (q := fullShare) (CR m c) (setOn_whole_sub (Finset.Subset.refl _))) $$ H2; iintro H2
  iapply (step_load c (Memref.whole cc0_scratch4) (r := rW 1) (S := Finset.univ) (q := fullShare) (WR m c) (setOn_whole_sub (Finset.subset_univ _))) $$ H4; iintro H4
  iapply (step_load c (Memref.whole cc0_scratch0) (r := rV 1 1) (S := (rV 1 1).set) (q := fullShare) (fHV1) (setOn_whole_sub (Finset.Subset.refl _))) $$ HV1; iintro HV1
  iapply (step_store c (Memref.whole cc0_scratch0) (r := rV 1 1) (S := (rV 1 1).set) (KV m c) (View.set_slice_whole _ _) (read_KV m c 1 1)) $$ HV1; iintro HV1
  rw [WP, wp_ret]
  imodintro
  iapply Hk
  isplitl [Hd3]; · iexact Hd3
  isplitl [H1L]; · iexact H1L
  isplitl [Hd4]; · iexact Hd4
  isplitl [HO]; · iexact HO
  isplitl [H2]; · iexact H2
  isplitl [H4]; · iexact H4
  isplitl [HV0]; · iexact HV0
  iexact HV1

theorem part20 (c : Dev nD) {Q : (Σ' (v655 : Vec F S512x32 .bf16) (v656 : Vec F S512x128 .bf16), FVec F S512x512 .f32) → sProp 𝕄} :
    REC (F := F) m K ⊢ iprop(pt (c) cc0_scratch9 (rKb 1).set (Ks m c) -∗ pt (c) cc0_scratch8 (rCb 1).set (Rs m c) -∗ pt (c) cc0_scratch7 (rQb 1).set (Qs m c) -∗ pt (c) cc0_scratch0 (rV 0 1).set (KV m c) -∗ pt (c) cc0_scratch0 (rV 1 1).set (KV m c) -∗ (∃ f, pt (c) cc0_scratch10 (rOh 0 1 0).set f) -∗ ((pt (c) cc0_scratch9 (rKb 1).set (Ks m c) ∗ pt (c) cc0_scratch8 (rCb 1).set (Rs m c) ∗ pt (c) cc0_scratch7 (rQb 1).set (Qs m c) ∗ pt (c) cc0_scratch0 (rV 0 1).set (KV m c) ∗ pt (c) cc0_scratch0 (rV 1 1).set (KV m c) ∗ pt (c) cc0_scratch10 (rOh 0 1 0).set (OB m c)) -∗ Q ⟨lKr m c 1, lQr m c 1, k0_pay36 (lKr m c 1) (lQr m c 1) (lQ m c 1 1) (lV m c 0 1 1)⟩)
      -∗ WP c (onW (k0_part20 (F := F)) ) Q) := by
  rw [k0_part20_eq_skeleton]
  unfold k0_part20_skel
  simp only [semSignalWord, semWaitWord, Prog.lift, Prog.bind_op, Prog.bind_ret, Prog.pure_eq_ret, wp_deviceId]
  iintro #HR H9 H8 H7 HV0 HV1 ⟨%fHO0, HO0⟩ Hk
  iapply (step_load c (Memref.whole cc0_scratch9) (r := rKb 1) (S := (rKb 1).set) (q := fullShare) (Ks m c) (setOn_whole_sub (Finset.Subset.refl _))) $$ H9; iintro H9
  iapply (step_load c (Memref.whole cc0_scratch8) (r := rCb 1) (S := (rCb 1).set) (q := fullShare) (Rs m c) (setOn_whole_sub (Finset.Subset.refl _))) $$ H8; iintro H8
  iapply (step_load c (Memref.whole cc0_scratch7) (r := rQh 1 0) (S := (rQb 1).set) (q := fullShare) (Qs m c) (setOn_whole_sub (rQh_sub 1 0))) $$ H7; iintro H7
  iapply (step_load c (Memref.whole cc0_scratch0) (r := rVh 0 1 0) (S := (rV 0 1).set) (q := fullShare) (KV m c) (setOn_whole_sub (rVh_sub 0 1 0))) $$ HV0; iintro HV0
  iapply (step_load c (Memref.whole cc0_scratch0) (r := rVh 1 1 0) (S := (rV 1 1).set) (q := fullShare) (KV m c) (setOn_whole_sub (rVh_sub 1 1 0))) $$ HV1; iintro HV1
  iapply (step_load c (Memref.whole cc0_scratch10) (r := rOh 0 1 0) (S := (rOh 0 1 0).set) (q := fullShare) (fHO0) (setOn_whole_sub (Finset.Subset.refl _))) $$ HO0; iintro HO0
  iapply (step_store c (Memref.whole cc0_scratch10) (r := rOh 0 1 0) (S := (rOh 0 1 0).set) (OB m c) (View.set_slice_whole _ _) (read_OB m c 1 0)) $$ HO0; iintro HO0
  iapply (step_load c (Memref.whole cc0_scratch7) (r := rQh 1 1) (S := (rQb 1).set) (q := fullShare) (Qs m c) (setOn_whole_sub (rQh_sub 1 1))) $$ H7; iintro H7
  iapply (step_load c (Memref.whole cc0_scratch0) (r := rVh 0 1 1) (S := (rV 0 1).set) (q := fullShare) (KV m c) (setOn_whole_sub (rVh_sub 0 1 1))) $$ HV0; iintro HV0
  rw [WP, wp_ret]
  imodintro
  iapply Hk
  isplitl [H9]; · iexact H9
  isplitl [H8]; · iexact H8
  isplitl [H7]; · iexact H7
  isplitl [HV0]; · iexact HV0
  isplitl [HV1]; · iexact HV1
  iexact HO0

theorem part21 (c : Dev nD) {Q : (FVec F S1x512x128 .bf16) → sProp 𝕄} :
    REC (F := F) m K ⊢ iprop(pt (c) cc0_scratch7 (rQb 1).set (Qs m c) -∗ pt (c) cc0_scratch0 (rV 0 1).set (KV m c) -∗ pt (c) cc0_scratch0 (rV 1 1).set (KV m c) -∗ (∃ f, pt (c) cc0_scratch10 (rOh 0 1 1).set f) -∗ (∃ f, pt (c) cc0_scratch10 (rOh 0 1 2).set f) -∗ ((pt (c) cc0_scratch7 (rQb 1).set (Qs m c) ∗ pt (c) cc0_scratch0 (rV 0 1).set (KV m c) ∗ pt (c) cc0_scratch0 (rV 1 1).set (KV m c) ∗ pt (c) cc0_scratch10 (rOh 0 1 1).set (OB m c) ∗ (∃ f, pt (c) cc0_scratch10 (rOh 0 1 2).set f)) -∗ Q (k0_pay38 (lKr m c 1) (lQr m c 1) (lQ m c 1 2) (lV m c 0 1 2) (lV m c 1 1 2)))
      -∗ WP c (onW (k0_part21 (F := F)) (lKr m c 1) (lQr m c 1) (k0_pay36 (lKr m c 1) (lQr m c 1) (lQ m c 1 1) (lV m c 0 1 1))) Q) := by
  rw [k0_part21_eq_skeleton]
  unfold k0_part21_skel
  simp only [semSignalWord, semWaitWord, Prog.lift, Prog.bind_op, Prog.bind_ret, Prog.pure_eq_ret, wp_deviceId]
  iintro #HR H7 HV0 HV1 ⟨%fHO1, HO1⟩ ⟨%fHO2, HO2⟩ Hk
  iapply (step_load c (Memref.whole cc0_scratch0) (r := rVh 1 1 1) (S := (rV 1 1).set) (q := fullShare) (KV m c) (setOn_whole_sub (rVh_sub 1 1 1))) $$ HV1; iintro HV1
  iapply (step_load c (Memref.whole cc0_scratch10) (r := rOh 0 1 1) (S := (rOh 0 1 1).set) (q := fullShare) (fHO1) (setOn_whole_sub (Finset.Subset.refl _))) $$ HO1; iintro HO1
  iapply (step_store c (Memref.whole cc0_scratch10) (r := rOh 0 1 1) (S := (rOh 0 1 1).set) (OB m c) (View.set_slice_whole _ _) (read_OB m c 1 1)) $$ HO1; iintro HO1
  iapply (step_load c (Memref.whole cc0_scratch7) (r := rQh 1 2) (S := (rQb 1).set) (q := fullShare) (Qs m c) (setOn_whole_sub (rQh_sub 1 2))) $$ H7; iintro H7
  iapply (step_load c (Memref.whole cc0_scratch0) (r := rVh 0 1 2) (S := (rV 0 1).set) (q := fullShare) (KV m c) (setOn_whole_sub (rVh_sub 0 1 2))) $$ HV0; iintro HV0
  iapply (step_load c (Memref.whole cc0_scratch0) (r := rVh 1 1 2) (S := (rV 1 1).set) (q := fullShare) (KV m c) (setOn_whole_sub (rVh_sub 1 1 2))) $$ HV1; iintro HV1
  iapply (step_load c (Memref.whole cc0_scratch10) (r := rOh 0 1 2) (S := (rOh 0 1 2).set) (q := fullShare) (fHO2) (setOn_whole_sub (Finset.Subset.refl _))) $$ HO2; iintro HO2
  rw [WP, wp_ret]
  imodintro
  iapply Hk
  isplitl [H7]; · iexact H7
  isplitl [HV0]; · iexact HV0
  isplitl [HV1]; · iexact HV1
  isplitl [HO1]; · iexact HO1
  iexists fHO2
  iexact HO2

theorem part22 (c : Dev nD) (v8 : BitVec 32) {Q : (Σ' (v755 : BitVec 32) (c2_i32_503 : BitVec 32), BitVec 32) → sProp 𝕄} :
    REC (F := F) m K ⊢ iprop(pt (c) cc0_scratch7 (rQb 1).set (Qs m c) -∗ pt (c) cc0_scratch0 (rV 0 1).set (KV m c) -∗ pt (c) cc0_scratch0 (rV 1 1).set (KV m c) -∗ (∃ f, pt (c) cc0_scratch10 (rOh 0 1 2).set f) -∗ (∃ f, pt (c) cc0_scratch10 (rOh 0 1 3).set f) -∗ (∀ (w_v755 : BitVec 32) (w_c2_i32_503 : BitVec 32) (w_wlast : BitVec 32), (pt (c) cc0_scratch7 (rQb 1).set (Qs m c) ∗ pt (c) cc0_scratch0 (rV 0 1).set (KV m c) ∗ pt (c) cc0_scratch0 (rV 1 1).set (KV m c) ∗ pt (c) cc0_scratch10 (rOh 0 1 2).set (OB m c) ∗ pt (c) cc0_scratch10 (rOh 0 1 3).set (OB m c)) -∗ Q ⟨w_v755, w_c2_i32_503, w_wlast⟩)
      -∗ WP c (onW (k0_part22 (F := F)) v8 (lKr m c 1) (lQr m c 1) (k0_pay38 (lKr m c 1) (lQr m c 1) (lQ m c 1 2) (lV m c 0 1 2) (lV m c 1 1 2))) Q) := by
  rw [k0_part22_eq_skeleton]
  unfold k0_part22_skel
  simp only [semSignalWord, semWaitWord, Prog.lift, Prog.bind_op, Prog.bind_ret, Prog.pure_eq_ret, wp_deviceId]
  iintro #HR H7 HV0 HV1 ⟨%fHO2, HO2⟩ ⟨%fHO3, HO3⟩ Hk
  iapply (step_store c (Memref.whole cc0_scratch10) (r := rOh 0 1 2) (S := (rOh 0 1 2).set) (OB m c) (View.set_slice_whole _ _) (read_OB m c 1 2)) $$ HO2; iintro HO2
  iapply (step_load c (Memref.whole cc0_scratch7) (r := rQh 1 3) (S := (rQb 1).set) (q := fullShare) (Qs m c) (setOn_whole_sub (rQh_sub 1 3))) $$ H7; iintro H7
  iapply (step_load c (Memref.whole cc0_scratch0) (r := rVh 0 1 3) (S := (rV 0 1).set) (q := fullShare) (KV m c) (setOn_whole_sub (rVh_sub 0 1 3))) $$ HV0; iintro HV0
  iapply (step_load c (Memref.whole cc0_scratch0) (r := rVh 1 1 3) (S := (rV 1 1).set) (q := fullShare) (KV m c) (setOn_whole_sub (rVh_sub 1 1 3))) $$ HV1; iintro HV1
  iapply (step_load c (Memref.whole cc0_scratch10) (r := rOh 0 1 3) (S := (rOh 0 1 3).set) (q := fullShare) (fHO3) (setOn_whole_sub (Finset.Subset.refl _))) $$ HO3; iintro HO3
  iapply (step_store c (Memref.whole cc0_scratch10) (r := rOh 0 1 3) (S := (rOh 0 1 3).set) (OB m c) (View.set_slice_whole _ _) (read_OB m c 1 3)) $$ HO3; iintro HO3
  rw [WP, wp_ret]
  imodintro
  iapply Hk
  isplitl [H7]; · iexact H7
  isplitl [HV0]; · iexact HV0
  isplitl [HV1]; · iexact HV1
  isplitl [HO2]; · iexact HO2
  iexact HO3

theorem part23 (c : Dev nD) (v755 : BitVec 32) (c2_i32_503 : BitVec 32) (v756 : BitVec 32) {Q : (Σ' (v772 : BitVec 32), BitVec 32) → sProp 𝕄} :
    REC (F := F) m K ⊢ iprop((∀ (w_v772 : BitVec 32) (w_wlast : BitVec 32), Q ⟨w_v772, w_wlast⟩)
      -∗ WP c (onW (k0_part23 (F := F)) v755 c2_i32_503 v756) Q) := by
  rw [k0_part23_eq_skeleton]
  unfold k0_part23_skel
  simp only [semSignalWord, semWaitWord, Prog.lift, Prog.bind_op, Prog.bind_ret, Prog.pure_eq_ret, wp_deviceId]
  iintro #HR  Hk
  rw [WP, wp_ret]
  imodintro
  iapply Hk

theorem part24 (c : Dev nD) (v8 : BitVec 32) {Q : (Σ' (v814 : BitVec 32) (v831 : BitVec 32) (c2_i32_543 : BitVec 32) (v832 : BitVec 32), BitVec 32) → sProp 𝕄} :
    REC (F := F) m K ⊢ iprop(ptq (shO 1) (c) cc0_scratch10 (rO 0 1).set (OB m c) -∗ (∃ f, pt (nb 1 c) cc0_scratch10 (rO 1 1).set f) -∗ tk c 8 -∗ tk (nb 1 c) 14 -∗ ow c 3 -∗ (∀ (w_v814 : BitVec 32) (w_v831 : BitVec 32) (w_c2_i32_543 : BitVec 32) (w_v832 : BitVec 32) (w_wlast : BitVec 32), (cr c 8 ∗ ow c 2) -∗ Q ⟨w_v814, w_v831, w_c2_i32_543, w_v832, w_wlast⟩)
      -∗ WP c (onW (k0_part24 (F := F)) (c) v8) Q) := by
  rw [k0_part24_eq_skeleton]
  unfold k0_part24_skel
  simp only [semSignalWord, semWaitWord, Prog.lift, Prog.bind_op, Prog.bind_ret, Prog.pure_eq_ret, wp_deviceId]
  iintro #HR HA HB Hts Htr HO Hk
  iapply (send_o11 m K c (dev10_eq c) rfl rfl) $$ HR HA HB Hts Htr HO; iintro ⟨Hc8, HO⟩
  rw [WP, wp_ret]
  imodintro
  iapply Hk
  isplitl [Hc8]; · iexact Hc8
  iexact HO

theorem part25 (c : Dev nD) (v8 : BitVec 32) (v814 : BitVec 32) (v831 : BitVec 32) (c2_i32_543 : BitVec 32) (v832 : BitVec 32) (v834 : BitVec 32) {Q : (Σ' (v850 : BitVec 32) (v865 : BitVec 32) (v866 : BitVec 32) (v867 : BitVec 1) (v868 : BitVec 1), BitVec 1) → sProp 𝕄} :
    REC (F := F) m K ⊢ iprop(ptq (shO 2) (c) cc0_scratch10 (rO 0 1).set (OB m c) -∗ (∃ f, pt (nb 2 c) cc0_scratch10 (rO 2 1).set f) -∗ tk c 10 -∗ tk (nb 2 c) 16 -∗ ow c 2 -∗ (∀ (w_v850 : BitVec 32) (w_v865 : BitVec 32) (w_v866 : BitVec 32) (w_v867 : BitVec 1) (w_v868 : BitVec 1) (w_wlast : BitVec 1), (cr c 10 ∗ ow c 1) -∗ Q ⟨w_v850, w_v865, w_v866, w_v867, w_v868, w_wlast⟩)
      -∗ WP c (onW (k0_part25 (F := F)) (c) v8 v814 v831 c2_i32_543 v832 v834) Q) := by
  rw [k0_part25_eq_skeleton]
  unfold k0_part25_skel
  simp only [semSignalWord, semWaitWord, Prog.lift, Prog.bind_op, Prog.bind_ret, Prog.pure_eq_ret, wp_deviceId]
  iintro #HR HA HB Hts Htr HO Hk
  iapply (send_o21 m K c (dev11_eq c) rfl rfl) $$ HR HA HB Hts Htr HO; iintro ⟨Hc10, HO⟩
  rw [WP, wp_ret]
  imodintro
  iapply Hk
  isplitl [Hc10]; · iexact Hc10
  iexact HO

theorem part26 (c : Dev nD) (v865 : BitVec 32) (v866 : BitVec 32) (v867 : BitVec 1) (v868 : BitVec 1) (v869 : BitVec 1) {Q : (Σ' (v890 : BitVec 32) (v909 : BitVec 32), BitVec 32) → sProp 𝕄} :
    REC (F := F) m K ⊢ iprop((∀ (w_v890 : BitVec 32) (w_v909 : BitVec 32) (w_wlast : BitVec 32), Q ⟨w_v890, w_v909, w_wlast⟩)
      -∗ WP c (onW (k0_part26 (F := F)) v865 v866 v867 v868 v869) Q) := by
  rw [k0_part26_eq_skeleton]
  unfold k0_part26_skel
  simp only [semSignalWord, semWaitWord, Prog.lift, Prog.bind_op, Prog.bind_ret, Prog.pure_eq_ret, wp_deviceId]
  iintro #HR  Hk
  rw [WP, wp_ret]
  imodintro
  iapply Hk

end Cert.KProof

end
-- ==== Proof.BodyD.lean ====
/-
# 01_k — the four products with the output weight, and the waits for what the ring brings
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

theorem part27 (c : Dev nD) (v890 : BitVec 32) (v909 : BitVec 32) (c2_i32_587 : BitVec 32) {Q : (BitVec 32) → sProp 𝕄} :
    REC (F := F) m K ⊢ iprop(ptq (shO 3) (c) cc0_scratch10 (rO 0 1).set (OB m c) -∗ (∃ f, pt (nb 3 c) cc0_scratch10 (rO 3 1).set f) -∗ tk c 12 -∗ tk (nb 3 c) 18 -∗ ow c 1 -∗ cr c 19 -∗ atr c 19 0 -∗ (∃ f, pt (c) cc0_scratch12 (rS 0).set f) -∗ ptq (shKeep) (c) cc0_scratch10 rO0.set (OB m c) -∗ (∃ f, pt (c) cc0_stg5_0 Finset.univ f) -∗ (∀ (w : BitVec 32), (cr c 12 ∗ ow c 0 ∗ atr c 19 1 ∗ reached ER (kcell (c, 19)) 1 ∗ pt (c) cc0_scratch11 (rS 0).set (WOB m c 0) ∗ ptq (fullShare.left) (c) main_arg7 (rA7 c 0).set (m ((c : Thread nD τ).loc main_arg7)) ∗ pt (c) cc0_scratch12 (rS 0).set (WBF m c 0) ∗ ptq (shKeep) (c) cc0_scratch10 rO0.set (OB m c) ∗ pt (c) cc0_stg5_0 Finset.univ (T0 m c)) -∗ Q w)
      -∗ WP c (onW (k0_part27 (F := F)) (c) v890 v909 c2_i32_587) Q) := by
  rw [k0_part27_eq_skeleton]
  unfold k0_part27_skel
  simp only [semSignalWord, semWaitWord, Prog.lift, Prog.bind_op, Prog.bind_ret, Prog.pure_eq_ret, wp_deviceId]
  iintro #HR HA HB Hts Htr HO Hc19 Ha19 ⟨%fH12, H12⟩ HOk ⟨%fHT, HT⟩ Hk
  iapply (send_o31 m K c (dev12_eq c) rfl rfl) $$ HR HA HB Hts Htr HO; iintro ⟨Hc12, HO⟩
  iapply (wait_mid m K c 19 0 0 (P := iprop(pt (c) cc0_scratch11 (rS 0).set (WOB m c 0) ∗ ptq (fullShare.left) (c) main_arg7 (rA7 c 0).set (m ((c : Thread nD τ).loc main_arg7)))) rfl (by decide) rfl (by decide) (by decide)) $$ HR Hc19 Ha19 HO; iintro ⟨Ha19, Hr19, HO, H11, HA7⟩
  iapply (step_load c (Memref.whole cc0_scratch11) (r := rS 0) (S := (rS 0).set) (q := fullShare) (WOB m c 0) (setOn_whole_sub (Finset.Subset.refl _))) $$ H11; iintro H11
  iapply (step_load c (Memref.whole cc0_scratch12) (r := rS 0) (S := (rS 0).set) (q := fullShare) (fH12) (setOn_whole_sub (Finset.Subset.refl _))) $$ H12; iintro H12
  iapply (step_store c (Memref.whole cc0_scratch12) (r := rS 0) (S := (rS 0).set) (WBF m c 0) (View.set_slice_whole _ _) (read_WBF m c 0 0)) $$ H12; iintro H12
  iapply (step_load c (Memref.whole cc0_scratch10) (r := rO0) (S := rO0.set) (q := shKeep) (OB m c) (setOn_whole_sub (Finset.Subset.refl _))) $$ HOk; iintro HOk
  iapply (step_load c (Memref.whole cc0_scratch12) (r := rS 0) (S := (rS 0).set) (q := fullShare) (WBF m c 0) (setOn_whole_sub (Finset.Subset.refl _))) $$ H12; iintro H12
  iapply (step_load c (Memref.whole cc0_stg5_0) (r := rT) (S := Finset.univ) (q := fullShare) (fHT) (setOn_whole_sub (Finset.subset_univ _))) $$ HT; iintro HT
  iapply (step_store c (Memref.whole cc0_stg5_0) (r := rT) (S := Finset.univ) (T0 m c) ((View.set_slice_whole _ _).trans set_rT) (read_T0 m c)) $$ HT; iintro HT
  rw [WP, wp_ret]
  imodintro
  iapply Hk
  isplitl [Hc12]; · iexact Hc12
  isplitl [HO]; · iexact HO
  isplitl [Ha19]; · iexact Ha19
  isplitl [Hr19]; · iexact Hr19
  isplitl [H11]; · iexact H11
  isplitl [HA7]; · iexact HA7
  isplitl [H12]; · iexact H12
  isplitl [HOk]; · iexact HOk
  iexact HT

theorem part28 (c : Dev nD) (v8 : BitVec 32) (c2_i32_614 : BitVec 32) {Q : (PUnit) → sProp 𝕄} :
    REC (F := F) m K ⊢ iprop(ptq (fullShare.left) (c) main_arg7 (rA7 c 2).set (m ((c : Thread nD τ).loc main_arg7)) -∗ (∃ f, pt (c) cc0_scratch11 (rS 0).set f) -∗ tkr c 19 1 -∗ reached ER (kcell (c, 19)) 1 -∗ ow c 0 -∗ cr c 20 -∗ atr c 20 0 -∗ (∃ f, pt (c) cc0_scratch12 (rS 1).set f) -∗ ((cr c 19 ∗ atr c 20 1 ∗ reached ER (kcell (c, 20)) 1 ∗ ow c 0 ∗ pt (c) cc0_scratch11 (rS 1).set (WOB m c 3) ∗ ptq (fullShare.right) (c) main_arg7 (rA7 c 3).set (m ((c : Thread nD τ).loc main_arg7)) ∗ pt (c) cc0_scratch12 (rS 1).set (WBF m c 3)) -∗ Q ⟨⟩)
      -∗ WP c (onW (k0_part28 (F := F)) (c) v8 c2_i32_614) Q) := by
  rw [k0_part28_eq_skeleton]
  unfold k0_part28_skel
  simp only [semSignalWord, semWaitWord, Prog.lift, Prog.bind_op, Prog.bind_ret, Prog.pure_eq_ret, wp_deviceId]
  iintro #HR HA7 H110 Ht #Hr HO Hc20 Ha20 ⟨%fH12, H12⟩ Hk
  iapply (copy_wo2 m K c rfl) $$ HR HA7 H110 Ht Hr; iintro Hc19
  iapply (wait_mid m K c 20 0 0 (P := iprop(pt (c) cc0_scratch11 (rS 1).set (WOB m c 3) ∗ ptq (fullShare.right) (c) main_arg7 (rA7 c 3).set (m ((c : Thread nD τ).loc main_arg7)))) rfl (by decide) rfl (by decide) (by decide)) $$ HR Hc20 Ha20 HO; iintro ⟨Ha20, Hr20, HO, H11, HA73⟩
  iapply (step_load c (Memref.whole cc0_scratch11) (r := rS 1) (S := (rS 1).set) (q := fullShare) (WOB m c 3) (setOn_whole_sub (Finset.Subset.refl _))) $$ H11; iintro H11
  iapply (step_load c (Memref.whole cc0_scratch12) (r := rS 1) (S := (rS 1).set) (q := fullShare) (fH12) (setOn_whole_sub (Finset.Subset.refl _))) $$ H12; iintro H12
  iapply (step_store c (Memref.whole cc0_scratch12) (r := rS 1) (S := (rS 1).set) (WBF m c 3) (View.set_slice_whole _ _) (read_WBF m c 1 3)) $$ H12; iintro H12
  rw [WP, wp_ret]
  imodintro
  iapply Hk
  isplitl [Hc19]; · iexact Hc19
  isplitl [Ha20]; · iexact Ha20
  isplitl [Hr20]; · iexact Hr20
  isplitl [HO]; · iexact HO
  isplitl [H11]; · iexact H11
  isplitl [HA73]; · iexact HA73
  iexact H12

theorem part29 (c : Dev nD) (v455 : BitVec 32) (v474 : BitVec 32) {Q : (PUnit) → sProp 𝕄} :
    REC (F := F) m K ⊢ iprop(cr c 7 -∗ atr c 7 0 -∗ cr c 13 -∗ atr c 13 0 -∗ ow c 0 -∗ pt (c) cc0_stg5_0 (rTb 0).set (T0 m c) -∗ pt (c) cc0_scratch12 (rS 1).set (WBF m c 3) -∗ ((dn c 7 ∗ ptq (shO 1) (c) cc0_scratch10 (rO 0 0).set (OB m c) ∗ dn c 13 ∗ pt (c) cc0_scratch10 (rO 1 0).set (OB m c) ∗ ow c 0 ∗ pt (c) cc0_stg5_0 (rTb 0).set (T1 m c) ∗ pt (c) cc0_scratch12 (rS 1).set (WBF m c 3)) -∗ Q ⟨⟩)
      -∗ WP c (onW (k0_part29 (F := F)) v455 v474) Q) := by
  rw [k0_part29_eq_skeleton]
  unfold k0_part29_skel
  simp only [semSignalWord, semWaitWord, Prog.lift, Prog.bind_op, Prog.bind_ret, Prog.pure_eq_ret, wp_deviceId]
  iintro #HR Hc7 Ha7 Hc13 Ha13 HO HT H12 Hk
  iapply (wait_last m K c 7 0 0 (P := iprop(ptq (shO 1) (c) cc0_scratch10 (rO 0 0).set (OB m c))) rfl (by decide) rfl (by decide) (dut_end (by decide)) (by decide)) $$ HR Hc7 Ha7 HO; iintro ⟨Hd7, HO, HOs⟩
  iapply (wait_last m K c 13 0 0 (P := iprop(pt (c) cc0_scratch10 (rO 1 0).set (OB m c))) rfl (by decide) rfl (by decide) (dut_end (by decide)) (by decide)) $$ HR Hc13 Ha13 HO; iintro ⟨Hd13, HO, HOr⟩
  iapply (step_load c (Memref.whole cc0_stg5_0) (r := rTb 0) (S := (rTb 0).set) (q := fullShare) (T0 m c) (setOn_whole_sub (Finset.Subset.refl _))) $$ HT; iintro HT
  iapply (step_load c (Memref.whole cc0_scratch10) (r := rO 1 0) (S := (rO 1 0).set) (q := fullShare) (OB m c) (setOn_whole_sub (Finset.Subset.refl _))) $$ HOr; iintro HOr
  iapply (step_load c (Memref.whole cc0_scratch12) (r := rS 1) (S := (rS 1).set) (q := fullShare) (WBF m c 3) (setOn_whole_sub (Finset.Subset.refl _))) $$ H12; iintro H12
  iapply (step_load c (Memref.whole cc0_stg5_0) (r := rTb 0) (S := (rTb 0).set) (q := fullShare) (T0 m c) (setOn_whole_sub (Finset.Subset.refl _))) $$ HT; iintro HT
  iapply (step_store c (Memref.whole cc0_stg5_0) (r := rTb 0) (S := (rTb 0).set) (T1 m c) (View.set_slice_whole _ _) (read_halves (T1b m c) 0)) $$ HT; iintro HT
  rw [WP, wp_ret]
  imodintro
  iapply Hk
  isplitl [Hd7]; · iexact Hd7
  isplitl [HOs]; · iexact HOs
  isplitl [Hd13]; · iexact Hd13
  isplitl [HOr]; · iexact HOr
  isplitl [HO]; · iexact HO
  isplitl [HT]; · iexact HT
  iexact H12

theorem part30 (c : Dev nD) (v8 : BitVec 32) (v772 : BitVec 32) (v791 : BitVec 32) {Q : (Σ' (v1019 : BitVec 32), BitVec 32) → sProp 𝕄} :
    REC (F := F) m K ⊢ iprop(cr c 8 -∗ atr c 8 0 -∗ cr c 14 -∗ atr c 14 0 -∗ ow c 0 -∗ pt (c) cc0_stg5_0 (rTb 1).set (T0 m c) -∗ pt (c) cc0_scratch12 (rS 1).set (WBF m c 3) -∗ (∀ (w_v1019 : BitVec 32) (w_wlast : BitVec 32), (dn c 8 ∗ ptq (shO 1) (c) cc0_scratch10 (rO 0 1).set (OB m c) ∗ dn c 14 ∗ pt (c) cc0_scratch10 (rO 1 1).set (OB m c) ∗ ow c 0 ∗ pt (c) cc0_stg5_0 (rTb 1).set (T1 m c) ∗ pt (c) cc0_scratch12 (rS 1).set (WBF m c 3)) -∗ Q ⟨w_v1019, w_wlast⟩)
      -∗ WP c (onW (k0_part30 (F := F)) v8 v772 v791) Q) := by
  rw [k0_part30_eq_skeleton]
  unfold k0_part30_skel
  simp only [semSignalWord, semWaitWord, Prog.lift, Prog.bind_op, Prog.bind_ret, Prog.pure_eq_ret, wp_deviceId]
  iintro #HR Hc8 Ha8 Hc14 Ha14 HO HT H12 Hk
  iapply (wait_last m K c 8 0 0 (P := iprop(ptq (shO 1) (c) cc0_scratch10 (rO 0 1).set (OB m c))) rfl (by decide) rfl (by decide) (dut_end (by decide)) (by decide)) $$ HR Hc8 Ha8 HO; iintro ⟨Hd8, HO, HOs⟩
  iapply (wait_last m K c 14 0 0 (P := iprop(pt (c) cc0_scratch10 (rO 1 1).set (OB m c))) rfl (by decide) rfl (by decide) (dut_end (by decide)) (by decide)) $$ HR Hc14 Ha14 HO; iintro ⟨Hd14, HO, HOr⟩
  iapply (step_load c (Memref.whole cc0_stg5_0) (r := rTb 1) (S := (rTb 1).set) (q := fullShare) (T0 m c) (setOn_whole_sub (Finset.Subset.refl _))) $$ HT; iintro HT
  iapply (step_load c (Memref.whole cc0_scratch10) (r := rO 1 1) (S := (rO 1 1).set) (q := fullShare) (OB m c) (setOn_whole_sub (Finset.Subset.refl _))) $$ HOr; iintro HOr
  iapply (step_load c (Memref.whole cc0_scratch12) (r := rS 1) (S := (rS 1).set) (q := fullShare) (WBF m c 3) (setOn_whole_sub (Finset.Subset.refl _))) $$ H12; iintro H12
  iapply (step_load c (Memref.whole cc0_stg5_0) (r := rTb 1) (S := (rTb 1).set) (q := fullShare) (T0 m c) (setOn_whole_sub (Finset.Subset.refl _))) $$ HT; iintro HT
  iapply (step_store c (Memref.whole cc0_stg5_0) (r := rTb 1) (S := (rTb 1).set) (T1 m c) (View.set_slice_whole _ _) (read_halves (T1b m c) 1)) $$ HT; iintro HT
  rw [WP, wp_ret]
  imodintro
  iapply Hk
  isplitl [Hd8]; · iexact Hd8
  isplitl [HOs]; · iexact HOs
  isplitl [Hd14]; · iexact Hd14
  isplitl [HOr]; · iexact HOr
  isplitl [HO]; · iexact HO
  isplitl [HT]; · iexact HT
  iexact H12

theorem part31 (c : Dev nD) (v1019 : BitVec 32) (v1020 : BitVec 32) {Q : (PUnit) → sProp 𝕄} :
    REC (F := F) m K ⊢ iprop(ptq (fullShare.right) (c) main_arg7 (rA7 c 1).set (m ((c : Thread nD τ).loc main_arg7)) -∗ (∃ f, pt (c) cc0_scratch11 (rS 1).set f) -∗ tkr c 20 1 -∗ reached ER (kcell (c, 20)) 1 -∗ ow c 0 -∗ cr c 19 -∗ atr c 19 1 -∗ (∃ f, pt (c) cc0_scratch12 (rS 0).set f) -∗ ((cr c 20 ∗ dn c 19 ∗ ow c 0 ∗ pt (c) cc0_scratch11 (rS 0).set (WOB m c 2) ∗ ptq (fullShare.left) (c) main_arg7 (rA7 c 2).set (m ((c : Thread nD τ).loc main_arg7)) ∗ pt (c) cc0_scratch12 (rS 0).set (WBF m c 2)) -∗ Q ⟨⟩)
      -∗ WP c (onW (k0_part31 (F := F)) (c) v1019 v1020) Q) := by
  rw [k0_part31_eq_skeleton]
  unfold k0_part31_skel
  simp only [semSignalWord, semWaitWord, Prog.lift, Prog.bind_op, Prog.bind_ret, Prog.pure_eq_ret, wp_deviceId]
  iintro #HR HA7 H111 Ht #Hr HO Hc19 Ha19 ⟨%fH12, H12⟩ Hk
  iapply (copy_wo1 m K c rfl) $$ HR HA7 H111 Ht Hr; iintro Hc20
  iapply (wait_last m K c 19 0 1 (P := iprop(pt (c) cc0_scratch11 (rS 0).set (WOB m c 2) ∗ ptq (fullShare.left) (c) main_arg7 (rA7 c 2).set (m ((c : Thread nD τ).loc main_arg7)))) rfl (by decide) rfl (by decide) dut_end2 (by decide)) $$ HR Hc19 Ha19 HO; iintro ⟨Hd19, HO, H11, HA72⟩
  iapply (step_load c (Memref.whole cc0_scratch11) (r := rS 0) (S := (rS 0).set) (q := fullShare) (WOB m c 2) (setOn_whole_sub (Finset.Subset.refl _))) $$ H11; iintro H11
  iapply (step_load c (Memref.whole cc0_scratch12) (r := rS 0) (S := (rS 0).set) (q := fullShare) (fH12) (setOn_whole_sub (Finset.Subset.refl _))) $$ H12; iintro H12
  iapply (step_store c (Memref.whole cc0_scratch12) (r := rS 0) (S := (rS 0).set) (WBF m c 2) (View.set_slice_whole _ _) (read_WBF m c 0 2)) $$ H12; iintro H12
  rw [WP, wp_ret]
  imodintro
  iapply Hk
  isplitl [Hc20]; · iexact Hc20
  isplitl [Hd19]; · iexact Hd19
  isplitl [HO]; · iexact HO
  isplitl [H11]; · iexact H11
  isplitl [HA72]; · iexact HA72
  iexact H12

theorem part32 (c : Dev nD) (v514 : BitVec 32) (v533 : BitVec 32) {Q : (PUnit) → sProp 𝕄} :
    REC (F := F) m K ⊢ iprop(cr c 9 -∗ atr c 9 0 -∗ cr c 15 -∗ atr c 15 0 -∗ ow c 0 -∗ pt (c) cc0_stg5_0 (rTb 0).set (T1 m c) -∗ pt (c) cc0_scratch12 (rS 0).set (WBF m c 2) -∗ ((dn c 9 ∗ ptq (shO 2) (c) cc0_scratch10 (rO 0 0).set (OB m c) ∗ dn c 15 ∗ pt (c) cc0_scratch10 (rO 2 0).set (OB m c) ∗ ow c 0 ∗ pt (c) cc0_stg5_0 (rTb 0).set (T2 m c) ∗ pt (c) cc0_scratch12 (rS 0).set (WBF m c 2)) -∗ Q ⟨⟩)
      -∗ WP c (onW (k0_part32 (F := F)) v514 v533) Q) := by
  rw [k0_part32_eq_skeleton]
  unfold k0_part32_skel
  simp only [semSignalWord, semWaitWord, Prog.lift, Prog.bind_op, Prog.bind_ret, Prog.pure_eq_ret, wp_deviceId]
  iintro #HR Hc9 Ha9 Hc15 Ha15 HO HT H12 Hk
  iapply (wait_last m K c 9 0 0 (P := iprop(ptq (shO 2) (c) cc0_scratch10 (rO 0 0).set (OB m c))) rfl (by decide) rfl (by decide) (dut_end (by decide)) (by decide)) $$ HR Hc9 Ha9 HO; iintro ⟨Hd9, HO, HOs⟩
  iapply (wait_last m K c 15 0 0 (P := iprop(pt (c) cc0_scratch10 (rO 2 0).set (OB m c))) rfl (by decide) rfl (by decide) (dut_end (by decide)) (by decide)) $$ HR Hc15 Ha15 HO; iintro ⟨Hd15, HO, HOr⟩
  iapply (step_load c (Memref.whole cc0_stg5_0) (r := rTb 0) (S := (rTb 0).set) (q := fullShare) (T1 m c) (setOn_whole_sub (Finset.Subset.refl _))) $$ HT; iintro HT
  iapply (step_load c (Memref.whole cc0_scratch10) (r := rO 2 0) (S := (rO 2 0).set) (q := fullShare) (OB m c) (setOn_whole_sub (Finset.Subset.refl _))) $$ HOr; iintro HOr
  iapply (step_load c (Memref.whole cc0_scratch12) (r := rS 0) (S := (rS 0).set) (q := fullShare) (WBF m c 2) (setOn_whole_sub (Finset.Subset.refl _))) $$ H12; iintro H12
  iapply (step_load c (Memref.whole cc0_stg5_0) (r := rTb 0) (S := (rTb 0).set) (q := fullShare) (T1 m c) (setOn_whole_sub (Finset.Subset.refl _))) $$ HT; iintro HT
  iapply (step_store c (Memref.whole cc0_stg5_0) (r := rTb 0) (S := (rTb 0).set) (T2 m c) (View.set_slice_whole _ _) (read_halves (T2b m c) 0)) $$ HT; iintro HT
  rw [WP, wp_ret]
  imodintro
  iapply Hk
  isplitl [Hd9]; · iexact Hd9
  isplitl [HOs]; · iexact HOs
  isplitl [Hd15]; · iexact Hd15
  isplitl [HOr]; · iexact HOr
  isplitl [HO]; · iexact HO
  isplitl [HT]; · iexact HT
  iexact H12

theorem part33 (c : Dev nD) (v831 : BitVec 32) (v850 : BitVec 32) {Q : (Vec F S1x512x2048 .f32) → sProp 𝕄} :
    REC (F := F) m K ⊢ iprop(cr c 10 -∗ atr c 10 0 -∗ cr c 16 -∗ atr c 16 0 -∗ ow c 0 -∗ pt (c) cc0_stg5_0 (rTb 1).set (T1 m c) -∗ pt (c) cc0_scratch12 (rS 0).set (WBF m c 2) -∗ cr c 20 -∗ atr c 20 1 -∗ ((dn c 10 ∗ ptq (shO 2) (c) cc0_scratch10 (rO 0 1).set (OB m c) ∗ dn c 16 ∗ pt (c) cc0_scratch10 (rO 2 1).set (OB m c) ∗ ow c 0 ∗ pt (c) cc0_stg5_0 (rTb 1).set (T2 m c) ∗ pt (c) cc0_scratch12 (rS 0).set (WBF m c 2) ∗ dn c 20 ∗ pt (c) cc0_scratch11 (rS 1).set (WOB m c 1) ∗ ptq (fullShare.right) (c) main_arg7 (rA7 c 1).set (m ((c : Thread nD τ).loc main_arg7))) -∗ Q (rd cc0_scratch11 (rS 1) (WOB m c 1)))
      -∗ WP c (onW (k0_part33 (F := F)) (c) v831 v850) Q) := by
  rw [k0_part33_eq_skeleton]
  unfold k0_part33_skel
  simp only [semSignalWord, semWaitWord, Prog.lift, Prog.bind_op, Prog.bind_ret, Prog.pure_eq_ret, wp_deviceId]
  iintro #HR Hc10 Ha10 Hc16 Ha16 HO HT H12 Hc20 Ha20 Hk
  iapply (wait_last m K c 10 0 0 (P := iprop(ptq (shO 2) (c) cc0_scratch10 (rO 0 1).set (OB m c))) rfl (by decide) rfl (by decide) (dut_end (by decide)) (by decide)) $$ HR Hc10 Ha10 HO; iintro ⟨Hd10, HO, HOs⟩
  iapply (wait_last m K c 16 0 0 (P := iprop(pt (c) cc0_scratch10 (rO 2 1).set (OB m c))) rfl (by decide) rfl (by decide) (dut_end (by decide)) (by decide)) $$ HR Hc16 Ha16 HO; iintro ⟨Hd16, HO, HOr⟩
  iapply (step_load c (Memref.whole cc0_stg5_0) (r := rTb 1) (S := (rTb 1).set) (q := fullShare) (T1 m c) (setOn_whole_sub (Finset.Subset.refl _))) $$ HT; iintro HT
  iapply (step_load c (Memref.whole cc0_scratch10) (r := rO 2 1) (S := (rO 2 1).set) (q := fullShare) (OB m c) (setOn_whole_sub (Finset.Subset.refl _))) $$ HOr; iintro HOr
  iapply (step_load c (Memref.whole cc0_scratch12) (r := rS 0) (S := (rS 0).set) (q := fullShare) (WBF m c 2) (setOn_whole_sub (Finset.Subset.refl _))) $$ H12; iintro H12
  iapply (step_load c (Memref.whole cc0_stg5_0) (r := rTb 1) (S := (rTb 1).set) (q := fullShare) (T1 m c) (setOn_whole_sub (Finset.Subset.refl _))) $$ HT; iintro HT
  iapply (step_store c (Memref.whole cc0_stg5_0) (r := rTb 1) (S := (rTb 1).set) (T2 m c) (View.set_slice_whole _ _) (read_halves (T2b m c) 1)) $$ HT; iintro HT
  iapply (wait_last m K c 20 0 1 (P := iprop(pt (c) cc0_scratch11 (rS 1).set (WOB m c 1) ∗ ptq (fullShare.right) (c) main_arg7 (rA7 c 1).set (m ((c : Thread nD τ).loc main_arg7)))) rfl (by decide) rfl (by decide) dut_end2 (by decide)) $$ HR Hc20 Ha20 HO; iintro ⟨Hd20, HO, H11, HA71⟩
  iapply (step_load c (Memref.whole cc0_scratch11) (r := rS 1) (S := (rS 1).set) (q := fullShare) (WOB m c 1) (setOn_whole_sub (Finset.Subset.refl _))) $$ H11; iintro H11
  rw [WP, wp_ret]
  imodintro
  iapply Hk
  isplitl [Hd10]; · iexact Hd10
  isplitl [HOs]; · iexact HOs
  isplitl [Hd16]; · iexact Hd16
  isplitl [HOr]; · iexact HOr
  isplitl [HO]; · iexact HO
  isplitl [HT]; · iexact HT
  isplitl [H12]; · iexact H12
  isplitl [Hd20]; · iexact Hd20
  isplitl [H11]; · iexact H11
  iexact HA71

theorem part34 (c : Dev nD) (v573 : BitVec 32) (v592 : BitVec 32) {Q : (Σ' (v1123 : FVec F S512x2048 .f32) (v1125 : FVec F S512x512 .bf16), Vec F S1x512x2048 .bf16) → sProp 𝕄} :
    REC (F := F) m K ⊢ iprop((∃ f, pt (c) cc0_scratch12 (rS 1).set f) -∗ cr c 11 -∗ atr c 11 0 -∗ cr c 17 -∗ atr c 17 0 -∗ ow c 0 -∗ pt (c) cc0_stg5_0 (rTb 0).set (T2 m c) -∗ ((pt (c) cc0_scratch12 (rS 1).set (WBF m c 1) ∗ dn c 11 ∗ ptq (shO 3) (c) cc0_scratch10 (rO 0 0).set (OB m c) ∗ dn c 17 ∗ pt (c) cc0_scratch10 (rO 3 0).set (OB m c) ∗ ow c 0 ∗ pt (c) cc0_stg5_0 (rTb 0).set (T2 m c)) -∗ Q ⟨k0_pay49 (rd cc0_stg5_0 (rTb 0) (T2 m c)), k0_pay50 (rd cc0_scratch10 (rO 3 0) (OB m c)), rd cc0_scratch12 (rS 1) (WBF m c 1)⟩)
      -∗ WP c (onW (k0_part34 (F := F)) v573 v592 (rd cc0_scratch11 (rS 1) (WOB m c 1))) Q) := by
  rw [k0_part34_eq_skeleton]
  unfold k0_part34_skel
  simp only [semSignalWord, semWaitWord, Prog.lift, Prog.bind_op, Prog.bind_ret, Prog.pure_eq_ret, wp_deviceId]
  iintro #HR ⟨%fH12, H12⟩ Hc11 Ha11 Hc17 Ha17 HO HT Hk
  iapply (step_load c (Memref.whole cc0_scratch12) (r := rS 1) (S := (rS 1).set) (q := fullShare) (fH12) (setOn_whole_sub (Finset.Subset.refl _))) $$ H12; iintro H12
  iapply (step_store c (Memref.whole cc0_scratch12) (r := rS 1) (S := (rS 1).set) (WBF m c 1) (View.set_slice_whole _ _) (read_WBF m c 1 1)) $$ H12; iintro H12
  iapply (wait_last m K c 11 0 0 (P := iprop(ptq (shO 3) (c) cc0_scratch10 (rO 0 0).set (OB m c))) rfl (by decide) rfl (by decide) (dut_end (by decide)) (by decide)) $$ HR Hc11 Ha11 HO; iintro ⟨Hd11, HO, HOs⟩
  iapply (wait_last m K c 17 0 0 (P := iprop(pt (c) cc0_scratch10 (rO 3 0).set (OB m c))) rfl (by decide) rfl (by decide) (dut_end (by decide)) (by decide)) $$ HR Hc17 Ha17 HO; iintro ⟨Hd17, HO, HOr⟩
  iapply (step_load c (Memref.whole cc0_stg5_0) (r := rTb 0) (S := (rTb 0).set) (q := fullShare) (T2 m c) (setOn_whole_sub (Finset.Subset.refl _))) $$ HT; iintro HT
  iapply (step_load c (Memref.whole cc0_scratch10) (r := rO 3 0) (S := (rO 3 0).set) (q := fullShare) (OB m c) (setOn_whole_sub (Finset.Subset.refl _))) $$ HOr; iintro HOr
  iapply (step_load c (Memref.whole cc0_scratch12) (r := rS 1) (S := (rS 1).set) (q := fullShare) (WBF m c 1) (setOn_whole_sub (Finset.Subset.refl _))) $$ H12; iintro H12
  rw [WP, wp_ret]
  imodintro
  iapply Hk
  isplitl [H12]; · iexact H12
  isplitl [Hd11]; · iexact Hd11
  isplitl [HOs]; · iexact HOs
  isplitl [Hd17]; · iexact Hd17
  isplitl [HOr]; · iexact HOr
  isplitl [HO]; · iexact HO
  iexact HT

theorem part35 (c : Dev nD) (v890 : BitVec 32) (v909 : BitVec 32) {Q : (Σ' (v1148 : FVec F S512x2048 .f32) (v1150 : FVec F S512x512 .bf16), FVec F S512x2048 .bf16) → sProp 𝕄} :
    REC (F := F) m K ⊢ iprop(pt (c) cc0_stg5_0 (rTb 0).set (T2 m c) -∗ cr c 12 -∗ atr c 12 0 -∗ cr c 18 -∗ atr c 18 0 -∗ ow c 0 -∗ pt (c) cc0_stg5_0 (rTb 1).set (T2 m c) -∗ pt (c) cc0_scratch12 (rS 1).set (WBF m c 1) -∗ ((pt (c) cc0_stg5_0 (rTb 0).set (T3 m c) ∗ dn c 12 ∗ ptq (shO 3) (c) cc0_scratch10 (rO 0 1).set (OB m c) ∗ dn c 18 ∗ pt (c) cc0_scratch10 (rO 3 1).set (OB m c) ∗ ow c 0 ∗ pt (c) cc0_stg5_0 (rTb 1).set (T2 m c) ∗ pt (c) cc0_scratch12 (rS 1).set (WBF m c 1)) -∗ Q ⟨k0_pay52 (rd cc0_stg5_0 (rTb 1) (T2 m c)), k0_pay53 (rd cc0_scratch10 (rO 3 1) (OB m c)), k0_pay54 (rd cc0_scratch12 (rS 1) (WBF m c 1))⟩)
      -∗ WP c (onW (k0_part35 (F := F)) v890 v909 (k0_pay49 (rd cc0_stg5_0 (rTb 0) (T2 m c))) (k0_pay50 (rd cc0_scratch10 (rO 3 0) (OB m c))) (rd cc0_scratch12 (rS 1) (WBF m c 1))) Q) := by
  rw [k0_part35_eq_skeleton]
  unfold k0_part35_skel
  simp only [semSignalWord, semWaitWord, Prog.lift, Prog.bind_op, Prog.bind_ret, Prog.pure_eq_ret, wp_deviceId]
  iintro #HR HT Hc12 Ha12 Hc18 Ha18 HO HT1 H12 Hk
  iapply (step_load c (Memref.whole cc0_stg5_0) (r := rTb 0) (S := (rTb 0).set) (q := fullShare) (T2 m c) (setOn_whole_sub (Finset.Subset.refl _))) $$ HT; iintro HT
  iapply (step_store c (Memref.whole cc0_stg5_0) (r := rTb 0) (S := (rTb 0).set) (T3 m c) (View.set_slice_whole _ _) (read_halves (T3b m c) 0)) $$ HT; iintro HT
  iapply (wait_last m K c 12 0 0 (P := iprop(ptq (shO 3) (c) cc0_scratch10 (rO 0 1).set (OB m c))) rfl (by decide) rfl (by decide) (dut_end (by decide)) (by decide)) $$ HR Hc12 Ha12 HO; iintro ⟨Hd12, HO, HOs⟩
  iapply (wait_last m K c 18 0 0 (P := iprop(pt (c) cc0_scratch10 (rO 3 1).set (OB m c))) rfl (by decide) rfl (by decide) (dut_end (by decide)) (by decide)) $$ HR Hc18 Ha18 HO; iintro ⟨Hd18, HO, HOr⟩
  iapply (step_load c (Memref.whole cc0_stg5_0) (r := rTb 1) (S := (rTb 1).set) (q := fullShare) (T2 m c) (setOn_whole_sub (Finset.Subset.refl _))) $$ HT1; iintro HT1
  iapply (step_load c (Memref.whole cc0_scratch10) (r := rO 3 1) (S := (rO 3 1).set) (q := fullShare) (OB m c) (setOn_whole_sub (Finset.Subset.refl _))) $$ HOr; iintro HOr
  iapply (step_load c (Memref.whole cc0_scratch12) (r := rS 1) (S := (rS 1).set) (q := fullShare) (WBF m c 1) (setOn_whole_sub (Finset.Subset.refl _))) $$ H12; iintro H12
  rw [WP, wp_ret]
  imodintro
  iapply Hk
  isplitl [HT]; · iexact HT
  isplitl [Hd12]; · iexact Hd12
  isplitl [HOs]; · iexact HOs
  isplitl [Hd18]; · iexact Hd18
  isplitl [HOr]; · iexact HOr
  isplitl [HO]; · iexact HO
  isplitl [HT1]; · iexact HT1
  iexact H12

end Cert.KProof

end
-- ==== Proof.Cuts.lean ====
/-
# 01_k — the cuts and joins of the buffers between the parts of the body
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

section Joins
variable {c : Dev nD} {b : Ref sig .tc} {q : PosShare TreeShare} {f : Buf (Elt F) ((c : Thread nD τ).loc b)}
  {S A B : Finset (Idx ((c : Thread nD τ).loc b))}
omit [FloatOps F] in
/-- Contents forgotten. -/
theorem forget : ptq (F := F) q c b S f ⊢ iprop(∃ f, ptq (F := F) q c b S f) := by
  iintro H
  iexists f
  iexact H
omit [FloatOps F] in
theorem joinU (h : S = A ∪ B) (hd : Disjoint A B) : ptq (F := F) q c b A f ⊢ iprop(ptq q c b B f -∗ ptq q c b S f) :=
  BIClass.wand_intro (join2 h hd)
omit [FloatOps F] in
theorem joinE (h : S = A ∪ B) (hd : Disjoint A B) {g : Buf (Elt F) ((c : Thread nD τ).loc b)} :
    ptq (F := F) q c b A f ⊢ iprop(ptq q c b B g -∗ ∃ f, ptq q c b S f) :=
  BIClass.wand_intro (join2e h hd)
omit [FloatOps F] in
theorem joinR (h : A ⊆ S) : ptq (F := F) q c b A f ⊢ iprop(ptq q c b (S \ A) f -∗ ptq q c b S f) := BIClass.wand_intro (joinS h)
omit [FloatOps F] in
theorem joinH : ptq (F := F) q.left c b S f ⊢ iprop(ptq q.right c b S f -∗ ptq q c b S f) := BIClass.wand_intro joinq
end Joins

variable (c : Dev nD)
omit [FloatOps F] in
theorem whole_V (f : Buf (Elt F) ((c : Thread nD τ).loc cc0_scratch0)) :
    pt (F := F) c cc0_scratch0 Finset.univ f = iprop(pt c cc0_scratch0 (rV 0 0).set f ∗ pt c cc0_scratch0 (rV 0 1).set f ∗ pt c cc0_scratch0 (rV 1 0).set f ∗ pt c cc0_scratch0 (rV 1 1).set f) := by
  rw [show pt (F := F) c cc0_scratch0 Finset.univ f = pt c cc0_scratch0 _ f from congrArg (fun S => pt (F := F) c cc0_scratch0 S f) cut_V]
  exact (pointsTo_biUnion _ _ dis_V).trans (by
    rw [bigSep_univ_eq_bigSepL [(0, 0), (0, 1), (1, 0), (1, 1)] (by decide) (by decide)]
    simp only [bigSepL_cons_cons, bigSepL_singleton]; rfl)
omit [FloatOps F] in
theorem whole_O (f : Buf (Elt F) ((c : Thread nD τ).loc cc0_scratch10)) :
    pt (F := F) c cc0_scratch10 Finset.univ f = iprop(pt (F := F) c cc0_scratch10 (rO 0 0).set f ∗ pt (F := F) c cc0_scratch10 (rO 0 1).set f ∗ pt (F := F) c cc0_scratch10 (rO 1 0).set f ∗ pt (F := F) c cc0_scratch10 (rO 1 1).set f ∗ pt (F := F) c cc0_scratch10 (rO 2 0).set f ∗ pt (F := F) c cc0_scratch10 (rO 2 1).set f ∗ pt (F := F) c cc0_scratch10 (rO 3 0).set f ∗ pt (F := F) c cc0_scratch10 (rO 3 1).set f) := by
  rw [show pt (F := F) c cc0_scratch10 Finset.univ f = pt c cc0_scratch10 _ f from congrArg (fun S => pt (F := F) c cc0_scratch10 S f) cut_O]
  exact (pointsTo_biUnion _ _ dis_O).trans (by
    rw [bigSep_univ_eq_bigSepL [(0, 0), (0, 1), (1, 0), (1, 1), (2, 0), (2, 1), (3, 0), (3, 1)] (by decide) (by decide)]
    simp only [bigSepL_cons_cons, bigSepL_singleton]; rfl)
omit [FloatOps F] in
theorem whole_H (b : Fin 2) (f : Buf (Elt F) ((c : Thread nD τ).loc cc0_scratch10)) :
    pt (F := F) c cc0_scratch10 (rO 0 b).set f = iprop(pt (F := F) c cc0_scratch10 (rOh 0 b 0).set f ∗ pt (F := F) c cc0_scratch10 (rOh 0 b 1).set f ∗ pt (F := F) c cc0_scratch10 (rOh 0 b 2).set f ∗ pt (F := F) c cc0_scratch10 (rOh 0 b 3).set f) := by
  rw [show pt (F := F) c cc0_scratch10 (rO 0 b).set f = pt c cc0_scratch10 _ f from congrArg (fun S => pt (F := F) c cc0_scratch10 S f) (cut_Oh b)]
  exact (pointsTo_biUnion _ _ (dis_Oh b)).trans (by
    rw [bigSep_univ_eq_bigSepL [0, 1, 2, 3] (by decide) (by decide)]
    simp only [bigSepL_cons_cons, bigSepL_singleton]; rfl)

omit [FloatOps F] in
theorem open_V : iprop(∃ f, pt (F := F) c cc0_scratch0 Finset.univ f)
    ⊢ iprop((∃ f, pt (F := F) c cc0_scratch0 (rV 0 0).set f) ∗ (∃ f, pt (F := F) c cc0_scratch0 (rV 0 1).set f) ∗ (∃ f, pt (F := F) c cc0_scratch0 (rV 1 0).set f) ∗ (∃ f, pt (F := F) c cc0_scratch0 (rV 1 1).set f)) := by
  iintro ⟨%f, H⟩
  ihave H := (Entails.of_eq (whole_V c f)) $$ H
  icases H with ⟨H1, H2, H3, H4⟩
  isplitl [H1]; · iexists f; iexact H1
  isplitl [H2]; · iexists f; iexact H2
  isplitl [H3]; · iexists f; iexact H3
  iexists f; iexact H4
theorem close_V (f : Buf (Elt F) ((c : Thread nD τ).loc cc0_scratch0)) :
    pt (F := F) c cc0_scratch0 (rV 0 0).set f ⊢ iprop(pt c cc0_scratch0 (rV 0 1).set f -∗ pt c cc0_scratch0 (rV 1 0).set f -∗ pt c cc0_scratch0 (rV 1 1).set f -∗ ∃ f, pt c cc0_scratch0 Finset.univ f) := by
  iintro H1 H2 H3 H4
  iexists f
  iapply (Entails.of_eq (whole_V c f).symm)
  isplitl [H1]; · iexact H1
  isplitl [H2]; · iexact H2
  isplitl [H3]; · iexact H3
  iexact H4
omit [FloatOps F] in
/-- The attention buffer opened: the places the neighbours write, and the own place head by head. -/
theorem open_O : iprop(∃ f, pt (F := F) c cc0_scratch10 Finset.univ f)
    ⊢ iprop(landO (F := F) c 1 ∗ landO (F := F) c 2 ∗ landO (F := F) c 3 ∗ (∃ f, pt (F := F) c cc0_scratch10 (rOh 0 0 0).set f) ∗ (∃ f, pt (F := F) c cc0_scratch10 (rOh 0 0 1).set f) ∗ (∃ f, pt (F := F) c cc0_scratch10 (rOh 0 0 2).set f) ∗ (∃ f, pt (F := F) c cc0_scratch10 (rOh 0 0 3).set f) ∗ (∃ f, pt (F := F) c cc0_scratch10 (rOh 0 1 0).set f) ∗ (∃ f, pt (F := F) c cc0_scratch10 (rOh 0 1 1).set f) ∗ (∃ f, pt (F := F) c cc0_scratch10 (rOh 0 1 2).set f) ∗ (∃ f, pt (F := F) c cc0_scratch10 (rOh 0 1 3).set f)) := by
  iintro ⟨%f, H⟩
  ihave H := (Entails.of_eq (whole_O c f)) $$ H
  icases H with ⟨H00, H01, H10, H11, H20, H21, H30, H31⟩
  ihave H00 := (Entails.of_eq (whole_H c 0 f)) $$ H00
  ihave H01 := (Entails.of_eq (whole_H c 1 f)) $$ H01
  icases H00 with ⟨Ha0, Ha1, Ha2, Ha3⟩
  icases H01 with ⟨Hb0, Hb1, Hb2, Hb3⟩
  unfold landO
  isplitl [H10 H11]
  · isplitl [H10]; · iexists f; iexact H10
    iexists f; iexact H11
  isplitl [H20 H21]
  · isplitl [H20]; · iexists f; iexact H20
    iexists f; iexact H21
  isplitl [H30 H31]
  · isplitl [H30]; · iexists f; iexact H30
    iexists f; iexact H31
  isplitl [Ha0]; · iexists f; iexact Ha0
  isplitl [Ha1]; · iexists f; iexact Ha1
  isplitl [Ha2]; · iexists f; iexact Ha2
  isplitl [Ha3]; · iexists f; iexact Ha3
  isplitl [Hb0]; · iexists f; iexact Hb0
  isplitl [Hb1]; · iexists f; iexact Hb1
  isplitl [Hb2]; · iexists f; iexact Hb2
  iexists f; iexact Hb3
omit [FloatOps F] in
theorem close_O (f : Buf (Elt F) ((c : Thread nD τ).loc cc0_scratch10)) : pt (F := F) c cc0_scratch10 (rO 0 0).set f ⊢ iprop(pt (F := F) c cc0_scratch10 (rO 0 1).set f -∗ pt (F := F) c cc0_scratch10 (rO 1 0).set f -∗ pt (F := F) c cc0_scratch10 (rO 1 1).set f -∗ pt (F := F) c cc0_scratch10 (rO 2 0).set f -∗ pt (F := F) c cc0_scratch10 (rO 2 1).set f -∗ pt (F := F) c cc0_scratch10 (rO 3 0).set f -∗ pt (F := F) c cc0_scratch10 (rO 3 1).set f -∗ ∃ f, pt c cc0_scratch10 Finset.univ f) := by
  iintro H0 H1 H2 H3 H4 H5 H6 H7
  iexists f
  iapply (Entails.of_eq (whole_O c f).symm)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
omit [FloatOps F] in
/-- A half of the own place from its heads, in the shares the three sends and the own product take. -/
theorem share_H (b : Fin 2) (f : Buf (Elt F) ((c : Thread nD τ).loc cc0_scratch10)) : pt (F := F) c cc0_scratch10 (rOh 0 b 0).set f ⊢ iprop(pt (F := F) c cc0_scratch10 (rOh 0 b 1).set f -∗ pt (F := F) c cc0_scratch10 (rOh 0 b 2).set f -∗ pt (F := F) c cc0_scratch10 (rOh 0 b 3).set f
    -∗ (ptq (F := F) (shO 1) c cc0_scratch10 (rO 0 b).set f ∗ ptq (F := F) (shO 2) c cc0_scratch10 (rO 0 b).set f ∗ ptq (F := F) (shO 3) c cc0_scratch10 (rO 0 b).set f ∗ ptq (F := F) shKeep c cc0_scratch10 (rO 0 b).set f)) := by
  iintro H0 H1 H2 H3
  ihave H := (Entails.of_eq (whole_H c b f).symm) $$ [H0 H1 H2 H3]
  · isplitl [H0]; · iexact H0
    isplitl [H1]; · iexact H1
    isplitl [H2]; · iexact H2
    iexact H3
  ihave H := cutq $$ H
  icases H with ⟨Ha, Hb⟩
  ihave Ha := cutq $$ Ha
  ihave Hb := cutq $$ Hb
  icases Ha with ⟨H1, H2⟩
  icases Hb with ⟨H3, H4⟩
  unfold shO
  isplitl [H1]; · iexact H1
  isplitl [H2]; · iexact H2
  isplitl [H3]; · iexact H3
  iexact H4
omit [FloatOps F] in
theorem unshare (b : Fin 2) (f : Buf (Elt F) ((c : Thread nD τ).loc cc0_scratch10)) :
    ptq (F := F) (shO 1) c cc0_scratch10 (rO 0 b).set f ⊢ iprop(ptq (F := F) (shO 2) c cc0_scratch10 (rO 0 b).set f -∗ ptq (F := F) (shO 3) c cc0_scratch10 (rO 0 b).set f
      -∗ ptq (F := F) shKeep c cc0_scratch10 (rO 0 b).set f -∗ pt c cc0_scratch10 (rO 0 b).set f) := by
  unfold shO
  iintro H1 H2 H3 H4
  ihave Ha := joinH $$ H1 H2
  ihave Hb := joinH $$ H3 H4
  iapply joinH $$ Ha Hb
omit [FloatOps F] in
theorem dis_O0 : Disjoint (rO 0 0).set (rO 0 1).set := Rect.unit_disjoint 1 (by decide)
omit [FloatOps F] in
theorem landO_open (s : Dev nD) (k : Fin 4) : landO (F := F) s k
    ⊢ iprop((∃ f, pt (F := F) s cc0_scratch10 (rO k 0).set f) ∗ (∃ f, pt (F := F) s cc0_scratch10 (rO k 1).set f)) := by
  unfold landO
  exact .rfl
omit [FloatOps F] in
/-- What the three signals hand over. -/
theorem bar_give : landO (F := F) c 1 ⊢ iprop(landO (F := F) c 2 -∗ landO (F := F) c 3 -∗ (∃ f, pt (F := F) c cc0_scratch2 Finset.univ f) -∗ (∃ f, pt (F := F) c cc0_scratch4 Finset.univ f)
    -∗ (barPay (F := F) (nb 1 c) 0 ∗ barPay (F := F) (nb 2 c) 1 ∗ barPay (F := F) (nb 3 c) 2)) := by
  iintro H1 H2 H3 H4 H5
  ihave H4 := (cut2e cut_C dis_C) $$ H4
  icases H4 with ⟨Ha, Hb⟩
  iapply (bar_close c)
  isplitl [H1]; · iexact H1
  isplitl [H2]; · iexact H2
  isplitl [H3]; · iexact H3
  unfold landX
  isplitl [Ha]; · iexact Ha
  isplitl [Hb]; · iexact Hb
  iexact H5

end Cert.KProof

end
-- ==== Proof.Body.lean ====
/-
# 01_k — the whole body: the parts put together
-/
module

public import proofs.«01_k».proof.Proof.BodyA
public import proofs.«01_k».proof.Proof.BodyB
public import proofs.«01_k».proof.Proof.BodyC
public import proofs.«01_k».proof.Proof.BodyD
public import proofs.«01_k».proof.Proof.Cuts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 23 → ℕ)

/-- What a device holds when it enters the body, besides its staged inputs and the weights left in HBM. -/
def bodyTok (c : Dev nD) : sProp 𝕄 :=
  iprop(at0 (F := F) c 0 ∗ atr (F := F) c 1 0 ∗ atr (F := F) c 2 0 ∗ atr (F := F) c 3 0 ∗ atr (F := F) c 4 0 ∗ atr (F := F) c 5 0 ∗ atr (F := F) c 6 0 ∗ atr (F := F) c 7 0 ∗ atr (F := F) c 8 0 ∗ atr (F := F) c 9 0 ∗ atr (F := F) c 10 0 ∗ atr (F := F) c 11 0 ∗ atr (F := F) c 12 0 ∗ atr (F := F) c 13 0 ∗ atr (F := F) c 14 0 ∗ atr (F := F) c 15 0 ∗ atr (F := F) c 16 0 ∗ atr (F := F) c 17 0 ∗ atr (F := F) c 18 0 ∗ atr (F := F) c 19 0 ∗ atr (F := F) c 20 0 ∗ atr (F := F) c 21 0 ∗ atr (F := F) c 22 0 ∗ dutyTok ER (kcell (nb 1 c, 0)) 0 (0 : Fin 3) ∗ dutyTok ER (kcell (nb 2 c, 0)) 0 (1 : Fin 3) ∗ dutyTok ER (kcell (nb 3 c, 0)) 0 (2 : Fin 3) ∗ tk (F := F) c 1 ∗ tk (F := F) c 3 ∗ tk (F := F) c 5 ∗ tk (F := F) c 7 ∗ tk (F := F) c 8 ∗ tk (F := F) c 9 ∗ tk (F := F) c 10 ∗ tk (F := F) c 11 ∗ tk (F := F) c 12 ∗ tk (F := F) c 19 ∗ tk (F := F) c 20 ∗ tk (F := F) c 21 ∗ tk (F := F) c 22 ∗ tkr (F := F) c 19 1 ∗ tkr (F := F) c 20 1 ∗ tk (F := F) (xn c) 2 ∗ tk (F := F) (xn c) 4 ∗ tk (F := F) (xn c) 6 ∗ tk (F := F) (nb 1 c) 13 ∗ tk (F := F) (nb 1 c) 14 ∗ tk (F := F) (nb 2 c) 15 ∗ tk (F := F) (nb 2 c) 16 ∗ tk (F := F) (nb 3 c) 17 ∗ tk (F := F) (nb 3 c) 18 ∗ cred (tallyAt (kcell (c, 0)) () 3) ∗ cr (F := F) c 2 ∗ cr (F := F) c 4 ∗ cr (F := F) c 6 ∗ cr (F := F) c 13 ∗ cr (F := F) c 14 ∗ cr (F := F) c 15 ∗ cr (F := F) c 16 ∗ cr (F := F) c 17 ∗ cr (F := F) c 18)
/-- The staged inputs and the weights left in HBM. -/
def bodyIn (c : Dev nD) : sProp 𝕄 :=
  iprop(pt (c) cc0_stg0_0 Finset.univ (X m c) ∗ pt (c) cc0_stg1_0 Finset.univ (WD m c) ∗ pt (c) cc0_stg2_0 Finset.univ (WUK m c) ∗ pt (c) cc0_stg3_0 Finset.univ (WUV m c) ∗ pt (c) cc0_stg4_0 Finset.univ (WKR m c) ∗ pt (c) main_arg4 Finset.univ (m ((c : Thread nD τ).loc main_arg4)) ∗ pt (c) main_arg5 Finset.univ (m ((c : Thread nD τ).loc main_arg5)) ∗ pt (c) main_arg7 Finset.univ (m ((c : Thread nD τ).loc main_arg7)))
/-- The scratch buffers, at anything. -/
def bodyScr (c : Dev nD) : sProp 𝕄 :=
  iprop((∃ f, pt (F := F) (c) cc0_scratch0 Finset.univ f) ∗ (∃ f, pt (F := F) (c) cc0_scratch1 Finset.univ f) ∗ (∃ f, pt (F := F) (c) cc0_scratch2 Finset.univ f) ∗ (∃ f, pt (F := F) (c) cc0_scratch3 Finset.univ f) ∗ (∃ f, pt (F := F) (c) cc0_scratch4 Finset.univ f) ∗ (∃ f, pt (F := F) (c) cc0_scratch5 Finset.univ f) ∗ (∃ f, pt (F := F) (c) cc0_scratch6 Finset.univ f) ∗ (∃ f, pt (F := F) (c) cc0_scratch7 Finset.univ f) ∗ (∃ f, pt (F := F) (c) cc0_scratch8 Finset.univ f) ∗ (∃ f, pt (F := F) (c) cc0_scratch9 Finset.univ f) ∗ (∃ f, pt (F := F) (c) cc0_scratch10 Finset.univ f) ∗ (∃ f, pt (F := F) (c) cc0_scratch11 Finset.univ f) ∗ (∃ f, pt (F := F) (c) cc0_scratch12 Finset.univ f))
/-- The counters at zero. -/
def bodyDn (c : Dev nD) : sProp 𝕄 :=
  iprop(dn (F := F) c 0 ∗ dn (F := F) c 1 ∗ dn (F := F) c 2 ∗ dn (F := F) c 3 ∗ dn (F := F) c 4 ∗ dn (F := F) c 5 ∗ dn (F := F) c 6 ∗ dn (F := F) c 7 ∗ dn (F := F) c 8 ∗ dn (F := F) c 9 ∗ dn (F := F) c 10 ∗ dn (F := F) c 11 ∗ dn (F := F) c 12 ∗ dn (F := F) c 13 ∗ dn (F := F) c 14 ∗ dn (F := F) c 15 ∗ dn (F := F) c 16 ∗ dn (F := F) c 17 ∗ dn (F := F) c 18 ∗ dn (F := F) c 19 ∗ dn (F := F) c 20 ∗ dn (F := F) c 21 ∗ dn (F := F) c 22)

set_option maxHeartbeats 4000000 in
theorem body (c : Dev nD) {Q : PUnit → sProp 𝕄} :
    REC (F := F) m K ⊢ iprop(bodyIn m c -∗ (∃ f, pt (c) cc0_stg5_0 Finset.univ f) -∗ bodyScr (F := F) c -∗ bodyTok (F := F) c -∗ ow c 12
      -∗ ((bodyIn m c ∗ pt (c) cc0_stg5_0 Finset.univ (T3 m c) ∗ bodyScr (F := F) c ∗ bodyDn (F := F) c ∗ ow c 0) -∗ Q ⟨⟩)
      -∗ WP c (onW (cc0__body (F := F))) Q) := by
  rw [cc0__body_eq_skeleton]
  unfold cc0__body_skel bodyIn bodyScr bodyTok bodyDn
  iintro #HR ⟨H1, H2, H3, H4, H5, H20, H21, H22⟩ H6 ⟨H7, H8, H9, H10, H11, H12, H13, H14, H15, H16, H17, H18, H19⟩ ⟨H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82⟩ H83 Hk
  ihave H20 := (cutS (Finset.subset_univ (rA4 c).set)) $$ H20
  icases H20 with ⟨H84, H85⟩
  ihave H21 := (cutS (Finset.subset_univ (rA5 c).set)) $$ H21
  icases H21 with ⟨H86, H87⟩
  ihave H22 := (cutq) $$ H22
  icases H22 with ⟨H88, H89⟩
  ihave H88 := (cutS (Finset.subset_univ (rA7 c 0).set)) $$ H88
  icases H88 with ⟨H90, H91⟩
  ihave H89 := (cutS (Finset.subset_univ (rA7 c 3).set)) $$ H89
  icases H89 with ⟨H92, H93⟩
  ihave H10 := (cut2e cut_W dis_W) $$ H10
  icases H10 with ⟨H94, H95⟩
  ihave H18 := (cut2e cut_S dis_S) $$ H18
  icases H18 with ⟨H96, H97⟩
  ihave H19 := (cut2e cut_S dis_S) $$ H19
  icases H19 with ⟨H98, H99⟩
  ihave H14 := (cut2e cut_Q dis_Q) $$ H14
  icases H14 with ⟨H100, H101⟩
  ihave H15 := (cut2e cut_C dis_C) $$ H15
  icases H15 with ⟨H102, H103⟩
  ihave H16 := (cut2e cut_K dis_K) $$ H16
  icases H16 with ⟨H104, H105⟩
  ihave H7 := (open_V c) $$ H7
  icases H7 with ⟨H106, H107, H108, H109⟩
  ihave H17 := (open_O c) $$ H17
  icases H17 with ⟨H110, H111, H112, H113, H114, H115, H116, H117, H118, H119, H120⟩
  ihave HH := (bar_give c) $$ H110 H111 H112 H9 H11
  icases HH with ⟨H121, H122, H123⟩
  try simp only [WP, wp_bind]
  iapply (part1 m K c) $$ HR H84 H12 H86 H13 H60 H61
  iintro %_w0 %_w1 %_w2 %_w3 ⟨H124, H125⟩
  try simp only [WP, wp_bind]
  iapply (part2 m K c _) $$ HR H90 H96 H58 H92 H97 H59 H1 H2 H3 H8 H94
  iintro ⟨H126, H127, H128, H129, H130, H131, H132⟩
  ihave H131 := (cut2 cut_C dis_C) $$ H131
  icases H131 with ⟨H133, H134⟩
  ihave H133 := (cutq) $$ H133
  icases H133 with ⟨H135, H136⟩
  ihave H134 := (cutq) $$ H134
  icases H134 with ⟨H137, H138⟩
  try simp only [WP, wp_bind]
  iapply (part3 m K c _) $$ HR H4 H95
  iintro %_w0 %_w1 %_w2 %_w3 %_w4 %_w5 ⟨H139, H140⟩
  ihave H141 := (joinU cut_W dis_W) $$ H132 H140
  try simp only [WP, wp_bind]
  iapply (part4 m K c _ _ _ _ _ _ _) $$ HR H46 H83 H121
  iintro %_w0 %_w1 %_w2 %_w3 %_w4 %_w5 H142
  try simp only [WP, wp_bind]
  iapply (part5 m K c _ _ _ _ _ _ _) $$ HR H47 H142 H122
  iintro %_w0 %_w1 %_w2 %_w3 %_w4 H143
  try simp only [WP, wp_bind]
  iapply (part6 m K c _ _ _ _ _) $$ HR
  iintro %_w0 %_w1 %_w2
  try simp only [WP, wp_bind]
  iapply (part7 m K c _ _ _ _ _) $$ HR H48 H143 H123 H73 H23 H141 H51 H66 H135 H49 H64
  iintro %_w0 %_w1 %_w2 ⟨H144, H145, H146, H147, H148, H149, H150, H151⟩
  ihave H148 := (landO_open (nb 1 c) 1) $$ H148
  icases H148 with ⟨H152, H153⟩
  ihave H149 := (landO_open (nb 2 c) 2) $$ H149
  icases H149 with ⟨H154, H155⟩
  ihave H150 := (landO_open (nb 3 c) 3) $$ H150
  icases H150 with ⟨H156, H157⟩
  try simp only [WP, wp_bind]
  iapply (part8 m K c _) $$ HR H137 H151 H50 H65 H145 H124 H44 H125 H45 H5 H130 H139 H100
  iintro ⟨H158, H159, H160, H161, H162, H163, H164, H165, H166, H167, H168, H169⟩
  try simp only [WP, wp_bind]
  iapply (part9 m K c _ _ _) $$ HR H102 H104 H136 H146 H28 H76 H29 H147 H24 H169
  iintro %_w0 %_w1 ⟨H170, H171, H172, H173, H174, H175, H176, H177, H178, H179⟩
  try simp only [WP, wp_bind]
  iapply (part10 m K c _ _ _) $$ HR H74 H25 H179 H176 H106 H108 H171 H170 H168
  iintro ⟨H180, H181, H182, H183, H184, H185, H186, H187, H188⟩
  try simp only [WP, wp_bind]
  iapply (part11 m K c) $$ HR H184 H185 H188 H113
  iintro ⟨H189, H190, H191, H192⟩
  try simp only [WP, wp_bind]
  iapply (part12 m K c) $$ HR H189 H190 H191 H114 H115
  iintro ⟨H193, H194, H195, H196, H197⟩
  try simp only [WP, wp_bind]
  iapply (part13 m K c _) $$ HR H193 H194 H116
  iintro %_w0 %_w1 %_w2 %_w3 ⟨H198, H199, H200⟩
  try simp only [WP, wp_bind]
  iapply (part14 m K c _ _ _ _) $$ HR
  iintro %_w0 %_w1
  ihave HH := (share_H c 0 (OB m c)) $$ H192 H196 H197 H200
  icases HH with ⟨H201, H202, H203, H204⟩
  try simp only [WP, wp_bind]
  iapply (part15 m K c _) $$ HR H201 H152 H52 H67 H181
  iintro %_w0 %_w1 %_w2 %_w3 %_w4 %_w5 ⟨H205, H206⟩
  try simp only [WP, wp_bind]
  iapply (part16 m K c _ _ _ _ _ _ _) $$ HR H202 H154 H54 H69 H206
  iintro %_w0 %_w1 %_w2 %_w3 %_w4 ⟨H207, H208⟩
  try simp only [WP, wp_bind]
  iapply (part17 m K c _ _ _ _) $$ HR
  iintro %_w0 %_w1
  try simp only [WP, wp_bind]
  iapply (part18 m K c) $$ HR H203 H156 H56 H71 H208 H101 H103 H105 H138
  iintro ⟨H209, H210, H211, H212, H213, H214⟩
  try simp only [WP, wp_bind]
  iapply (part19 m K c _ _) $$ HR H158 H26 H75 H27 H210 H183 H107 H109
  iintro ⟨H215, H216, H217, H218, H219, H220, H221, H222⟩
  try simp only [WP, wp_bind]
  iapply (part20 m K c) $$ HR H213 H212 H211 H221 H222 H117
  iintro ⟨H223, H224, H225, H226, H227, H228⟩
  try simp only [WP, wp_bind]
  iapply (part21 m K c) $$ HR H225 H226 H227 H118 H119
  iintro ⟨H229, H230, H231, H232, H233⟩
  try simp only [WP, wp_bind]
  iapply (part22 m K c _) $$ HR H229 H230 H231 H233 H120
  iintro %_w0 %_w1 %_w2 ⟨H234, H235, H236, H237, H238⟩
  try simp only [WP, wp_bind]
  iapply (part23 m K c _ _ _) $$ HR
  iintro %_w0 %_w1
  ihave HH := (share_H c 1 (OB m c)) $$ H228 H232 H237 H238
  icases HH with ⟨H239, H240, H241, H242⟩
  ihave H243 := (joinU cut_O0 dis_O0) $$ H204 H242
  try simp only [WP, wp_bind]
  iapply (part24 m K c _) $$ HR H239 H153 H53 H68 H218
  iintro %_w0 %_w1 %_w2 %_w3 %_w4 ⟨H244, H245⟩
  try simp only [WP, wp_bind]
  iapply (part25 m K c _ _ _ _ _ _) $$ HR H240 H155 H55 H70 H245
  iintro %_w0 %_w1 %_w2 %_w3 %_w4 %_w5 ⟨H246, H247⟩
  try simp only [WP, wp_bind]
  iapply (part26 m K c _ _ _ _ _) $$ HR
  iintro %_w0 %_w1 %_w2
  try simp only [WP, wp_bind]
  iapply (part27 m K c _ _ _) $$ HR H241 H157 H57 H72 H247 H126 H42 H98 H243 H6
  iintro %_w0 ⟨H248, H249, H250, H251, H252, H253, H254, H255, H256⟩
  ihave H257 := (joinR (Finset.subset_univ (rA7 c 0).set)) $$ H253 H91
  ihave H257 := (cutS (Finset.subset_univ (rA7 c 2).set)) $$ H257
  icases H257 with ⟨H258, H259⟩
  ihave H256 := (cut2 cut_T dis_T) $$ H256
  icases H256 with ⟨H260, H261⟩
  ihave H252 := forget $$ H252
  try simp only [WP, wp_bind]
  iapply (part28 m K c _ _) $$ HR H258 H252 H62 H251 H249 H127 H43 H99
  iintro ⟨H262, H263, H264, H265, H266, H267, H268⟩
  ihave H269 := (joinR (Finset.subset_univ (rA7 c 3).set)) $$ H267 H93
  ihave H269 := (cutS (Finset.subset_univ (rA7 c 1).set)) $$ H269
  icases H269 with ⟨H270, H271⟩
  try simp only [WP, wp_bind]
  iapply (part29 m K c _ _) $$ HR H205 H30 H77 H36 H265 H260 H268
  iintro ⟨H272, H273, H274, H275, H276, H277, H278⟩
  try simp only [WP, wp_bind]
  iapply (part30 m K c _ _ _) $$ HR H244 H31 H78 H37 H276 H261 H278
  iintro %_w0 %_w1 ⟨H279, H280, H281, H282, H283, H284, H285⟩
  ihave H266 := forget $$ H266
  ihave H254 := forget $$ H254
  try simp only [WP, wp_bind]
  iapply (part31 m K c _ _) $$ HR H270 H266 H63 H264 H283 H262 H250 H254
  iintro ⟨H286, H287, H288, H289, H290, H291⟩
  try simp only [WP, wp_bind]
  iapply (part32 m K c _ _) $$ HR H207 H32 H79 H38 H288 H277 H291
  iintro ⟨H292, H293, H294, H295, H296, H297, H298⟩
  try simp only [WP, wp_bind]
  iapply (part33 m K c _ _) $$ HR H246 H33 H80 H39 H296 H284 H298 H286 H263
  iintro ⟨H299, H300, H301, H302, H303, H304, H305, H306, H307, H308⟩
  ihave H285 := forget $$ H285
  try simp only [WP, wp_bind]
  iapply (part34 m K c _ _) $$ HR H285 H209 H34 H81 H40 H303 H297
  iintro ⟨H309, H310, H311, H312, H313, H314, H315⟩
  try simp only [WP, wp_bind]
  iapply (part35 m K c _ _) $$ HR H315 H248 H35 H82 H41 H314 H304 H309
  iintro ⟨H316, H317, H318, H319, H320, H321, H322, H323⟩
  ihave H324 := (joinR (Finset.subset_univ (rA7 c 2).set)) $$ H290 H259
  ihave H325 := (joinR (Finset.subset_univ (rA7 c 1).set)) $$ H308 H271
  ihave H326 := (joinH) $$ H324 H325
  ihave H327 := (joinR (Finset.subset_univ (rA4 c).set)) $$ H162 H85
  ihave H328 := (joinR (Finset.subset_univ (rA5 c).set)) $$ H164 H87
  simp only [Prog.lift, Prog.bind_op, Prog.bind_ret, Prog.pure_eq_ret]
  iapply (step_load c (Memref.whole cc0_stg5_0) (r := rTb 1) (S := (rTb 1).set) (q := fullShare) (T2 m c) (setOn_whole_sub (Finset.Subset.refl _))) $$ H322; iintro H322
  rw [WP, wp_ret]; imodintro
  iapply (step_store c (Memref.whole cc0_stg5_0) (r := rTb 1) (S := (rTb 1).set) (T3 m c) (View.set_slice_whole _ _) (read_halves (T3b m c) 1)) $$ H322; iintro H322
  rw [WP, wp_ret]; imodintro
  ihave H329 := (joinU cut_T dis_T) $$ H316 H322
  ihave H330 := (close_V c (KV m c)) $$ H198 H235 H199 H236
  ihave H331 := (joinH) $$ H178 H172
  ihave H332 := (joinH) $$ H216 H214
  ihave H333 := (joinE cut_C dis_C) $$ H331 H332
  ihave H334 := (joinE cut_C dis_C) $$ H182 H219
  ihave H335 := (joinE cut_Q dis_Q) $$ H195 H234
  ihave H336 := (joinE cut_C dis_C) $$ H187 H224
  ihave H337 := (joinE cut_K dis_K) $$ H186 H223
  ihave H338 := (joinE cut_S dis_S) $$ H289 H307
  ihave H339 := (joinE cut_S dis_S) $$ H305 H323
  ihave H255 := (cut2 cut_O0 dis_O0) $$ H255
  icases H255 with ⟨H340, H341⟩
  ihave H342 := (unshare c 0 (OB m c)) $$ H273 H293 H311 H340
  ihave H343 := (unshare c 1 (OB m c)) $$ H280 H300 H318 H341
  ihave H344 := (close_O c (OB m c)) $$ H342 H343 H275 H282 H295 H302 H313 H320
  ihave H174 := forget $$ H174
  ihave H220 := forget $$ H220
  ihave H161 := forget $$ H161
  ihave H163 := forget $$ H163
  rw [wp_ret]
  imodintro
  iapply Hk
  isplitl [H128 H129 H166 H167 H165 H327 H328 H326]
  · isplitl [H128]; · iexact H128
    isplitl [H129]; · iexact H129
    isplitl [H166]; · iexact H166
    isplitl [H167]; · iexact H167
    isplitl [H165]; · iexact H165
    isplitl [H327]; · iexact H327
    isplitl [H328]; · iexact H328
    iexact H326
  isplitl [H329]
  · iexact H329
  isplitl [H330 H333 H334 H174 H220 H161 H163 H335 H336 H337 H344 H338 H339]
  · isplitl [H330]; · iexact H330
    isplitl [H333]; · iexact H333
    isplitl [H334]; · iexact H334
    isplitl [H174]; · iexact H174
    isplitl [H220]; · iexact H220
    isplitl [H161]; · iexact H161
    isplitl [H163]; · iexact H163
    isplitl [H335]; · iexact H335
    isplitl [H336]; · iexact H336
    isplitl [H337]; · iexact H337
    isplitl [H344]; · iexact H344
    isplitl [H338]; · iexact H338
    iexact H339
  isplitl [H144 H177 H180 H215 H217 H173 H175 H272 H279 H292 H299 H310 H317 H274 H281 H294 H301 H312 H319 H287 H306 H159 H160]
  · isplitl [H144]; · iexact H144
    isplitl [H177]; · iexact H177
    isplitl [H180]; · iexact H180
    isplitl [H215]; · iexact H215
    isplitl [H217]; · iexact H217
    isplitl [H173]; · iexact H173
    isplitl [H175]; · iexact H175
    isplitl [H272]; · iexact H272
    isplitl [H279]; · iexact H279
    isplitl [H292]; · iexact H292
    isplitl [H299]; · iexact H299
    isplitl [H310]; · iexact H310
    isplitl [H317]; · iexact H317
    isplitl [H274]; · iexact H274
    isplitl [H281]; · iexact H281
    isplitl [H294]; · iexact H294
    isplitl [H301]; · iexact H301
    isplitl [H312]; · iexact H312
    isplitl [H319]; · iexact H319
    isplitl [H287]; · iexact H287
    isplitl [H306]; · iexact H306
    isplitl [H159]; · iexact H159
    iexact H160
  iexact H321

end Cert.KProof

end
-- ==== Proof.Launch.lean ====
/-
# 01_k — the launch: the cells funded, the tokens dealt, and the run of @main
-/
module

public import proofs.«01_k».proof.Proof.Body
public import proofs.«01_k».proof.Proof.Gen.KernelIdeal.Points
public import proofs.«01_k».proof.Proof.Gen.KernelIdeal.Frame
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- The three weights no window stages, as the launch memory holds them. -/
def argIn (c : Dev nD) : sProp 𝕄 :=
  iprop(pt c main_arg4 Finset.univ (m ((c : Thread nD τ).loc main_arg4)) ∗ pt c main_arg5 Finset.univ (m ((c : Thread nD τ).loc main_arg5))
    ∗ pt c main_arg7 Finset.univ (m ((c : Thread nD τ).loc main_arg7)))

/-- What the body of device `c` starts from besides its scratch buffers, and what it ends with. -/
def start (c : Dev nD) : sProp 𝕄 := iprop((∃ K, REC (F := F) m K) ∗ bodyTok (F := F) c ∗ argIn m c)
def Φ₀ (c : Dev nD) : sProp 𝕄 := iprop(start m c ∗ bodyScr (F := F) c)
def Φ₁ (c : Dev nD) : sProp 𝕄 := iprop(argIn m c ∗ bodyScr (F := F) c ∗ bodyDn (F := F) c)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => WD m c
    | ⟨2, _⟩ => WUK m c
    | ⟨3, _⟩ => WUV m c
    | ⟨4, _⟩ => WKR m c
    | ⟨5, _⟩ => T3 m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A staging buffer at given contents, as the pipeline holds it. -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ m c ∗ (dats m 0 c).owesAt () t0_0.succ
    ∗ stg c cc0_stg0_0 (X m c) ∗ stg c cc0_stg1_0 (WD m c) ∗ stg c cc0_stg2_0 (WUK m c) ∗ stg c cc0_stg3_0 (WUV m c) ∗ stg c cc0_stg4_0 (WKR m c)
    ∗ stg c cc0_stg5_0 (T3 m c))

/-- A window fetched at the one point of the grid holds its block. -/
theorem before_in (c : Dev nD) (w : Fin cfg0.W) (hf : (cfg0.win w).fetch t0_0 = true) (d) :
    (dats m 0 c).before w t0_0 d = (dats m 0 c).fetched w t0_0 d := by
  unfold Dat.before; rw [if_pos hf]

set_option maxRecDepth 4000 in
theorem body_pre_post (c : Dev nD) : bodyPre m c ⊢ WP c (onW (cc0__body (F := F))) (fun _ => bodyPost m c) := by
  unfold bodyPre Φ₀ start argIn Dat.owesAt Pipeline.owesWithin
  iintro ⟨⟨⟨⟨%K, #HR⟩, HT, ⟨H4, H5, H7⟩⟩, HS⟩, ⟨%W, %hW, HO⟩, ⟨%d0, %g0, %hg0, H0⟩, ⟨%d1, %g1, %hg1, H1⟩, ⟨%d2, %g2, %hg2, H2⟩, ⟨%d3, %g3, %hg3, H3⟩, ⟨%d6, %g6, %hg6, H6⟩, ⟨%d8, %g8, %hg8, H8⟩⟩
  rw [show (dats m 0 c).owed t0_0.castSucc = O₀ c from rfl]
  rw [show g0 = X m c from hg0.trans ((before_in m c 0 (fetch0_0 _) d0).trans rfl), show g1 = WD m c from hg1.trans ((before_in m c 1 (fetch0_1 _) d1).trans rfl),
    show g2 = WUK m c from hg2.trans ((before_in m c 2 (fetch0_2 _) d2).trans rfl), show g3 = WUV m c from hg3.trans ((before_in m c 3 (fetch0_3 _) d3).trans rfl),
    show g6 = WKR m c from hg6.trans ((before_in m c 4 (fetch0_4 _) d6).trans rfl)]
  ihave H8 := forget $$ H8
  iapply (body m K c) $$ HR [H0 H1 H2 H3 H6 H4 H5 H7] H8 HS HT [HO]
  · unfold bodyIn
    isplitl [H0]; · iexact H0
    isplitl [H1]; · iexact H1
    isplitl [H2]; · iexact H2
    isplitl [H3]; · iexact H3
    isplitl [H6]; · iexact H6
    isplitl [H4]; · iexact H4
    isplitl [H5]; · iexact H5
    iexact H7
  · unfold ow
    iexists W
    iexact HO
  unfold bodyIn
  iintro ⟨⟨H0, H1, H2, H3, H6, H4, H5, H7⟩, H8, HS, HD, HO⟩
  unfold bodyPost Φ₁ argIn Dat.owesAt Pipeline.owesWithin ow
  icases HO with ⟨%W', HO⟩
  rw [show (dats m 0 c).owed t0_0.succ = 0 from rfl]
  isplitl [H4 H5 H7 HS HD]
  · isplitl [H4 H5 H7]
    · isplitl [H4]; · iexact H4
      isplitl [H5]; · iexact H5
      iexact H7
    isplitl [HS]; · iexact HS
    iexact HD
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H6]
  · iexists _; isplitr; · (ipureintro; rfl)
    iexact H6
  iexists _; isplitr; · (ipureintro; rfl)
  iexact H8

set_option maxRecDepth 100000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ (onW (cc0__body (F := F))) (fun _ => bodyPost m c)
  exact body_pre_post m c

/-! ## The cells and the tokens -/

abbrev osem : Fin 22 → SemLoc sig := fun k => .dma (⟨k.val + 6, by omega⟩ : Fin 28)
theorem stage_sem : ∀ w s, ((cfg0.spec w).sem s).val < 6 := by decide
theorem ownSemFacts : Pipeline.OwnSemFacts cfg0.spec osem where
  isScoped := by decide
  inj := fun a b h => Fin.ext (by have := congrArg Fin.val (SemLoc.dma.inj h); simp only at this; omega)
  disj := fun k w s h => by have h1 := congrArg Fin.val (SemLoc.dma.inj h); have h2 := stage_sem w s; simp only at h1; omega

theorem share_eq (c : Dev nD) (w : Fin cfg0.W) : (dats (F := F) m 0 c).share w = fullShare := by unfold Dat.share; split <;> rfl

theorem kcell_injective : Function.Injective (kcell : Dev nD × Fin 23 → GSem nD τ sig) := fun a b h =>
  Prod.ext (congrArg (fun g : GSem nD τ sig => g.1.1) h) (csem_inj (congrArg Prod.snd h))
def ringCells : Finset (GSem nD τ sig) := Finset.univ.map ⟨kcell, kcell_injective⟩

/-- The tokens a device pays with, one by one: whose cell (0 its own, 1–3 so far along the ring, 4 its partner's), which cell, round, duty. -/
def tw : Fin 27 → ℕ := ![1, 2, 3, 0, 0, 0, 0, 0, 0, 0, 0, 0, 0, 0, 0, 0, 0, 0, 4, 4, 4, 1, 1, 2, 2, 3, 3]
def tkx : Fin 27 → Fin 23 := ![0, 0, 0, 1, 3, 5, 7, 8, 9, 10, 11, 12, 19, 20, 21, 22, 19, 20, 2, 4, 6, 13, 14, 15, 16, 17, 18]
def trx : Fin 27 → ℕ := ![0, 0, 0, 0, 0, 0, 0, 0, 0, 0, 0, 0, 0, 0, 0, 0, 1, 1, 0, 0, 0, 0, 0, 0, 0, 0, 0]
def tdx : Fin 27 → Fin 3 := ![0, 1, 2, 0, 0, 0, 0, 0, 0, 0, 0, 0, 0, 0, 0, 0, 0, 0, 0, 0, 0, 0, 0, 0, 0, 0, 0]
theorem tok_inj : ∀ i j : Fin 27, tkx i = tkx j → trx i = trx j → tdx i = tdx j → i = j := by decide

def dst (w : ℕ) (c : Dev nD) : Dev nD := match w with
  | 0 => c
  | 4 => xn c
  | k => nb k c
theorem dst_inj (j : Fin 27) : Function.Injective (dst (tw j)) := by revert j; decide
def dstE (j : Fin 27) : Dev nD ≃ Dev nD := Equiv.ofBijective (dst (tw j)) (Finite.injective_iff_bijective.mp (dst_inj j))

abbrev tokOf (cj : Dev nD × Fin 27) : GSem nD τ sig × ℕ × Fin 3 := (kcell (cj.1, tkx cj.2), trx cj.2, tdx cj.2)
theorem tokOf_injective : Function.Injective tokOf := fun a b h => by
  have h1 := kcell_injective (congrArg Prod.fst h)
  have h2 : trx a.2 = trx b.2 := congrArg (fun x => x.2.1) h
  have h3 : tdx a.2 = tdx b.2 := congrArg (fun x => x.2.2) h
  have h4 : a.1 = b.1 := congrArg (fun x => x.1) h1
  have h5 : tkx a.2 = tkx b.2 := congrArg (fun x => x.2) h1
  exact Prod.ext h4 (tok_inj _ _ h5 h2 h3)
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The tokens of `c`'s own cells, and those it pays with. -/
def toks (c : Dev nD) : sProp 𝕄 := bigSep Finset.univ fun j : Fin 27 => dutyTok ER (kcell (c, tkx j)) (trx j) (tdx j)
def payToks (c : Dev nD) : sProp 𝕄 := bigSep Finset.univ fun j : Fin 27 => dutyTok ER (kcell (dst (tw j) c, tkx j)) (trx j) (tdx j)
def ats (c : Dev nD) : sProp 𝕄 := bigSep Finset.univ fun k : Fin 23 => atPos ER (kcell (c, k)) 0 ∅ 0

def G (c : Dev nD) : sProp 𝕄 :=
  iprop((bigSep Finset.univ fun k : Fin 23 => roundState ER (ringRd m) (kcell (c, k)) 0)
    ∗ (bigSep Finset.univ fun k : Fin 23 => reached ER (kcell (c, k)) 0) ∗ ats (F := F) c ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 23 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro H
  imod (Rounds.fund ER (ringRd m) ringCells ringToks) $$ H with ⟨Hst, Hr, Hat, Htok⟩
  imodintro
  unfold G
  simp only [bigSep_sep']
  isplitl [Hst]; · iapply (Entails.of_eq (hX fun g => roundState ER (ringRd m) g 0)) $$ Hst
  isplitl [Hr]; · iapply (Entails.of_eq (hX fun g => reached ER g 0)) $$ Hr
  isplitl [Hat]; · iapply (Entails.of_eq (hX fun g => atPos ER g 0 ∅ 0)) $$ Hat
  iapply (Entails.of_eq hT) $$ Htok

omit [FloatOps F] in
theorem toks_around : (bigSep Finset.univ fun c : Dev nD => (toks c : sProp 𝕄)) ⊢ bigSep Finset.univ fun c : Dev nD => payToks c := by
  unfold toks payToks
  rw [BI.bigSep_univ_comm, BI.bigSep_univ_comm fun (c : Dev nD) (j : Fin 27) => (dutyTok ER (kcell (dst (tw j) c, tkx j)) (trx j) (tdx j) : sProp 𝕄)]
  exact bigSep_mono fun j _ => Entails.of_eq (bigSep_univ_equiv (dstE j) fun c : Dev nD => (dutyTok ER (kcell (c, tkx j)) (trx j) (tdx j) : sProp 𝕄))

/-! ## The credit -/

/-- The cells other devices pay, and what the cell waits for in all. -/
def paid : Finset (Fin 23) := {0, 2, 4, 6, 13, 14, 15, 16, 17, 18}
def due (k : Fin 23) : ℕ := if k = 0 then 3 else amtK k.val

theorem Ow_at (d c : Dev nD) (k : Fin 23) (r : ℕ) :
    Ow d r (kcell (c, k)) () = amtK k.val * ((Finset.range r).filter fun j => tgt (11 - j) d = c ∧ kx (11 - j) = k).card := by
  induction r with
  | zero => rfl
  | succ r ih =>
    unfold Ow
    rw [Pi.add_apply, Finsupp.add_apply, tallyAt_apply, ih, Finset.range_add_one, Finset.filter_insert]
    by_cases h : tgt (11 - r) d = c ∧ kx (11 - r) = k
    · rw [if_pos h, if_pos ⟨by rw [h.1, h.2], rfl⟩, Finset.card_insert_of_notMem (by simp), h.2, Nat.mul_add, Nat.mul_one]
    · rw [if_neg h, if_neg (fun h' => h ?_), Nat.add_zero]
      have := kcell_injective h'.1
      exact ⟨(congrArg Prod.fst this).symm, (congrArg Prod.snd this).symm⟩

theorem payments : ∀ (c : Dev nD) (k : Fin 23), k ∈ paid →
    (∑ d : Dev nD, ((Finset.range 12).filter fun j => tgt (11 - j) d = c ∧ kx (11 - j) = k).card) = if k = 0 then 3 else 1 := by decide

theorem launch_k (c : Dev nD) (k : Fin 23) (hk : k ∈ paid) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, Finset.sum_congr rfl fun d _ => Ow_at d c k 12, ← Finset.mul_sum, payments c k hk]
  unfold due
  split
  · next h => subst h; rfl
  · exact Nat.mul_one _

omit [FloatOps F] in
theorem creds (c : Dev nD) : (Pipeline.launchCred O₀ c : sProp 𝕄) ⊢ bigSep paid fun k => cred (tallyAt (kcell (c, k)) () (due k)) := by
  unfold Pipeline.launchCred
  refine (bigSep_subset (Finset.subset_univ (paid.map ⟨csem, csem_inj⟩))).trans ?_
  rw [bigSep_map]
  exact bigSep_mono fun k hk => Entails.of_eq (congrArg cred (launch_k c k hk))

/-! ## What a device starts from -/

omit [FloatOps F] in
theorem ats_eq (c : Dev nD) : (ats c : sProp 𝕄) = iprop(at0 c 0 ∗ atr c 1 0 ∗ atr c 2 0 ∗ atr c 3 0 ∗ atr c 4 0 ∗ atr c 5 0 ∗ atr c 6 0 ∗ atr c 7 0 ∗ atr c 8 0 ∗ atr c 9 0 ∗ atr c 10 0 ∗ atr c 11 0 ∗ atr c 12 0 ∗ atr c 13 0 ∗ atr c 14 0 ∗ atr c 15 0 ∗ atr c 16 0 ∗ atr c 17 0 ∗ atr c 18 0 ∗ atr c 19 0 ∗ atr c 20 0 ∗ atr c 21 0 ∗ atr c 22 0) := by
  unfold ats; rw [bigSep_univ_eq_bigSepL [0, 1, 2, 3, 4, 5, 6, 7, 8, 9, 10, 11, 12, 13, 14, 15, 16, 17, 18, 19, 20, 21, 22] (by decide) (by decide)]
  simp only [bigSepL_cons_cons, bigSepL_singleton]; rfl
omit [FloatOps F] in
theorem payToks_eq (c : Dev nD) : (payToks c : sProp 𝕄) = iprop(dutyTok ER (kcell (nb 1 c, 0)) 0 (0 : Fin 3) ∗ dutyTok ER (kcell (nb 2 c, 0)) 0 (1 : Fin 3) ∗ dutyTok ER (kcell (nb 3 c, 0)) 0 (2 : Fin 3) ∗ tk c 1 ∗ tk c 3 ∗ tk c 5 ∗ tk c 7 ∗ tk c 8 ∗ tk c 9 ∗ tk c 10 ∗ tk c 11 ∗ tk c 12 ∗ tk c 19 ∗ tk c 20 ∗ tk c 21 ∗ tk c 22 ∗ tkr c 19 1 ∗ tkr c 20 1 ∗ tk (xn c) 2 ∗ tk (xn c) 4 ∗ tk (xn c) 6 ∗ tk (nb 1 c) 13 ∗ tk (nb 1 c) 14 ∗ tk (nb 2 c) 15 ∗ tk (nb 2 c) 16 ∗ tk (nb 3 c) 17 ∗ tk (nb 3 c) 18) := by
  unfold payToks; rw [bigSep_univ_eq_bigSepL [0, 1, 2, 3, 4, 5, 6, 7, 8, 9, 10, 11, 12, 13, 14, 15, 16, 17, 18, 19, 20, 21, 22, 23, 24, 25, 26] (by decide) (by decide)]
  simp only [bigSepL_cons_cons, bigSepL_singleton]; rfl
omit [FloatOps F] in
theorem creds_eq (c : Dev nD) : (bigSep paid fun k => (cred (tallyAt (kcell (c, k)) () (due k)) : sProp 𝕄)) = iprop(cred (tallyAt (kcell (c, 0)) () 3) ∗ cr c 2 ∗ cr c 4 ∗ cr c 6 ∗ cr c 13 ∗ cr c 14 ∗ cr c 15 ∗ cr c 16 ∗ cr c 17 ∗ cr c 18) := by
  rw [bigSep_eq_bigSepL_of_eq [0, 2, 4, 6, 13, 14, 15, 16, 17, 18] (by decide) (by decide)]
  simp only [bigSepL_cons_cons, bigSepL_singleton]; rfl

omit [FloatOps F] in
theorem tok_intro (c : Dev nD) : iprop(ats (F := F) c ∗ payToks (F := F) c ∗ bigSep paid fun k => cred (tallyAt (kcell (c, k)) () (due k))) ⊢ bodyTok (F := F) c := by
  rw [ats_eq, payToks_eq, creds_eq]
  unfold bodyTok
  iintro ⟨⟨A0, A1, A2, A3, A4, A5, A6, A7, A8, A9, A10, A11, A12, A13, A14, A15, A16, A17, A18, A19, A20, A21, A22⟩, ⟨T0, T1, T2, T3, T4, T5, T6, T7, T8, T9, T10, T11, T12, T13, T14, T15, T16, T17, T18, T19, T20, T21, T22, T23, T24, T25, T26⟩, ⟨C0, C1, C2, C3, C4, C5, C6, C7, C8, C9⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  iexact C9

omit [FloatOps F] in
/-- The kernel's own semaphores are the cells but the barrier's, which is the launch's one unscoped semaphore. -/
theorem own_eq (c : Dev nD) : (Pipeline.ownSems0 (Ix := Unit) (Name := ℕ) (U := UU) (Lvl := ℕ) (Val := Elt F) (τ := τ) osem c : sProp 𝕄)
    = iprop(dn (F := F) c 1 ∗ dn (F := F) c 2 ∗ dn (F := F) c 3 ∗ dn (F := F) c 4 ∗ dn (F := F) c 5 ∗ dn (F := F) c 6 ∗ dn (F := F) c 7 ∗ dn (F := F) c 8 ∗ dn (F := F) c 9 ∗ dn (F := F) c 10 ∗ dn (F := F) c 11 ∗ dn (F := F) c 12 ∗ dn (F := F) c 13 ∗ dn (F := F) c 14 ∗ dn (F := F) c 15 ∗ dn (F := F) c 16 ∗ dn (F := F) c 17 ∗ dn (F := F) c 18 ∗ dn (F := F) c 19 ∗ dn (F := F) c 20 ∗ dn (F := F) c 21 ∗ dn (F := F) c 22) := by
  rw [Pipeline.ownSems0_eq_of_list c osem [0, 1, 2, 3, 4, 5, 6, 7, 8, 9, 10, 11, 12, 13, 14, 15, 16, 17, 18, 19, 20, 21] (by decide) (by decide)]; rfl
omit [FloatOps F] in
theorem unscoped_eq (c : Dev nD) : (unscopedSems0 c : sProp 𝕄) = dn (F := F) c 0 := by
  unfold unscopedSems0; rw [bigSep_eq_bigSepL_of_eq [SemLoc.reg (0 : Fin 1)] (by decide) (by decide)]; rfl

omit [FloatOps F] in
theorem dn_eq (c : Dev nD) : (bodyDn c : sProp 𝕄)
    = iprop(unscopedSems0 c ∗ Pipeline.ownSems0 (Ix := Unit) (Name := ℕ) (U := UU) (Lvl := ℕ) (Val := Elt F) (τ := τ) osem c) := by
  rw [own_eq, unscoped_eq]; rfl
omit [FloatOps F] in
theorem dn_all (c : Dev nD) : (bodyDn c : sProp 𝕄) = bigSep Finset.univ fun k : Fin 23 => semVal (kcell (c, k)) 0 := by
  rw [bigSep_univ_eq_bigSepL [0, 1, 2, 3, 4, 5, 6, 7, 8, 9, 10, 11, 12, 13, 14, 15, 16, 17, 18, 19, 20, 21, 22] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 23 => iprop(∃ κ : ℕ, cellInv ER (ringRd m) κ (kcell (c, k))))
          ∗ (bigSep Finset.univ fun k : Fin 23 => reached ER (kcell (c, k)) 0) ∗ ats (F := F) c ∗ toks (F := F) c) := by
  have hinv : iprop((bigSep Finset.univ fun k : Fin 23 => semVal (kcell (c, k)) 0) ∗ bigSep Finset.univ fun k : Fin 23 => roundState ER (ringRd m) (kcell (c, k)) 0)
      ⊢ (|={Set.univ}=> bigSep Finset.univ fun k : Fin 23 => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Ho, Hu, Hst, Hr, Hat, Ht⟩
  ihave Hd := (Entails.of_eq (dn_eq (F := F) c).symm) $$ [Ho Hu]
  · isplitl [Hu] <;> iassumption
  ihave Hd := (Entails.of_eq (dn_all (F := F) c)) $$ Hd
  imod hinv $$ [Hd Hst] with HI
  · isplitl [Hd] <;> iassumption
  imodintro
  isplitl [HI]; · iexact HI
  isplitl [Hr]; · iexact Hr
  isplitl [Hat]; · iexact Hat
  iexact Ht

/-- What every device knows of the cells, at the names the launch gave them. -/
def records (K : Dev nD × Fin 23 → ℕ) : sProp 𝕄 :=
  bigSep Finset.univ (fun ck : Dev nD × Fin 23 => iprop(cellInv ER (ringRd (F := F) m) (K ck) (kcell ck) ∗ reached ER (kcell ck) 0))
instance records_persistent (K : Dev nD × Fin 23 → ℕ) : BI.Persistent (records m K) := by unfold records; infer_instance

def G' (c : Dev nD) : sProp 𝕄 := iprop((∃ K, records m K) ∗ ats (F := F) c ∗ payToks (F := F) c)

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h : (bigSep Finset.univ fun c => iprop((bigSep Finset.univ fun k : Fin 23 => iprop(∃ κ : ℕ, cellInv ER (ringRd m) κ (kcell (c, k))))
      ∗ (bigSep Finset.univ fun k : Fin 23 => reached ER (kcell (c, k)) 0) ∗ ats (F := F) c ∗ toks (F := F) c)) ⊢ bigSep Finset.univ (G' m) := ?_
  · exact ((bigSep_mono fun c _ => core_alloc m c).trans (bigSep_fupd _ _)).trans (BI.fupd_mono h)
  rw [bigSep_sep', bigSep_sep', bigSep_sep', ← bigSep_univ_prod (fun ck : Dev nD × Fin 23 => iprop(∃ κ : ℕ, cellInv ER (ringRd m) κ (kcell ck))),
    ← bigSep_univ_prod (fun ck : Dev nD × Fin 23 => (reached ER (kcell ck) 0 : sProp 𝕄))]
  iintro ⟨HI, Hr, Hat, Ht⟩
  ihave HK := (BI.bigSep_exists_pi Finset.univ (fun (ck : Dev nD × Fin 23) (κ : ℕ) => (cellInv ER (ringRd m) κ (kcell ck) : sProp 𝕄))) $$ HI
  icases HK with ⟨%K, HI⟩
  ihave Ht := (toks_around (F := F)) $$ Ht
  ihave #HR := (show iprop((bigSep Finset.univ fun ck : Dev nD × Fin 23 => (cellInv ER (ringRd m) (K ck) (kcell ck) : sProp 𝕄))
      ∗ bigSep Finset.univ fun ck : Dev nD × Fin 23 => (reached ER (kcell ck) 0 : sProp 𝕄)) ⊢ records m K from by
    unfold records; rw [← bigSep_sep']) $$ [HI Hr]
  · isplitl [HI] <;> iassumption
  have hall : records m K ⊢ bigSep Finset.univ fun _ : Dev nD => iprop(∃ K, records (F := F) m K) :=
    (BI.bigSep_of_persistent Finset.univ (records m K)).trans (bigSep_mono fun _ _ => show records m K ⊢ iprop(∃ K, records (F := F) m K) from by iintro H; iexists K; iexact H)
  unfold G'
  rw [bigSep_sep', bigSep_sep']
  isplitr; · iapply hall $$ HR
  isplitl [Hat]; · iexact Hat
  iexact Ht

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  unfold G'
  icases HG with ⟨⟨%K, HK⟩, Hat, Ht⟩
  imodintro
  isplitl
  · unfold start REC
    isplitl [HK Hlev]
    · iexists K
      isplitl [HK]; · unfold records; iexact HK
      iexact Hlev
    isplitl [Hat Ht Hc]
    · iapply (tok_intro c)
      isplitl [Hat]; · iexact Hat
      isplitl [Ht]; · iexact Ht
      iexact Hc
    unfold argIn
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bodyScr
  iintro ⟨Hs, -, Hr⟩
  isplitl [Hs]; · iexact Hs
  iexact Hr

/-- What the end keeps to be read off: the barrier semaphore at zero and the three weights. -/
def Y (c : Dev nD) : sProp 𝕄 := iprop(unscopedSems0 c ∗ argIn m c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ bodyScr Y
  rw [dn_eq]
  iintro ⟨Ha, Hs, Hu, Ho⟩
  isplitl [Ha Hu]
  · isplitl [Hu] <;> iassumption
  isplitl [Ho]; · iexact Ho
  iexact Hs

omit [FloatOps F] in
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  obtain rfl | rfl := hO
  · exact mayWait c (.dma q) 12 (fun j hj => by
      rw [show kidx (.dma q : SemLoc sig) = 99 from if_pos hq]
      revert j; decide)
  · rw [MayWait_zero]; iintro -; iempintro

theorem waits (c : Dev nD) : (levAts L lv : sProp 𝕄) ⊢ Pipeline.cellsWaits cfgs (dats (F := F) m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a run ends with on every device: the windows' arrays, the three other weights, and every counter at zero. -/
def Post (r : PUnit × MemSt nD τ sig (Elt F)) : Prop :=
  (∀ c : Dev nD, (∀ w : Fin cfg0.W, r.2.mem ((cfg0.win w).arr.view.loc (c : Thread nD τ)) = (dats m 0 c).arrAt w cfg0.N)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg7) = m ((c : Thread nD τ).loc main_arg7))
  ∧ r.2.sem = fun _ => 0

set_option maxRecDepth 8000 in
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m) (hout := phi1_exit m)
    (QY := fun c s => (s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg7) = m ((c : Thread nD τ).loc main_arg7))
      ∧ ∀ sm : SemLoc sig, sm.isScoped .tc = false → s.sem ((c.tc : Thread nD τ), sm) = 0)
    (hY := fun c s' => by
      unfold Y argIn
      iintro ⟨⟨Hu, H4, H5, H7⟩, -, HSI⟩
      icombine HSI H4 gives %h4
      icombine HSI H5 gives %h5
      icombine HSI H7 gives %h7
      ihave H := (Pipeline.unscopedSems0_read (X := unscopedSems0 c) (c := c) fupd_intro s') $$ [Hu HSI]
      · isplitl [Hu] <;> iassumption
      imod H with ⟨%hs, HSI⟩
      imodintro
      isplitr
      · ipureintro
        exact ⟨⟨Buf.eq_of_forall_mem_univ h4, Buf.eq_of_forall_mem_univ h5, Buf.eq_of_forall_mem_univ h7⟩, hs⟩
      iexact HSI)
    (hQ := fun _ h hs => ⟨fun c => ⟨(h c).1, (h c).2.2.1⟩, sem_eq_zero hs fun c => (h c).2.2.2⟩)

/-- The arguments of a run, unchanged. -/
theorem Post.args {r : PUnit × MemSt nD τ sig (Elt F)} (h : Post m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨((h.1 c).1 0).trans ((dats m 0 c).arrAt_in 0 rfl _), ((h.1 c).1 1).trans ((dats m 0 c).arrAt_in 1 rfl _),
    ((h.1 c).1 2).trans ((dats m 0 c).arrAt_in 2 rfl _), ((h.1 c).1 3).trans ((dats m 0 c).arrAt_in 3 rfl _),
    (h.1 c).2.1, (h.1 c).2.2.1, ((h.1 c).1 4).trans ((dats m 0 c).arrAt_in 4 rfl _), (h.1 c).2.2.2⟩

end Cert.KProof

end
-- ==== Proof.Same.lean ====
/-
# 01_k — the two prints of the kernel are one program

No operation was rewritten between them, so a run of one at machine floats is a run of the other.
-/
module

public import proofs.«01_k».proof.Defs
public import proofs.«01_k».proof.Proof.Gen.Kernel
public import proofs.«01_k».proof.Proof.Launch

@[expose] public section

noncomputable section

namespace Cert.KProof

open Idealize.ShloMosaic Idealize.SL.Sem

/-- The kernels' bodies agree, label by label. -/
theorem bodies_eq : Cert.Kernel.defs₀ (F := Bits) = Cert.KernelIdeal.defs₀ (F := Bits) :=
  congrArg (Defs.onTc (nD := Cert.Kernel.nD) (τ := Cert.Kernel.τ) (sig := Cert.Kernel.sig) (Λ := Cert.Kernel.Λ₀) (Val := Elt Bits))
    (funext fun l => funext fun a => by
      match l, a with
      | ⟨0, _⟩, (t, s) => rfl
      | ⟨n + 1, h⟩, _ => exact absurd h (Nat.not_lt.2 (Nat.le_add_left _ _)))

/-- So do the body tables with the pipeline's regions. -/
theorem tables_eq : Cert.Kernel.defs (F := Bits) = Cert.KernelIdeal.defs (F := Bits) :=
  congrArg (Pipeline.defs (Cert.Kernel.pcfgs (F := Bits))) bodies_eq

/-- A run of the second print is a run of the first. -/
theorem run_first (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (Post (F := Bits) m) := by
  rw [tables_eq]
  exact run_main (F := Bits) m ρ

end Cert.KProof

end
-- ==== Proof.Spec.lean ====
/-
# 01_k — latent attention over whole arrays

The layer's arithmetic over the extended reals, written on coordinates: projections to the latent, to queries, keys and
values, scores, attention and the output projection. No program is named here; the kernel and the reference are each
shown to compute `out`.
-/
module

public import Idealize.ShloMosaic.Lib.Pointwise

@[expose] public section

noncomputable section

namespace Cert.KProof

open Idealize.ShloMosaic
open scoped BigOperators

/-- The eight whole arrays. -/
structure Whole where
  x : (⟨3, ![2, 512, 2048]⟩ : Shape).Idx → EReal
  wd : (⟨2, ![2048, 256]⟩ : Shape).Idx → EReal
  wuk : (⟨2, ![256, 2048]⟩ : Shape).Idx → EReal
  wuv : (⟨2, ![256, 2048]⟩ : Shape).Idx → EReal
  wq : (⟨2, ![2048, 2048]⟩ : Shape).Idx → EReal
  wqr : (⟨2, ![2048, 512]⟩ : Shape).Idx → EReal
  wkr : (⟨2, ![2048, 32]⟩ : Shape).Idx → EReal
  wo : (⟨2, ![2048, 2048]⟩ : Shape).Idx → EReal

/-- The head of a column, and a head's columns in the queries and keys and in the rotary queries. -/
def headOf (n : Fin 2048) : Fin 16 := ⟨n.val / 128, by omega⟩
def colOf (h : Fin 16) (i : Fin 128) : Fin 2048 := ⟨h.val * 128 + i.val, by omega⟩
def rotOf (h : Fin 16) (r : Fin 32) : Fin 512 := ⟨h.val * 32 + r.val, by omega⟩

/-- Batch and token of a row. -/
def bat (r : Fin 1024) : Fin 2 := ⟨r.val / 512, by omega⟩
def tok (r : Fin 1024) : Fin 512 := ⟨r.val % 512, by omega⟩
def row (b : Fin 2) (s : Fin 512) : Fin 1024 := ⟨512 * b.val + s.val, by omega⟩
theorem bat_row (b : Fin 2) (s : Fin 512) : bat (row b s) = b := Fin.ext (by simp only [bat, row]; omega)
theorem tok_row (b : Fin 2) (s : Fin 512) : tok (row b s) = s := Fin.ext (by simp only [tok, row]; omega)

/-- The factor of the scores. -/
def scale : EReal := Ideal.ofBits .f32 0x3DA1E89B#32

namespace Whole

variable (W : Whole) (b : Fin 2) (s t : Fin 512)

/-- A projection of the tokens by a weight of any width. -/
def proj {n : ℕ} (w : (⟨2, ![2048, n]⟩ : Shape).Idx → EReal) (j : Fin n) : EReal := ∑ d : Fin 2048, W.x (ix3 b s d) * w (ix2 d j)
/-- A projection of the latent: the keys of `wuk`, the values of `wuv`. -/
def up (w : (⟨2, ![256, 2048]⟩ : Shape).Idx → EReal) (j : Fin 2048) : EReal := ∑ l : Fin 256, W.proj b s W.wd l * w (ix2 l j)
def score (h : Fin 16) : EReal :=
  (∑ i : Fin 128, W.proj b s W.wq (colOf h i) * W.up b t W.wuk (colOf h i) + ∑ r : Fin 32, W.proj b s W.wqr (rotOf h r) * W.proj b t W.wkr r) * scale
/-- Attention: the weighted sum of the values over the sum of the weights. -/
def att (n : Fin 2048) : EReal :=
  Ideal.div (∑ t : Fin 512, Ideal.exp (W.score b s t (headOf n)) * W.up b t W.wuv n) (∑ t : Fin 512, Ideal.exp (W.score b s t (headOf n)))
/-- Attention as a softmax spells it: every score less the row's greatest, every weight divided before the values are summed. -/
def top (h : Fin 16) : EReal := (Finset.univ : Finset (Fin 512)).fold max (Ideal.ofBits .f32 0xFF800000#32) fun t => W.score b s t h
def soft (n : Fin 2048) : EReal :=
  ∑ t : Fin 512, W.up b t W.wuv n * Ideal.div (Ideal.exp (W.score b s t (headOf n) - W.top b s (headOf n)))
    (∑ t' : Fin 512, Ideal.exp (W.score b s t' (headOf n) - W.top b s (headOf n)))
def out (j : Fin 2048) : EReal := ∑ n : Fin 2048, W.att b s n * W.wo (ix2 n j)

end Whole

end Cert.KProof

end
-- ==== Proof.Pay.lean ====
/-
# 01_k — the payloads of the kernel at an index

What each stored value of the kernel is at an index, over the blocks it is computed from.
-/
module

public import proofs.«01_k».proof.Proof.Gen.KernelIdeal.Skeleton
public import proofs.«01_k».proof.Proof.Spec

@[expose] public section

set_option maxRecDepth 16384

noncomputable section

namespace Cert.KProof

open Cert.KernelIdeal Cert.KernelIdeal.Gen
open Idealize.ShloMosaic
open scoped BigOperators

/-- One head's attention at a query row and a column, over the blocks the head reads; `o` is the head's place among the four. -/
def head (o : Fin 4) (kr : Vec Ideal S512x32 .bf16) (qr q : Vec Ideal S512x128 .bf16) (k v : Vec Ideal S1x512x128 .bf16)
    (s : Fin 512) (d : Fin 128) : EReal :=
  let e := fun t : Fin 512 => Ideal.exp
    ((∑ i : Fin 128, q (ix2 s i) * k (ix3 (0 : Fin 1) t i) + ∑ r : Fin 32, qr (ix2 s (⟨32 * o.val + r.val, by omega⟩ : Fin 128)) * kr (ix2 t r)) * scale)
  Ideal.div (∑ t, e t * v (ix3 (0 : Fin 1) t d)) (∑ t, e t)

/-! ## Copies, cut and uncut -/

theorem pay2_apply (a : Vec Ideal S2x512x2048 .f32) (r : Fin 1024) (d : Fin 2048) : k0_pay2 a (ix2 r d) = a (ix3 (bat r) (tok r) d) := by
  pointwise [k0_pay2, bat, tok]

theorem pay4_apply (w : Vec Ideal S128x512 .f32) (l : Fin 128) (q : Fin 512) : k0_pay4 w (ix3 (0 : Fin 1) l q) = w (ix2 l q) := by
  pointwise [k0_pay4]

theorem pay5_apply (w : Vec Ideal S128x512 .f32) (l : Fin 128) (q : Fin 512) : k0_pay5 w (ix3 (0 : Fin 1) l q) = w (ix2 l q) := by
  pointwise [k0_pay5]

theorem pay9_apply (w : Vec Ideal S128x512 .f32) (l : Fin 128) (q : Fin 512) : k0_pay9 w (ix2 l q) = w (ix2 l q) := by
  pointwise [k0_pay9]

theorem pay10_apply (w : Vec Ideal S128x512 .f32) (l : Fin 128) (q : Fin 512) : k0_pay10 w (ix2 l q) = w (ix2 l q) := by
  pointwise [k0_pay10]

theorem pay8_apply (w : Vec Ideal S2048x32 .f32) (d : Fin 2048) (q : Fin 32) : k0_pay8 w (ix2 d q) = w (ix2 d q) := by
  pointwise [k0_pay8]

theorem pay40_apply (w : Vec Ideal S1x512x2048 .f32) (a : Fin 512) (n : Fin 2048) : k0_pay40 w (ix3 (0 : Fin 1) a n) = w (ix3 (0 : Fin 1) a n) := by
  pointwise [k0_pay40]

theorem pay42_apply (w : Vec Ideal S1x512x2048 .f32) (a : Fin 512) (n : Fin 2048) : k0_pay42 w (ix3 (0 : Fin 1) a n) = w (ix3 (0 : Fin 1) a n) := by
  pointwise [k0_pay42]

theorem pay45_apply (w : Vec Ideal S1x512x2048 .f32) (a : Fin 512) (n : Fin 2048) : k0_pay45 w (ix3 (0 : Fin 1) a n) = w (ix3 (0 : Fin 1) a n) := by
  pointwise [k0_pay45]

theorem pay48_apply (w : Vec Ideal S1x512x2048 .f32) (a : Fin 512) (n : Fin 2048) : k0_pay48 w (ix3 (0 : Fin 1) a n) = w (ix3 (0 : Fin 1) a n) := by
  pointwise [k0_pay48]

/-! ## Projections of the tokens -/

theorem pay3_apply (a : Vec Ideal S2x512x2048 .f32) (w : Vec Ideal S2048x128 .f32) (r : Fin 1024) (l : Fin 128) : k0_pay3 a w (ix2 r l) = ∑ d : Fin 2048, a (ix3 (bat r) (tok r) d) * w (ix2 d l) := by
  pointwise [k0_pay3, k0_pay2, bat, tok]

theorem pay12_apply (x : FVec Ideal S1024x2048 .bf16) (w : Vec Ideal S2048x512 .f32) (s : Fin 512) (q : Fin 512) : k0_pay12 x w (ix2 s q) = ∑ d : Fin 2048, x (ix2 (row 0 s) d) * w (ix2 d q) := by
  pointwise [k0_pay12, k0_pay11, k0_pay6, row]

theorem pay28_apply (x : FVec Ideal S1024x2048 .bf16) (w : Vec Ideal S2048x512 .f32) (s : Fin 512) (q : Fin 512) : k0_pay28 x (k0_pay6 w) (ix2 s q) = ∑ d : Fin 2048, x (ix2 (row 1 s) d) * w (ix2 d q) := by
  pointwise [k0_pay28, k0_pay27, k0_pay6, row]

theorem pay14_apply (x : FVec Ideal S1024x2048 .bf16) (w : Vec Ideal S2048x128 .f32) (s : Fin 512) (q : Fin 128) : k0_pay14 (k0_pay13 x w) (ix2 s q) = ∑ d : Fin 2048, x (ix2 (row 0 s) d) * w (ix2 d q) := by
  pointwise [k0_pay14, k0_pay13, k0_pay11, k0_pay7, row]

theorem pay29_apply (x : FVec Ideal S1024x2048 .bf16) (w : Vec Ideal S2048x128 .f32) (s : Fin 512) (q : Fin 128) : k0_pay29 x (k0_pay7 w) (ix2 s q) = ∑ d : Fin 2048, x (ix2 (row 1 s) d) * w (ix2 d q) := by
  pointwise [k0_pay29, k0_pay27, k0_pay7, row]

theorem pay15_apply (x : FVec Ideal S1024x2048 .bf16) (w : Vec Ideal S2048x32 .bf16) (s : Fin 512) (q : Fin 32) : k0_pay15 w (k0_pay11 x) (ix2 s q) = ∑ d : Fin 2048, x (ix2 (row 0 s) d) * w (ix2 d q) := by
  pointwise [k0_pay15, k0_pay11, row]

theorem pay30_apply (x : FVec Ideal S1024x2048 .bf16) (w : Vec Ideal S2048x32 .bf16) (s : Fin 512) (q : Fin 32) : k0_pay30 x w (ix2 s q) = ∑ d : Fin 2048, x (ix2 (row 1 s) d) * w (ix2 d q) := by
  pointwise [k0_pay30, k0_pay27, row]

/-! ## Keys and values -/

theorem pay18_apply (w : FVec Ideal S128x512 .bf16) (c c' : Vec Ideal S512x128 .bf16) (w' : Vec Ideal S1x128x512 .bf16) (t q : Fin 512) : k0_pay18 (k0_pay16 w c) c' w' (ix3 (0 : Fin 1) t q) = ∑ l : Fin 128, c (ix2 t l) * w (ix2 l q) + ∑ l : Fin 128, c' (ix2 t l) * w' (ix3 (0 : Fin 1) l q) := by
  pointwise [k0_pay18, k0_pay16]

theorem pay19_apply (w : FVec Ideal S128x512 .bf16) (c c' : Vec Ideal S512x128 .bf16) (w' : Vec Ideal S1x128x512 .bf16) (t q : Fin 512) : k0_pay19 (k0_pay17 w c) c' w' (ix3 (0 : Fin 1) t q) = ∑ l : Fin 128, c (ix2 t l) * w (ix2 l q) + ∑ l : Fin 128, c' (ix2 t l) * w' (ix3 (0 : Fin 1) l q) := by
  pointwise [k0_pay19, k0_pay17]

theorem pay33_apply (w : FVec Ideal S128x512 .bf16) (c c' : Vec Ideal S512x128 .bf16) (w' : Vec Ideal S1x128x512 .bf16) (t q : Fin 512) : k0_pay33 (k0_pay31 w c) c' w' (ix3 (0 : Fin 1) t q) = ∑ l : Fin 128, c (ix2 t l) * w (ix2 l q) + ∑ l : Fin 128, c' (ix2 t l) * w' (ix3 (0 : Fin 1) l q) := by
  pointwise [k0_pay33, k0_pay31]

theorem pay34_apply (w : FVec Ideal S128x512 .bf16) (c c' : Vec Ideal S512x128 .bf16) (w' : Vec Ideal S1x128x512 .bf16) (t q : Fin 512) : k0_pay34 (k0_pay32 w c) c' w' (ix3 (0 : Fin 1) t q) = ∑ l : Fin 128, c (ix2 t l) * w (ix2 l q) + ∑ l : Fin 128, c' (ix2 t l) * w' (ix3 (0 : Fin 1) l q) := by
  pointwise [k0_pay34, k0_pay32]

/-! ## Heads -/

theorem pay20_apply (kr : Vec Ideal S512x32 .bf16) (qr q : Vec Ideal S512x128 .bf16) (k v : Vec Ideal S1x512x128 .bf16) (s : Fin 512) (d : Fin 128) : k0_pay20 kr qr q k v (ix3 (0 : Fin 1) s d) = head 0 kr qr q k v s d := by
  pointwise [k0_pay20, head, scale]

theorem pay24_apply (kr : Vec Ideal S512x32 .bf16) (qr q : Vec Ideal S512x128 .bf16) (k v : Vec Ideal S1x512x128 .bf16) (s : Fin 512) (d : Fin 128) : k0_pay24 (k0_pay22 kr qr q k) (k0_pay23 kr qr q k) v (ix3 (0 : Fin 1) s d) = head 1 kr qr q k v s d := by
  pointwise [k0_pay24, k0_pay22, k0_pay23, k0_pay21, head, scale]

theorem pay25_apply (kr : Vec Ideal S512x32 .bf16) (qr q : Vec Ideal S512x128 .bf16) (k v : Vec Ideal S1x512x128 .bf16) (s : Fin 512) (d : Fin 128) : k0_pay25 kr qr q k v (ix3 (0 : Fin 1) s d) = head 2 kr qr q k v s d := by
  pointwise [k0_pay25, head, scale]

theorem pay26_apply (kr : Vec Ideal S512x32 .bf16) (qr q : Vec Ideal S512x128 .bf16) (k v : Vec Ideal S1x512x128 .bf16) (s : Fin 512) (d : Fin 128) : k0_pay26 kr qr q k v (ix3 (0 : Fin 1) s d) = head 3 kr qr q k v s d := by
  pointwise [k0_pay26, head, scale]

theorem pay35_apply (kr : Vec Ideal S512x32 .bf16) (qr q : Vec Ideal S512x128 .bf16) (k v : Vec Ideal S1x512x128 .bf16) (s : Fin 512) (d : Fin 128) : k0_pay35 kr qr q k v (ix3 (0 : Fin 1) s d) = head 0 kr qr q k v s d := by
  pointwise [k0_pay35, head, scale]

theorem pay37_apply (kr : Vec Ideal S512x32 .bf16) (qr q : Vec Ideal S512x128 .bf16) (k v : Vec Ideal S1x512x128 .bf16) (s : Fin 512) (d : Fin 128) : k0_pay37 (k0_pay36 kr qr q k) v (ix3 (0 : Fin 1) s d) = head 1 kr qr q k v s d := by
  pointwise [k0_pay37, k0_pay36, head, scale]

theorem pay38_apply (kr : Vec Ideal S512x32 .bf16) (qr q : Vec Ideal S512x128 .bf16) (k v : Vec Ideal S1x512x128 .bf16) (s : Fin 512) (d : Fin 128) : k0_pay38 kr qr q k v (ix3 (0 : Fin 1) s d) = head 2 kr qr q k v s d := by
  pointwise [k0_pay38, head, scale]

theorem pay39_apply (kr : Vec Ideal S512x32 .bf16) (qr q : Vec Ideal S512x128 .bf16) (k v : Vec Ideal S1x512x128 .bf16) (s : Fin 512) (d : Fin 128) : k0_pay39 kr qr q k v (ix3 (0 : Fin 1) s d) = head 3 kr qr q k v s d := by
  pointwise [k0_pay39, head, scale]

/-! ## The output projection -/

theorem pay41_apply (o : Vec Ideal S1x1024x512 .bf16) (w : Vec Ideal S1x512x2048 .bf16) (r : Fin 1024) (n : Fin 2048) : k0_pay41 o w (ix2 r n) = ∑ a : Fin 512, o (ix3 (0 : Fin 1) r a) * w (ix3 (0 : Fin 1) a n) := by
  pointwise [k0_pay41]

theorem pay43_apply (t : Vec Ideal S512x2048 .f32) (o : Vec Ideal S1x512x512 .bf16) (w : Vec Ideal S1x512x2048 .bf16) (s : Fin 512) (n : Fin 2048) : k0_pay43 t o w (ix2 s n) = t (ix2 s n) + ∑ a : Fin 512, o (ix3 (0 : Fin 1) s a) * w (ix3 (0 : Fin 1) a n) := by
  pointwise [k0_pay43]

theorem pay44_apply (t : Vec Ideal S512x2048 .f32) (o : Vec Ideal S1x512x512 .bf16) (w : Vec Ideal S1x512x2048 .bf16) (s : Fin 512) (n : Fin 2048) : k0_pay44 t o w (ix2 s n) = t (ix2 s n) + ∑ a : Fin 512, o (ix3 (0 : Fin 1) s a) * w (ix3 (0 : Fin 1) a n) := by
  pointwise [k0_pay44]

theorem pay46_apply (t : Vec Ideal S512x2048 .f32) (o : Vec Ideal S1x512x512 .bf16) (w : Vec Ideal S1x512x2048 .bf16) (s : Fin 512) (n : Fin 2048) : k0_pay46 t o w (ix2 s n) = t (ix2 s n) + ∑ a : Fin 512, o (ix3 (0 : Fin 1) s a) * w (ix3 (0 : Fin 1) a n) := by
  pointwise [k0_pay46]

theorem pay47_apply (t : Vec Ideal S512x2048 .f32) (o : Vec Ideal S1x512x512 .bf16) (w : Vec Ideal S1x512x2048 .bf16) (s : Fin 512) (n : Fin 2048) : k0_pay47 t o w (ix2 s n) = t (ix2 s n) + ∑ a : Fin 512, o (ix3 (0 : Fin 1) s a) * w (ix3 (0 : Fin 1) a n) := by
  pointwise [k0_pay47]

theorem pay51_apply (t : Vec Ideal S512x2048 .f32) (o : Vec Ideal S1x512x512 .bf16) (w : Vec Ideal S1x512x2048 .bf16) (s : Fin 512) (n : Fin 2048) : k0_pay51 (k0_pay49 t) (k0_pay50 o) w (ix2 s n) = t (ix2 s n) + ∑ a : Fin 512, o (ix3 (0 : Fin 1) s a) * w (ix3 (0 : Fin 1) a n) := by
  pointwise [k0_pay51, k0_pay49, k0_pay50]

theorem pay1_apply (t : Vec Ideal S512x2048 .f32) (o : Vec Ideal S1x512x512 .bf16) (w : Vec Ideal S1x512x2048 .bf16) (s : Fin 512) (n : Fin 2048) : k0_pay1 (k0_pay52 t) (k0_pay53 o) (k0_pay54 w) (ix2 s n) = t (ix2 s n) + ∑ a : Fin 512, o (ix3 (0 : Fin 1) s a) * w (ix3 (0 : Fin 1) a n) := by
  pointwise [k0_pay1, k0_pay52, k0_pay53, k0_pay54]

end Cert.KProof

end
-- ==== Proof.Values.lean ====
/-
# 01_k — the kernel's contents at an index

Each contents of Contents.lean over the extended reals, read at an index, is a quantity of Spec.lean of the whole arrays
whose blocks the devices hold. Rows of a device's buffers run over both batches; its columns start at its ring position.
-/
module

public import proofs.«01_k».proof.Proof.Contents
public import proofs.«01_k».proof.Proof.Pay
public import proofs.«01_k».proof.Proof.Pieces
public import Idealize.ShloMosaic.Lib.Pipeline.ValueKit.Point

@[expose] public section

set_option maxRecDepth 16384

noncomputable section

namespace Cert.KProof

open Cert.KernelIdeal Cert.KernelIdeal.Gen
open Idealize.ShloMosaic
open Idealize.ShloMosaic.TcCoe
open scoped BigOperators

variable (m : (ℓ : Loc nD τ sig) → Buf (Elt Ideal) ℓ) (c : Dev nD) (W : Whole)

/-! ## Coordinates -/

theorem dev_lt (c : Dev nD) : c.val < 4 := c.isLt
/-- A device's part of the latent, and the columns at a ring position. -/
def lat (c : Dev nD) (l : Fin 128) : Fin 256 := ⟨128 * (c.val / 2) + l.val, by have := dev_lt c; omega⟩
def col (p : Dev nD) (q : Fin 512) : Fin 2048 := ⟨512 * p.val + q.val, by have := dev_lt p; omega⟩
def rcol (p : Dev nD) (q : Fin 128) : Fin 512 := ⟨128 * p.val + q.val, by have := dev_lt p; omega⟩
/-- The ring position `k` places further on. -/
def pos (c : Dev nD) (k : ℕ) : Dev nD := ⟨((ringPos c).val + k) % 4, Nat.mod_lt _ (by decide)⟩

theorem off1_eq : k0_off1 c = ![0, 512 * (ringPos c).val] := by revert c; decide +kernel
theorem off2_eq : k0_off2 c = ![0, 128 * (ringPos c).val] := by revert c; decide +kernel
theorem off5_eq : k0_off5 c = ![0, 512 * (ringPos (xn c)).val] := by revert c; decide +kernel
theorem off6_eq : k0_off6 c = ![0, 512 * (ringPos c).val] := by revert c; decide +kernel
theorem off7_eq (k : Fin 4) : off7 c k = ![512 * (pos c k.val).val, 0] := by revert c k; decide +kernel
theorem pos_src (k : Fin 4) : ringPos (src c k.val) = pos c (4 - k.val) := by revert c k; decide +kernel
theorem xn_half : (xn c).val / 2 = 1 - c.val / 2 := by revert c; decide

theorem emb2 {N1 N2 k1 k2 : ℕ} (off : Fin 2 → ℕ) (inb) (i : Fin k1) (j : Fin k2) (I : Fin N1) (J : Fin N2)
    (h0 : I.val = off 0 + i.val) (h1 : J.val = off 1 + j.val) :
    (Rect.unit (s := ⟨2, ![N1, N2]⟩) off (⟨2, ![k1, k2]⟩ : Shape).size inb).emb (ix2 i j) = ix2 I J := by
  funext a
  apply Fin.ext
  match a with
  | ⟨0, _⟩ => show off 0 + 1 * i.val = I.val; omega
  | ⟨1, _⟩ => show off 1 + 1 * j.val = J.val; omega

theorem emb3 {N1 N2 N3 k1 k2 k3 : ℕ} (off : Fin 3 → ℕ) (inb) (i : Fin k1) (j : Fin k2) (k : Fin k3) (I : Fin N1) (J : Fin N2) (K : Fin N3)
    (h0 : I.val = off 0 + i.val) (h1 : J.val = off 1 + j.val) (h2 : K.val = off 2 + k.val) :
    (Rect.unit (s := ⟨3, ![N1, N2, N3]⟩) off (⟨3, ![k1, k2, k3]⟩ : Shape).size inb).emb (ix3 i j k) = ix3 I J K := by
  funext a
  apply Fin.ext
  match a with
  | ⟨0, _⟩ => show off 0 + 1 * i.val = I.val; omega
  | ⟨1, _⟩ => show off 1 + 1 * j.val = J.val; omega
  | ⟨2, _⟩ => show off 2 + 1 * k.val = K.val; omega

/-! ## The arguments -/

/-- The devices hold the blocks of the whole arrays. -/
structure Blocks : Prop where
  x : ∀ (c : Dev nD) b s d, (m ((c : Thread nD τ).loc main_arg0) : S2x512x2048.Idx → EReal) (ix3 b s d) = W.x (ix3 b s d)
  wd : ∀ (c : Dev nD) d l, (m ((c : Thread nD τ).loc main_arg1) : S2048x128.Idx → EReal) (ix2 d l) = W.wd (ix2 d (lat c l))
  wuk : ∀ (c : Dev nD) l n, (m ((c : Thread nD τ).loc main_arg2) : S128x2048.Idx → EReal) (ix2 l n) = W.wuk (ix2 (lat c l) n)
  wuv : ∀ (c : Dev nD) l n, (m ((c : Thread nD τ).loc main_arg3) : S128x2048.Idx → EReal) (ix2 l n) = W.wuv (ix2 (lat c l) n)
  wq : ∀ (c : Dev nD) d n, (m ((c : Thread nD τ).loc main_arg4) : S2048x2048.Idx → EReal) (ix2 d n) = W.wq (ix2 d n)
  wqr : ∀ (c : Dev nD) d n, (m ((c : Thread nD τ).loc main_arg5) : S2048x512.Idx → EReal) (ix2 d n) = W.wqr (ix2 d n)
  wkr : ∀ (c : Dev nD) d n, (m ((c : Thread nD τ).loc main_arg6) : S2048x32.Idx → EReal) (ix2 d n) = W.wkr (ix2 d n)
  wo : ∀ (c : Dev nD) d n, (m ((c : Thread nD τ).loc main_arg7) : S2048x2048.Idx → EReal) (ix2 d n) = W.wo (ix2 d n)

variable {m W} (B : Blocks m W)

theorem V265_apply (d : Fin 2048) (q : Fin 128) : V265 m c (ix2 d q) = WQR m c (ix2 d q) := congrArg (WQR m c) (emb2 _ _ d q d q (by simp) (by simp))
theorem V263_apply (d : Fin 2048) (q : Fin 512) : V263 m c (ix2 d q) = WQ m c (ix2 d q) := congrArg (WQ m c) (emb2 _ _ d q d q (by simp) (by simp))

/-- A staged input is the whole argument. -/
theorem X_eq : X m c = m ((c : Thread nD τ).loc main_arg0) := by
  funext i
  have e : ∀ a, win0_0.index (0 : Fin 1) a = 0 := by decide +kernel
  unfold X; blk_ext [e]
theorem WD_eq : WD m c = m ((c : Thread nD τ).loc main_arg1) := by
  funext i
  have e : ∀ a, win0_1.index (0 : Fin 1) a = 0 := by decide +kernel
  unfold WD; blk_ext [e]
theorem WUK_eq : WUK m c = m ((c : Thread nD τ).loc main_arg2) := by
  funext i
  have e : ∀ a, win0_2.index (0 : Fin 1) a = 0 := by decide +kernel
  unfold WUK; blk_ext [e]
theorem WUV_eq : WUV m c = m ((c : Thread nD τ).loc main_arg3) := by
  funext i
  have e : ∀ a, win0_3.index (0 : Fin 1) a = 0 := by decide +kernel
  unfold WUV; blk_ext [e]
theorem WKR_eq : WKR m c = m ((c : Thread nD τ).loc main_arg6) := by
  funext i
  have e : ∀ a, win0_4.index (0 : Fin 1) a = 0 := by decide +kernel
  unfold WKR; blk_ext [e]

include B

theorem V44_apply (b : Fin 2) (s : Fin 512) (d : Fin 2048) : V44 m c (ix3 b s d) = W.x (ix3 b s d) :=
  (congrArg (X m c) (emb3 _ _ b s d b s d (by simp) (by simp) (by simp))).trans ((congrFun (X_eq c) _).trans (B.x c b s d))
theorem WD_apply (d : Fin 2048) (l : Fin 128) : rd cc0_stg1_0 rWD (WD m c) (ix2 d l) = W.wd (ix2 d (lat c l)) :=
  (congrArg (WD m c) (emb2 _ _ d l d l (by simp) (by simp))).trans ((congrFun (WD_eq c) _).trans (B.wd c d l))
theorem WKR_apply (d : Fin 2048) (r : Fin 32) : rd cc0_stg4_0 rWK (WKR m c) (ix2 d r) = W.wkr (ix2 d r) :=
  (congrArg (WKR m c) (emb2 _ _ d r d r (by simp) (by simp))).trans ((congrFun (WKR_eq c) _).trans (B.wkr c d r))
theorem WUK_apply (l : Fin 128) (n : Fin 2048) : (WUK m c : S128x2048.Idx → EReal) (ix2 l n) = W.wuk (ix2 (lat c l) n) :=
  (congrFun (WUK_eq c) _).trans (B.wuk c l n)
theorem WUV_apply (l : Fin 128) (n : Fin 2048) : (WUV m c : S128x2048.Idx → EReal) (ix2 l n) = W.wuv (ix2 (lat c l) n) :=
  (congrFun (WUV_eq c) _).trans (B.wuv c l n)

/-- The columns of the two up projections at a ring position, as a device cuts them from its own block. -/
theorem cut5_apply (f : S128x2048.Idx → EReal) (l : Fin 128) (q : Fin 512) :
    f ((rW5 c).emb (ix2 l q)) = f (ix2 l (col (ringPos (xn c)) q)) :=
  congrArg f (emb2 _ _ l q l _ (by rw [off5_eq]; simp) (by rw [off5_eq]; simp [col]))
theorem cut6_apply (f : S128x2048.Idx → EReal) (l : Fin 128) (q : Fin 512) :
    f ((rW6 c).emb (ix2 l q)) = f (ix2 l (col (ringPos c) q)) :=
  congrArg f (emb2 _ _ l q l _ (by rw [off6_eq]; simp) (by rw [off6_eq]; simp [col]))

theorem WQ_apply (d : Fin 2048) (q : Fin 512) : V263 m c (ix2 d q) = W.wq (ix2 d (col (ringPos c) q)) :=
  (V263_apply c d q).trans ((congrArg (m ((c : Thread nD τ).loc main_arg4) : S2048x2048.Idx → EReal)
    (emb2 _ _ d q d (col (ringPos c) q) (by rw [off1_eq]; simp) (by rw [off1_eq]; simp [col]))).trans (B.wq c d _))
theorem WQR_apply (d : Fin 2048) (q : Fin 128) : V265 m c (ix2 d q) = W.wqr (ix2 d (rcol (ringPos c) q)) :=
  (V265_apply c d q).trans ((congrArg (m ((c : Thread nD τ).loc main_arg5) : S2048x512.Idx → EReal)
    (emb2 _ _ d q d (rcol (ringPos c) q) (by rw [off2_eq]; simp) (by rw [off2_eq]; simp [rcol]))).trans (B.wqr c d _))
theorem WOc_apply (k : Fin 4) (a : Fin 512) (n : Fin 2048) : WOc m c k (ix2 a n) = W.wo (ix2 (col (pos c k.val) a) n) :=
  (congrArg (m ((c : Thread nD τ).loc main_arg7) : S2048x2048.Idx → EReal)
    (emb2 _ _ a n (col (pos c k.val) a) n (by rw [off7_eq]; simp [col]) (by rw [off7_eq]; simp))).trans (B.wo c _ n)

/-! ## Projections of the tokens -/

theorem V47_apply (r : Fin 1024) (d : Fin 2048) : V47 m c (ix2 r d) = W.x (ix3 (bat r) (tok r) d) :=
  (pay2_apply _ r d).trans (V44_apply c B _ _ d)

theorem CS_apply (r : Fin 1024) (l : Fin 128) : (CS m c : S1024x128.Idx → EReal) (ix2 r l) = W.proj (bat r) (tok r) W.wd (lat c l) :=
  (pay3_apply _ _ r l).trans (Finset.sum_congr rfl fun d _ => congrArg₂ (· * ·) (V44_apply c B _ _ d) (WD_apply c B d l))

/-- A product of a half of the tokens with a block of columns. -/
theorem proj_half {n k : ℕ} {w : (⟨2, ![2048, n]⟩ : Shape).Idx → EReal} {v : (⟨2, ![2048, k]⟩ : Shape).Idx → EReal} (b : Fin 2) (s : Fin 512)
    (q : Fin k) (j : Fin n) (h : ∀ d, v (ix2 d q) = w (ix2 d j)) :
    ∑ d : Fin 2048, V47 m c (ix2 (row b s) d) * v (ix2 d q) = W.proj b s w j :=
  Finset.sum_congr rfl fun d _ => congrArg₂ (· * ·) ((V47_apply c B _ d).trans (by rw [bat_row, tok_row])) (h d)

theorem Qb_apply (b : Fin 2) (s q : Fin 512) : Qb m c b.val (ix2 s q) = W.proj b s W.wq (col (ringPos c) q) := by
  have h := proj_half c B b s q (col (ringPos c) q) fun d => WQ_apply c B d q
  obtain rfl | rfl : b = 0 ∨ b = 1 := by omega
  · exact (pay12_apply _ _ s q).trans h
  · exact (pay28_apply _ _ s q).trans h
theorem Rb_apply (b : Fin 2) (s : Fin 512) (q : Fin 128) : Rb m c b.val (ix2 s q) = W.proj b s W.wqr (rcol (ringPos c) q) := by
  have h := proj_half c B b s q (rcol (ringPos c) q) fun d => WQR_apply c B d q
  obtain rfl | rfl : b = 0 ∨ b = 1 := by omega
  · exact (pay14_apply _ _ s q).trans h
  · exact (pay29_apply _ _ s q).trans h
theorem Kb_apply (b : Fin 2) (s : Fin 512) (q : Fin 32) : Kb m c b.val (ix2 s q) = W.proj b s W.wkr q := by
  have h := proj_half c B b s q q fun d => (pay8_apply (rd cc0_stg4_0 rWK (WKR m c)) d q).trans (WKR_apply c B d q)
  obtain rfl | rfl : b = 0 ∨ b = 1 := by omega
  · exact (pay15_apply _ _ s q).trans h
  · exact (pay30_apply _ _ s q).trans h

/-! ## Keys and values -/

/-- The latent a device's partner holds is the other half; the two halves make the whole sum. -/
theorem lat_halves (f : Fin 256 → EReal) : ∑ l : Fin 128, f (lat c l) + ∑ l : Fin 128, f (lat (xn c) l) = ∑ l : Fin 256, f l := by
  rw [Fin.sum_univ_add (a := 128) (b := 128) f]
  have h2 : c.val / 2 = 0 ∨ c.val / 2 = 1 := by have := dev_lt c; omega
  rcases h2 with h | h
  · refine congrArg₂ (· + ·) (Finset.sum_congr rfl fun l _ => congrArg f (Fin.ext ?_)) (Finset.sum_congr rfl fun l _ => congrArg f (Fin.ext ?_))
    · simp [lat, h]
    · simp [lat, xn_half, h, Nat.add_comm]
  · rw [add_comm]
    refine congrArg₂ (· + ·) (Finset.sum_congr rfl fun l _ => congrArg f (Fin.ext ?_)) (Finset.sum_congr rfl fun l _ => congrArg f (Fin.ext ?_))
    · simp [lat, xn_half, h]
    · simp [lat, h, Nat.add_comm]

theorem CSb_apply (b : Fin 2) (s : Fin 512) (l : Fin 128) :
    (CS m c : S1024x128.Idx → EReal) ((rCb b).emb (ix2 s l)) = W.proj b s W.wd (lat c l) :=
  (congrArg (CS m c) (emb2 ![512 * b.val, 0] _ s l (row b s) l (by simp [row]) (by simp))).trans
    ((CS_apply c B (row b s) l).trans (by rw [bat_row, tok_row]))

/-- An up projection, as the device and its partner make it together: each its own half of the latent. -/
theorem up_split (b : Fin 2) (s : Fin 512) (w : (⟨2, ![256, 2048]⟩ : Shape).Idx → EReal) (j : Fin 2048) (a a' : S512x128.Idx → EReal)
    (u u' : Fin 128 → EReal) (ha : ∀ l, a (ix2 s l) = W.proj b s W.wd (lat c l)) (ha' : ∀ l, a' (ix2 s l) = W.proj b s W.wd (lat (xn c) l))
    (h : ∀ l, u l = w (ix2 (lat c l) j)) (h' : ∀ l, u' l = w (ix2 (lat (xn c) l) j)) :
    ∑ l : Fin 128, a (ix2 s l) * u l + ∑ l : Fin 128, a' (ix2 s l) * u' l = W.up b s w j :=
  (congrArg₂ (· + ·) (Finset.sum_congr rfl fun l _ => congrArg₂ (· * ·) (ha l) (h l))
    (Finset.sum_congr rfl fun l _ => congrArg₂ (· * ·) (ha' l) (h' l))).trans (lat_halves c B fun l => W.proj b s W.wd l * w (ix2 l j))

theorem V274_apply (l : Fin 128) (q : Fin 512) : V274 m c (ix2 l q) = W.wuk (ix2 (lat c l) (col (ringPos c) q)) :=
  (pay9_apply _ l q).trans ((cut6_apply c B (WUK m c) l q).trans (WUK_apply c B l _))
theorem V279_apply (l : Fin 128) (q : Fin 512) : V279 m c (ix2 l q) = W.wuv (ix2 (lat c l) (col (ringPos c) q)) :=
  (pay10_apply _ l q).trans ((cut6_apply c B (WUV m c) l q).trans (WUV_apply c B l _))
theorem WR0_apply (l : Fin 128) (q : Fin 512) : rd cc0_scratch4 (rW 0) (WR m c) (ix3 (0 : Fin 1) l q) = W.wuk (ix2 (lat (xn c) l) (col (ringPos c) q)) := by
  refine (congrFun (read_WS0 m (xn c)) (ix3 (0 : Fin 1) l q)).trans ((pay4_apply _ l q).trans ((cut5_apply (xn c) B (WUK m (xn c)) l q).trans ?_))
  rw [xn_xn]; exact WUK_apply (xn c) B l _
theorem WR1_apply (l : Fin 128) (q : Fin 512) : rd cc0_scratch4 (rW 1) (WR m c) (ix3 (0 : Fin 1) l q) = W.wuv (ix2 (lat (xn c) l) (col (ringPos c) q)) := by
  refine (congrFun (read_WS1 m (xn c)) (ix3 (0 : Fin 1) l q)).trans ((pay5_apply _ l q).trans ((cut5_apply (xn c) B (WUV m (xn c)) l q).trans ?_))
  rw [xn_xn]; exact WUV_apply (xn c) B l _

/-- Keys. -/
theorem KVb0_apply (b : Fin 2) (t q : Fin 512) : KVb m c 0 b.val (ix3 (0 : Fin 1) t q) = W.up b t W.wuk (col (ringPos c) q) := by
  have h := up_split c B b t W.wuk (col (ringPos c) q) (rd cc0_scratch1 (rCb b) (CS m c)) (rd cc0_scratch2 (rCb b) (CR m c)) _ _ (CSb_apply c B b t) (CSb_apply (xn c) B b t) (fun l => V274_apply c B l q) (fun l => WR0_apply c B l q)
  obtain rfl | rfl : b = 0 ∨ b = 1 := by omega
  · exact (pay18_apply _ _ _ _ t q).trans h
  · exact (pay33_apply _ _ _ _ t q).trans h
/-- Values. -/
theorem KVb1_apply (b : Fin 2) (t q : Fin 512) : KVb m c 1 b.val (ix3 (0 : Fin 1) t q) = W.up b t W.wuv (col (ringPos c) q) := by
  have h := up_split c B b t W.wuv (col (ringPos c) q) (rd cc0_scratch1 (rCb b) (CS m c)) (rd cc0_scratch2 (rCb b) (CR m c)) _ _ (CSb_apply c B b t) (CSb_apply (xn c) B b t) (fun l => V279_apply c B l q) (fun l => WR1_apply c B l q)
  obtain rfl | rfl : b = 0 ∨ b = 1 := by omega
  · exact (pay19_apply _ _ _ _ t q).trans h
  · exact (pay34_apply _ _ _ _ t q).trans h

theorem KV0_apply (b : Fin 2) (t q : Fin 512) : (KV m c : S2x1024x512.Idx → EReal) (ix3 (0 : Fin 2) (row b t) q) = W.up b t W.wuk (col (ringPos c) q) :=
  (congrArg (KV m c) (emb3 ![0, 512 * b.val, 0] (by revert b; decide) (0 : Fin 1) t q (0 : Fin 2) (row b t) q (by simp) (by simp [row]) (by simp))).symm.trans
    ((congrFun (read_KV m c 0 b) (ix3 (0 : Fin 1) t q)).trans (KVb0_apply c B b t q))
theorem KV1_apply (b : Fin 2) (t q : Fin 512) : (KV m c : S2x1024x512.Idx → EReal) (ix3 (1 : Fin 2) (row b t) q) = W.up b t W.wuv (col (ringPos c) q) :=
  (congrArg (KV m c) (emb3 ![1, 512 * b.val, 0] (by revert b; decide) (0 : Fin 1) t q (1 : Fin 2) (row b t) q (by simp) (by simp [row]) (by simp))).symm.trans
    ((congrFun (read_KV m c 1 b) (ix3 (0 : Fin 1) t q)).trans (KVb1_apply c B b t q))
theorem Qs_apply (b : Fin 2) (s q : Fin 512) : (Qs m c : S1024x512.Idx → EReal) (ix2 (row b s) q) = W.proj b s W.wq (col (ringPos c) q) :=
  (congrArg (Qs m c) (emb2 ![512 * b.val, 0] (by revert b; decide) s q (row b s) q (by simp [row]) (by simp))).symm.trans
    ((congrFun (read_Qs m c b) (ix2 s q)).trans (Qb_apply c B b s q))

/-! ## Attention -/

/-- Column `d` of the device's head `h`. -/
def hcol (h : Fin 4) (d : Fin 128) : Fin 512 := ⟨128 * h.val + d.val, by omega⟩
def hrot (h : Fin 4) (r : Fin 32) : Fin 128 := ⟨32 * h.val + r.val, by omega⟩

theorem lQ_apply (b : Fin 2) (h : Fin 4) (s : Fin 512) (i : Fin 128) : lQ m c b h (ix2 s i) = W.proj b s W.wq (col (ringPos c) (hcol h i)) :=
  (congrArg (Qs m c) (emb2 ![512 * b.val, 128 * h.val] _ s i (row b s) (hcol h i) (by simp [row]) (by simp [hcol]))).trans (Qs_apply c B b s _)
theorem lQr_apply (b : Fin 2) (s : Fin 512) (i : Fin 128) : lQr m c b (ix2 s i) = W.proj b s W.wqr (rcol (ringPos c) i) :=
  (congrFun (read_Rs m c b) (ix2 s i)).trans (Rb_apply c B b s i)
theorem lKr_apply (b : Fin 2) (s : Fin 512) (i : Fin 32) : lKr m c b (ix2 s i) = W.proj b s W.wkr i :=
  (congrFun (read_Ks m c b) (ix2 s i)).trans (Kb_apply c B b s i)
theorem lV0_apply (b : Fin 2) (h : Fin 4) (t : Fin 512) (i : Fin 128) :
    lV m c 0 b h (ix3 (0 : Fin 1) t i) = W.up b t W.wuk (col (ringPos c) (hcol h i)) :=
  (congrArg (KV m c) (emb3 ![0, 512 * b.val, 128 * h.val] _ (0 : Fin 1) t i (0 : Fin 2) (row b t) (hcol h i) (by simp) (by simp [row])
    (by simp [hcol]))).trans (KV0_apply c B b t _)
theorem lV1_apply (b : Fin 2) (h : Fin 4) (t : Fin 512) (i : Fin 128) :
    lV m c 1 b h (ix3 (0 : Fin 1) t i) = W.up b t W.wuv (col (ringPos c) (hcol h i)) :=
  (congrArg (KV m c) (emb3 ![1, 512 * b.val, 128 * h.val] _ (0 : Fin 1) t i (1 : Fin 2) (row b t) (hcol h i) (by simp) (by simp [row])
    (by simp [hcol]))).trans (KV1_apply c B b t _)

omit B in
/-- Each head's attention is one formula of the head's number. -/
theorem Ob_head (b : Fin 2) (h : Fin 4) (s : Fin 512) (d : Fin 128) :
    Ob m c b.val h.val (ix3 (0 : Fin 1) s d) = head h (lKr m c b) (lQr m c b) (lQ m c b h) (lV m c 0 b h) (lV m c 1 b h) s d := by
  obtain rfl | rfl : b = 0 ∨ b = 1 := by omega
  · obtain rfl | rfl | rfl | rfl : h = 0 ∨ h = 1 ∨ h = 2 ∨ h = 3 := by omega
    · exact pay20_apply _ _ _ _ _ s d
    · exact pay24_apply _ _ _ _ _ s d
    · exact pay25_apply _ _ _ _ _ s d
    · exact pay26_apply _ _ _ _ _ s d
  · obtain rfl | rfl | rfl | rfl : h = 0 ∨ h = 1 ∨ h = 2 ∨ h = 3 := by omega
    · exact pay35_apply _ _ _ _ _ s d
    · exact pay37_apply _ _ _ _ _ s d
    · exact pay38_apply _ _ _ _ _ s d
    · exact pay39_apply _ _ _ _ _ s d

omit B in
theorem head_congr {o : Fin 4} {kr : Vec Ideal S512x32 .bf16} {qr q : Vec Ideal S512x128 .bf16} {k v : Vec Ideal S1x512x128 .bf16}
    {s : Fin 512} {d : Fin 128} {b : Fin 2} {n : Fin 2048}
    (hkr : ∀ t r, kr (ix2 t r) = W.proj b t W.wkr r) (hqr : ∀ r, qr (ix2 s (hrot o r)) = W.proj b s W.wqr (rotOf (headOf n) r))
    (hq : ∀ i, q (ix2 s i) = W.proj b s W.wq (colOf (headOf n) i)) (hk : ∀ t i, k (ix3 (0 : Fin 1) t i) = W.up b t W.wuk (colOf (headOf n) i))
    (hv : ∀ t, v (ix3 (0 : Fin 1) t d) = W.up b t W.wuv n) : head o kr qr q k v s d = W.att b s n := by
  have e (t : Fin 512) : Ideal.exp ((∑ i : Fin 128, q (ix2 s i) * k (ix3 (0 : Fin 1) t i)
      + ∑ r : Fin 32, qr (ix2 s (hrot o r)) * kr (ix2 t r)) * scale) = Ideal.exp (W.score b s t (headOf n)) := by
    refine congrArg Ideal.exp (congrArg (· * scale) (congrArg₂ (· + ·) ?_ ?_))
    · exact Finset.sum_congr rfl fun i _ => congrArg₂ (· * ·) (hq i) (hk t i)
    · exact Finset.sum_congr rfl fun r _ => congrArg₂ (· * ·) (hqr r) (hkr t r)
  exact congrArg₂ Ideal.div (Finset.sum_congr rfl fun t _ => congrArg₂ (· * ·) (e t) (hv t)) (Finset.sum_congr rfl fun t _ => e t)

theorem Ob_apply (b : Fin 2) (h : Fin 4) (s : Fin 512) (d : Fin 128) :
    Ob m c b.val h.val (ix3 (0 : Fin 1) s d) = W.att b s (col (ringPos c) (hcol h d)) := by
  have hc (i : Fin 128) : col (ringPos c) (hcol h i) = colOf (headOf (col (ringPos c) (hcol h d))) i := by
    apply Fin.ext; simp only [col, hcol, colOf, headOf]; omega
  have hr (r : Fin 32) : rcol (ringPos c) (hrot h r) = rotOf (headOf (col (ringPos c) (hcol h d))) r := by
    apply Fin.ext; simp only [col, hcol, rcol, hrot, rotOf, headOf]; omega
  exact (Ob_head c b h s d).trans (head_congr (fun t r => lKr_apply c B b t r) (fun r => (lQr_apply c B b s _).trans (by rw [hr]))
    (fun i => (lQ_apply c B b h s i).trans (by rw [hc])) (fun t i => (lV0_apply c B b h t i).trans (by rw [hc])) fun t => lV1_apply c B b h t d)

/-- Place `k` of the gathered attention: the columns of the ring position `k` places back. -/
theorem OB_apply (k : Fin 4) (r : Fin 1024) (q : Fin 512) :
    (OB m c : S4x1024x512.Idx → EReal) (ix3 k r q) = W.att (bat r) (tok r) (col (pos c (4 - k.val)) q) := by
  refine (Ob_apply (src c k.val) B (bat r) ⟨q.val / 128, by omega⟩ (tok r) ⟨q.val % 128, by omega⟩).trans ?_
  rw [pos_src, show hcol ⟨q.val / 128, by omega⟩ ⟨q.val % 128, by omega⟩ = q from Fin.ext (Nat.div_add_mod q.val 128)]

/-! ## The output projection -/

theorem WBc_apply (k : Fin 4) (a : Fin 512) (n : Fin 2048) : WBc m c k (ix3 (0 : Fin 1) a n) = W.wo (ix2 (col (pos c k.val) a) n) := by
  refine Eq.trans ?_ (WOc_apply c B k a n)
  have e0 (k : Fin 4) : rd cc0_scratch11 (rS 0) (WOB m c k) (ix3 (0 : Fin 1) a n) = WOc m c k (ix2 a n) :=
    congrArg (WOB m c k) (emb3 ![0, 0, 0] _ (0 : Fin 1) a n (0 : Fin 2) a n (by simp) (by simp) (by simp))
  have e1 (k : Fin 4) : rd cc0_scratch11 (rS 1) (WOB m c k) (ix3 (0 : Fin 1) a n) = WOc m c k (ix2 a n) :=
    congrArg (WOB m c k) (emb3 ![1, 0, 0] _ (0 : Fin 1) a n (1 : Fin 2) a n (by simp) (by simp) (by simp))
  obtain rfl | rfl | rfl | rfl : k = 0 ∨ k = 1 ∨ k = 2 ∨ k = 3 := by omega
  · exact (pay40_apply _ a n).trans (e0 0)
  · exact (pay48_apply _ a n).trans (e1 1)
  · exact (pay45_apply _ a n).trans (e0 2)
  · exact (pay42_apply _ a n).trans (e1 3)

theorem WBF_apply (j : Fin 2) (k : Fin 4) (a : Fin 512) (n : Fin 2048) :
    rd cc0_scratch12 (rS j) (WBF m c k) (ix3 (0 : Fin 1) a n) = W.wo (ix2 (col (pos c k.val) a) n) :=
  (congrFun (read_WBF m c j k) _).trans (WBc_apply c B k a n)

theorem rO_apply (k : Fin 4) (b : Fin 2) (s a : Fin 512) :
    rd cc0_scratch10 (rO k b) (OB m c) (ix3 (0 : Fin 1) s a) = W.att b s (col (pos c (4 - k.val)) a) :=
  (congrArg (OB m c) (emb3 ![k.val, 512 * b.val, 0] _ (0 : Fin 1) s a k (row b s) a (by simp) (by simp [row]) (by simp))).trans
    ((OB_apply c B k (row b s) a).trans (by rw [bat_row, tok_row]))

/-- The share of the output that the columns of one ring position give. -/
def _root_.Cert.KProof.Whole.share (W : Whole) (b : Fin 2) (s : Fin 512) (n : Fin 2048) (p : Dev nD) : EReal :=
  ∑ a : Fin 512, W.att b s (col p a) * W.wo (ix2 (col p a) n)

omit B in
/-- The output is the sum of the four positions' shares, in the order in which the device adds them. -/
theorem out_shares (b : Fin 2) (s : Fin 512) (n : Fin 2048) :
    W.share b s n (pos c 0) + W.share b s n (pos c 3) + W.share b s n (pos c 2) + W.share b s n (pos c 1) = W.out b s n := by
  have hb : Function.Bijective (fun k : Fin 4 => (pos c k.val : Fin 4)) := by revert c; decide +kernel
  have h1 : ∑ k : Fin 4, W.share b s n (pos c k.val) = ∑ p : Fin 4, W.share b s n p := (Equiv.ofBijective _ hb).sum_comp (fun p => W.share b s n p)
  have h2 : ∑ p : Fin 4, W.share b s n p = W.out b s n := by
    unfold Whole.out Whole.share
    rw [← (finProdFinEquiv (m := 4) (n := 512)).sum_comp, Fintype.sum_prod_type]
    refine Finset.sum_congr rfl fun p _ => Finset.sum_congr rfl fun a _ => ?_
    have e : finProdFinEquiv (m := 4) (n := 512) (p, a) = col p a := Fin.ext (Nat.add_comm _ _)
    rw [e]
  rw [← h2, ← h1, Fin.sum_univ_four]
  show _ = W.share b s n (pos c 0) + W.share b s n (pos c 1) + W.share b s n (pos c 2) + W.share b s n (pos c 3)
  rw [add_right_comm _ _ (W.share b s n (pos c 1)), add_right_comm _ _ (W.share b s n (pos c 1)), add_right_comm _ _ (W.share b s n (pos c 2))]

omit B in
theorem pos_four : pos c 4 = pos c 0 := by revert c; decide

theorem T0_apply (r : Fin 1024) (n : Fin 2048) : (T0 m c : S1024x2048.Idx → EReal) (ix2 r n) = W.share (bat r) (tok r) n (pos c 0) := by
  refine (pay41_apply _ _ r n).trans (Finset.sum_congr rfl fun a _ => congrArg₂ (· * ·) ?_ (WBF_apply c B 0 0 a n))
  refine (congrArg (OB m c) (emb3 ![0, 0, 0] _ (0 : Fin 1) r a (0 : Fin 4) r a (by simp) (by simp) (by simp))).trans ((OB_apply c B 0 r a).trans ?_)
  rw [show pos c (4 - (0 : Fin 4).val) = pos c 0 from pos_four c]

omit B in
/-- One more share. -/
theorem add_share (o : S1x512x512.Idx → EReal) (w : S1x512x2048.Idx → EReal) (p p' : Dev nD) (hp : p = p') (b : Fin 2) (s : Fin 512) (n : Fin 2048)
    (t t' : EReal) (ht : t = t') (ho : ∀ a, o (ix3 (0 : Fin 1) s a) = W.att b s (col p a)) (hw : ∀ a, w (ix3 (0 : Fin 1) a n) = W.wo (ix2 (col p' a) n)) :
    t + ∑ a : Fin 512, o (ix3 (0 : Fin 1) s a) * w (ix3 (0 : Fin 1) a n) = t' + W.share b s n p' := by
  subst hp
  exact congrArg₂ (· + ·) ht (Finset.sum_congr rfl fun a _ => congrArg₂ (· * ·) (ho a) (hw a))

theorem T0h_apply (b : Fin 2) (s : Fin 512) (n : Fin 2048) :
    (rd cc0_stg5_0 (rTb b) (T0 m c) : S512x2048.Idx → EReal) (ix2 s n) = W.share b s n (pos c 0) :=
  (congrArg (T0 m c) (emb2 ![512 * b.val, 0] _ s n (row b s) n (by simp [row]) (by simp))).trans
    ((T0_apply c B (row b s) n).trans (by rw [bat_row, tok_row]))

theorem T1b_apply (b : Fin 2) (s : Fin 512) (n : Fin 2048) :
    T1b m c b.val (ix2 s n) = W.share b s n (pos c 0) + W.share b s n (pos c 3) := by
  have h := add_share (rd cc0_scratch10 (rO 1 b) (OB m c)) (rd cc0_scratch12 (rS 1) (WBF m c 3)) _ (pos c 3) rfl b s n _ _
    (T0h_apply c B b s n) (rO_apply c B 1 b s) (fun a => WBF_apply c B 1 3 a n)
  obtain rfl | rfl : b = 0 ∨ b = 1 := by omega
  · exact (pay43_apply _ _ _ s n).trans h
  · exact (pay44_apply _ _ _ s n).trans h

theorem T2b_apply (b : Fin 2) (s : Fin 512) (n : Fin 2048) :
    T2b m c b.val (ix2 s n) = W.share b s n (pos c 0) + W.share b s n (pos c 3) + W.share b s n (pos c 2) := by
  have h := add_share (rd cc0_scratch10 (rO 2 b) (OB m c)) (rd cc0_scratch12 (rS 0) (WBF m c 2)) _ (pos c 2) rfl b s n _ _
    ((congrFun (read_halves (T1b m c) b) (ix2 s n)).trans (T1b_apply c B b s n)) (rO_apply c B 2 b s) (fun a => WBF_apply c B 0 2 a n)
  obtain rfl | rfl : b = 0 ∨ b = 1 := by omega
  · exact (pay46_apply _ _ _ s n).trans h
  · exact (pay47_apply _ _ _ s n).trans h

theorem T3b_apply (b : Fin 2) (s : Fin 512) (n : Fin 2048) :
    T3b m c b.val (ix2 s n) = W.share b s n (pos c 0) + W.share b s n (pos c 3) + W.share b s n (pos c 2) + W.share b s n (pos c 1) := by
  have h := add_share (rd cc0_scratch10 (rO 3 b) (OB m c)) (rd cc0_scratch12 (rS 1) (WBF m c 1)) _ (pos c 1) rfl b s n _ _
    ((congrFun (read_halves (T2b m c) b) (ix2 s n)).trans (T2b_apply c B b s n)) (rO_apply c B 3 b s) (fun a => WBF_apply c B 1 1 a n)
  obtain rfl | rfl : b = 0 ∨ b = 1 := by omega
  · exact (pay51_apply _ _ _ s n).trans h
  · exact (pay1_apply _ _ _ s n).trans h

/-- The kernel's result on every device: the output of the whole arrays. -/
theorem T3_apply (r : Fin 1024) (n : Fin 2048) : (T3 m c : S1024x2048.Idx → EReal) (ix2 r n) = W.out (bat r) (tok r) n :=
  (T3b_apply c B (bat r) (tok r) n).trans (out_shares c (bat r) (tok r) n)

end Cert.KProof

end
-- ==== Proof.RefValue.lean ====
/-
# 01_k — the reference's result at an index
-/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.KProof.Ref

open Cert.ReferenceIdeal Cert.ReferenceIdeal.Value
open Idealize.ShloMosaic
open Idealize.ShloMosaic.TcCoe
open scoped BigOperators

variable (m : (ℓ : Loc nD τ sig) → Buf (Elt Ideal) ℓ) (c : Dev nD)

/-- The whole arrays the reference's arguments are. -/
def whole : Whole where
  x := m ((c : Thread nD τ).loc main_arg0)
  wd := m ((c : Thread nD τ).loc main_arg1)
  wuk := m ((c : Thread nD τ).loc main_arg2)
  wuv := m ((c : Thread nD τ).loc main_arg3)
  wq := m ((c : Thread nD τ).loc main_arg4)
  wqr := m ((c : Thread nD τ).loc main_arg5)
  wkr := m ((c : Thread nD τ).loc main_arg6)
  wo := m ((c : Thread nD τ).loc main_arg7)

set_option maxHeartbeats 1000000 in
theorem res_apply (r : Fin 1024) (n : Fin 2048) :
    (show S1024x2048.Idx → EReal from res_main_v30 m c) (ix2 r n) = ∑ k : Fin 2048, (whole m c).soft (bat r) (tok r) k * (whole m c).wo (ix2 k n) := by
  unfold res_main_v30
  clean_types
  pointwise
  rfl

end Cert.KProof.Ref

end
-- ==== Proof.Softmax.lean ====
/-
# 01_k — a softmax divided before or after the values are summed

Of finite scores the weights and their sum are positive reals, and a positive real factor distributes over sums of
extended reals; so the quotient may be taken of each weight or of the weighted sum, and a common shift of the scores
drops out. Nothing is asked of the values.
-/
module

public import proofs.«01_k».proof.Proof.Spec

@[expose] public section

noncomputable section

namespace Cert.KProof

open Idealize.ShloMosaic
open scoped BigOperators

/-- An extended real that is a real number. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]
theorem IsReal.sum {ι : Type} (S : Finset ι) {f : ι → EReal} (h : ∀ i, IsReal (f i)) : IsReal (∑ i ∈ S, f i) := by
  choose g hg using h
  exact ⟨∑ i ∈ S, g i, by rw [coe_sum]; exact Finset.sum_congr rfl fun i _ => hg i⟩

/-- The greatest of finitely many reals, above an infinity below, is a real. -/
theorem fold_max_real {ι : Type} (S : Finset ι) (hS : S.Nonempty) (f : ι → ℝ) : IsReal (S.fold max ⊥ fun i => (f i : EReal)) := by
  classical
  induction hS using Finset.Nonempty.cons_induction with
  | singleton a => exact ⟨f a, by simp⟩
  | cons a S h hS ih =>
    obtain ⟨r, hr⟩ := ih
    exact ⟨max (f a) r, by rw [Finset.fold_cons, hr]; exact (EReal.coe_strictMono.monotone.map_max).symm⟩

/-- A nonnegative real factor distributes over a sum of extended reals. -/
theorem sum_mul_real {ι : Type} (S : Finset ι) (f : ι → EReal) {k : ℝ} (hk : 0 ≤ k) : (∑ i ∈ S, f i) * (k : EReal) = ∑ i ∈ S, f i * (k : EReal) := by
  classical
  induction S using Finset.induction_on with
  | empty => simp
  | insert a S h ih =>
    rw [Finset.sum_insert h, Finset.sum_insert h, EReal.right_distrib_of_nonneg_of_ne_top (EReal.coe_nonneg.mpr hk) (EReal.coe_ne_top k), ih]

theorem neg_inf : Ideal.ofBits .f32 0xFF800000#32 = ⊥ := by
  simp [Ideal.ofBits, Ideal.ieee]

theorem soft_eq {n : ℕ} (a : Fin (n + 1) → ℝ) (v : Fin (n + 1) → EReal) (k : ℝ) :
    ∑ t, v t * Ideal.div (Ideal.exp ((a t : EReal) - k)) (∑ t', Ideal.exp ((a t' : EReal) - k))
      = Ideal.div (∑ t, Ideal.exp (a t) * v t) (∑ t, Ideal.exp (a t)) := by
  have e1 : ∀ t, Ideal.exp ((a t : EReal) - k) = ((Real.exp (a t - k) : ℝ) : EReal) := fun t => by rw [← EReal.coe_sub]; rfl
  have e2 : ∀ t, Ideal.exp (a t : EReal) = ((Real.exp (a t) : ℝ) : EReal) := fun t => rfl
  have p1 : 0 < ∑ t, Real.exp (a t - k) := Finset.sum_pos (fun t _ => Real.exp_pos _) Finset.univ_nonempty
  have p2 : 0 < ∑ t, Real.exp (a t) := Finset.sum_pos (fun t _ => Real.exp_pos _) Finset.univ_nonempty
  simp only [e1, e2, ← coe_sum]
  rw [Ideal.div_coe p2.ne', sum_mul_real _ _ (by positivity)]
  refine Finset.sum_congr rfl fun t _ => ?_
  rw [Ideal.div_coe p1.ne', mul_comm ((Real.exp (a t) : ℝ) : EReal) (v t), mul_assoc, ← EReal.coe_mul, ← EReal.coe_mul]
  congr 2
  simp only [Real.exp_sub, ← Finset.sum_div]
  field_simp

/-- The arrays the scores are computed from hold reals. -/
structure Whole.Finite (W : Whole) : Prop where
  x : ∀ i, IsReal (W.x i)
  wd : ∀ i, IsReal (W.wd i)
  wuk : ∀ i, IsReal (W.wuk i)
  wq : ∀ i, IsReal (W.wq i)
  wqr : ∀ i, IsReal (W.wqr i)
  wkr : ∀ i, IsReal (W.wkr i)

theorem scale_real : IsReal scale := by
  unfold scale Ideal.ofBits Ideal.ieee
  norm_num
  exact ⟨_, rfl⟩

variable {W : Whole} (H : W.Finite) (b : Fin 2) (s t : Fin 512)
include H

theorem proj_real {n : ℕ} {w : (⟨2, ![2048, n]⟩ : Shape).Idx → EReal} (hw : ∀ i, IsReal (w i)) (j : Fin n) : IsReal (W.proj b s w j) :=
  .sum _ fun _ => (H.x _).mul (hw _)
theorem score_real (h : Fin 16) : IsReal (W.score b s t h) :=
  .mul (.add (.sum _ fun _ => (proj_real H b s H.wq _).mul (.sum _ fun _ => (proj_real H b t H.wd _).mul (H.wuk _)))
    (.sum _ fun _ => (proj_real H b s H.wqr _).mul (proj_real H b t H.wkr _))) scale_real

theorem soft_att (n : Fin 2048) : W.soft b s n = W.att b s n := by
  choose a ha using fun t => score_real H b s t (headOf n)
  obtain ⟨k, hk⟩ := fold_max_real (Finset.univ : Finset (Fin 512)) Finset.univ_nonempty a
  have ht : W.top b s (headOf n) = k := by
    unfold Whole.top
    rw [neg_inf]
    simp only [ha]
    exact hk
  unfold Whole.soft Whole.att
  rw [ht]
  simp only [ha]
  exact soft_eq (n := 511) a _ k

theorem soft_out (j : Fin 2048) : W.out b s j = ∑ n : Fin 2048, W.soft b s n * W.wo (ix2 n j) :=
  Finset.sum_congr rfl fun n _ => congrArg (· * _) (soft_att H b s n).symm

end Cert.KProof

end
-- ==== Proof.Final.lean ====
/-
# 01_k — the kernel's result is the reference's

The launch's memories give the whole arrays (`Blocks`) and their reals (`Whole.Finite`); the kernel's result on every device and
the reference's are then the same quantity of Spec.lean.
-/
module

public import proofs.«01_k».proof.Defs
public import proofs.«01_k».proof.Proof.Gen.KernelIdeal
public import proofs.«01_k».proof.Proof.Gen.KernelIdeal.Points
public import proofs.«01_k».proof.Proof.Launch
public import proofs.«01_k».proof.Proof.Values
public import proofs.«01_k».proof.Proof.RefValue
public import proofs.«01_k».proof.Proof.Softmax

@[expose] public section

set_option maxRecDepth 16384

noncomputable section

namespace Cert.KProof

open Idealize.ShloMosaic Idealize.SL.Sem
open Cert.KernelIdeal Cert.KernelIdeal.Gen
open Idealize.ShloMosaic.TcCoe
open scoped BigOperators

/-! ## The precondition -/

instance preFacts : Cert.Pre_finite_scores_KernelIdeal.Facts := by constructor <;> decide
instance preFactsRef : Cert.Pre_finite_scores_ReferenceIdeal.Facts := by constructor <;> decide

/-- A number whose magnitude is below infinity is a real. -/
theorem real_of_lt (x : EReal) (h : max x (-x) < ⊤) : IsReal x := by
  induction x using EReal.rec with
  | bot => simp at h
  | top => simp at h
  | coe r => exact ⟨r, rfl⟩

theorem real_of_test {s : Shape} (h : (⟨0, ![]⟩ : Shape).BroadcastsInDim s (![] : Fin 0 → Fin s.rank)) (x : FVec Ideal s .f32)
    (e : cmpf .olt (Host.absf x) (broadcastInDim s ![] h (constant ⟨0, ![]⟩ .f32 0x7F800000#32)) = fun _ => 1#1) (i : s.Idx) : IsReal (x i) := by
  have e := congrFun e i
  change Ideal.cmp .olt (max (x i) (-(x i))) (Ideal.ofBits .f32 0x7F800000#32) = 1#1 at e
  have hi : Ideal.ofBits .f32 0x7F800000#32 = ⊤ := by simp [Ideal.ofBits, Ideal.ieee]
  rw [hi] at e
  refine real_of_lt _ ?_
  by_contra hn
  simp [Ideal.cmp, hn] at e

section Same

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- What the claim says of the two launches' arguments. -/
def Agree : Prop := ∀ c : Dev nD,
  m ((c.tc : Thread nD τ).loc main_arg0) = m' (((0 : Dev Cert.ReferenceIdeal.nD).tc : Thread Cert.ReferenceIdeal.nD Cert.ReferenceIdeal.τ).loc Cert.ReferenceIdeal.main_arg0)
  ∧ m ((c.tc : Thread nD τ).loc main_arg1) = Layout.blockN ⟨2, ![2048, 128]⟩ ⟨2, ![2048, 256]⟩ (Layout.meshBlock [2, 2] ![[], [0]] c) (m' (((0 : Dev Cert.ReferenceIdeal.nD).tc : Thread Cert.ReferenceIdeal.nD Cert.ReferenceIdeal.τ).loc Cert.ReferenceIdeal.main_arg1))
  ∧ m ((c.tc : Thread nD τ).loc main_arg2) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg2))
  ∧ m ((c.tc : Thread nD τ).loc main_arg3) = Layout.blockN ⟨2, ![128, 2048]⟩ ⟨2, ![256, 2048]⟩ (Layout.meshBlock [2, 2] ![[0], []] c) (m' (((0 : Dev Cert.ReferenceIdeal.nD).tc : Thread Cert.ReferenceIdeal.nD Cert.ReferenceIdeal.τ).loc Cert.ReferenceIdeal.main_arg3))
  ∧ m ((c.tc : Thread nD τ).loc main_arg4) = m' (((0 : Dev Cert.ReferenceIdeal.nD).tc : Thread Cert.ReferenceIdeal.nD Cert.ReferenceIdeal.τ).loc Cert.ReferenceIdeal.main_arg4)
  ∧ m ((c.tc : Thread nD τ).loc main_arg5) = m' (((0 : Dev Cert.ReferenceIdeal.nD).tc : Thread Cert.ReferenceIdeal.nD Cert.ReferenceIdeal.τ).loc Cert.ReferenceIdeal.main_arg5)
  ∧ m ((c.tc : Thread nD τ).loc main_arg6) = m' (((0 : Dev Cert.ReferenceIdeal.nD).tc : Thread Cert.ReferenceIdeal.nD Cert.ReferenceIdeal.τ).loc Cert.ReferenceIdeal.main_arg6)
  ∧ m ((c.tc : Thread nD τ).loc main_arg7) = m' (((0 : Dev Cert.ReferenceIdeal.nD).tc : Thread Cert.ReferenceIdeal.nD Cert.ReferenceIdeal.τ).loc Cert.ReferenceIdeal.main_arg7)

variable {m m'}

/-- A device's part of the latent is its block by the mesh's first axis. -/
theorem lat_cols (c : Dev nD) (h) (i : Fin 2048) (j : Fin 128) :
    (h : Layout.TilesN ⟨2, ![2048, 128]⟩ ⟨2, ![2048, 256]⟩ _).idx (Layout.meshBlock [2, 2] ![[], [0]] c) (ix2 i j) = ix2 i (lat c j) := by
  funext a
  apply Fin.ext
  rw [Layout.TilesN.idx_val]
  match a with
  | ⟨0, _⟩ => show Layout.meshLin [2, 2] c.val [] * 2048 + i.val = i.val
              rw [show Layout.meshLin [2, 2] c.val [] = 0 from rfl]; omega
  | ⟨1, _⟩ => show Layout.meshLin [2, 2] c.val [0] * 128 + j.val = (lat c j).val
              rw [show Layout.meshLin [2, 2] c.val [0] = c.val / 2 by revert c; decide]; simp only [lat]; omega
theorem lat_rows (c : Dev nD) (h) (j : Fin 128) (i : Fin 2048) :
    (h : Layout.TilesN ⟨2, ![128, 2048]⟩ ⟨2, ![256, 2048]⟩ _).idx (Layout.meshBlock [2, 2] ![[0], []] c) (ix2 j i) = ix2 (lat c j) i := by
  funext a
  apply Fin.ext
  rw [Layout.TilesN.idx_val]
  match a with
  | ⟨0, _⟩ => show Layout.meshLin [2, 2] c.val [0] * 128 + j.val = (lat c j).val
              rw [show Layout.meshLin [2, 2] c.val [0] = c.val / 2 by revert c; decide]; simp only [lat]; omega
  | ⟨1, _⟩ => show Layout.meshLin [2, 2] c.val [] * 2048 + i.val = i.val
              rw [show Layout.meshLin [2, 2] c.val [] = 0 from rfl]; omega

theorem blocks (h : Agree m m') : Blocks m (Ref.whole m' 0) where
  x c b s d := congrFun (h c).1 (ix3 b s d)
  wd c d l := (congrFun (h c).2.1 (ix2 d l)).trans (congrArg (Ref.whole m' 0).wd (lat_cols c _ d l))
  wuk c l n := (congrFun (h c).2.2.1 (ix2 l n)).trans (congrArg (Ref.whole m' 0).wuk (lat_rows c _ l n))
  wuv c l n := (congrFun (h c).2.2.2.1 (ix2 l n)).trans (congrArg (Ref.whole m' 0).wuv (lat_rows c _ l n))
  wq c d n := congrFun (h c).2.2.2.2.1 (ix2 d n)
  wqr c d n := congrFun (h c).2.2.2.2.2.1 (ix2 d n)
  wkr c d n := congrFun (h c).2.2.2.2.2.2.1 (ix2 d n)
  wo c d n := congrFun (h c).2.2.2.2.2.2.2 (ix2 d n)

/-- Every place of the latent is some device's. -/
theorem lat_surj (l : Fin 256) : ∃ (c : Dev nD) (j : Fin 128), lat c j = l :=
  ⟨⟨2 * (l.val / 128), by have := l.isLt; show _ < 4; omega⟩, ⟨l.val % 128, by omega⟩, Fin.ext (by simp only [lat]; omega)⟩

theorem finite (hp : Cert.Pre_KernelIdeal_finite_scores_KernelIdeal m) (h : Agree m m') : (Ref.whole m' 0).Finite := by
  have B := blocks h
  constructor
  · intro i
    obtain ⟨a, b, d, rfl⟩ : ∃ (a : Fin 2) (b : Fin 512) (d : Fin 2048), i = ix3 a b d := ⟨i 0, i 1, i 2, eq_ix3 i⟩
    rw [← B.x 0]
    exact real_of_test _ _ (hp 0).1 _
  · intro i
    obtain ⟨a, b, rfl⟩ : ∃ (a : Fin 2048) (b : Fin 256), i = ix2 a b := ⟨i 0, i 1, eq_ix2 i⟩
    obtain ⟨c, j, rfl⟩ := lat_surj b
    rw [← B.wd c]
    exact real_of_test _ _ (hp c).2.1 _
  · intro i
    obtain ⟨a, b, rfl⟩ : ∃ (a : Fin 256) (b : Fin 2048), i = ix2 a b := ⟨i 0, i 1, eq_ix2 i⟩
    obtain ⟨c, j, rfl⟩ := lat_surj a
    rw [← B.wuk c]
    exact real_of_test _ _ (hp c).2.2.1 _
  · intro i
    obtain ⟨a, b, rfl⟩ : ∃ (a : Fin 2048) (b : Fin 2048), i = ix2 a b := ⟨i 0, i 1, eq_ix2 i⟩
    rw [← B.wq 0]
    exact real_of_test _ _ (hp 0).2.2.2.1 _
  · intro i
    obtain ⟨a, b, rfl⟩ : ∃ (a : Fin 2048) (b : Fin 512), i = ix2 a b := ⟨i 0, i 1, eq_ix2 i⟩
    rw [← B.wqr 0]
    exact real_of_test _ _ (hp 0).2.2.2.2.1 _
  · intro i
    obtain ⟨a, b, rfl⟩ : ∃ (a : Fin 2048) (b : Fin 32), i = ix2 a b := ⟨i 0, i 1, eq_ix2 i⟩
    rw [← B.wkr 0]
    exact real_of_test _ _ (hp 0).2.2.2.2.2 _

/-- The result on every device is the reference's. -/
theorem result_eq (hp : Cert.Pre_KernelIdeal_finite_scores_KernelIdeal m) (h : Agree m m') (c : Dev nD) :
    T3 m c = Cert.ReferenceIdeal.Value.res_main_v30 m' 0 := by
  funext i
  show (T3 m c : S1024x2048.Idx → EReal) i = (show S1024x2048.Idx → EReal from Cert.ReferenceIdeal.Value.res_main_v30 m' 0) i
  obtain ⟨r, n, rfl⟩ : ∃ (r : Fin 1024) (n : Fin 2048), i = ix2 r n := ⟨i 0, i 1, eq_ix2 i⟩
  exact (T3_apply c (blocks h) r n).trans ((soft_out (finite hp h) _ _ n).trans (Ref.res_apply m' 0 r n).symm)

/-- What the run leaves in the result's array. -/
theorem result_left (c : Dev nD) : (dats m 0 c).arrAt 5 cfg0.N = T3 m c := by
  refine (dats m 0 c).arrAt_eq_of_after_last 5 t0_0 (by decide +kernel) _ fun j => ?_
  blk_simp
  rfl

end Same

/-- The fifth claim. -/
theorem algebraic : Cert.algebraic_KernelIdeal_ReferenceIdeal_pre_finite_scores_KernelIdeal := by
  intro m g m' g' hp h
  refine ⟨Cert.ReferenceIdeal.Value.res_main_v30 m' 0, ?_, ?_⟩
  · refine (θ_run Cert.KernelIdeal.defs _ _).mono (fun r hr c => ⟨?_, Post.args m hr c⟩) (run_main (F := Ideal) m g)
    exact ((hr.1 c).1 5).trans ((result_left c).trans (result_eq hp h c))
  · exact (θ_run Cert.ReferenceIdeal.defs _ _).mono (fun r hr => hr 0) (Cert.ReferenceIdeal.Value.run (F := Ideal) m' g')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Final
public import Idealize.ShloMosaic.Adequacy
public import Idealize.ShloMosaic.Init

@[expose] public section

noncomputable section

namespace Cert.Proof

open Idealize.ShloMosaic Idealize.SL.Sem Cert.Kernel

/-- The kernel at machine floats: the run, read for the arguments and the counters. -/
theorem frame_kernel : quiescent_Kernel := fun m ρ _ =>
  (θ_run Cert.Kernel.defs _ _).mono (fun _ h => ⟨fun c => Cert.KProof.Post.args (F := Bits) m h c, h.2⟩) (Cert.KProof.run_first m ρ)

/-- The same of the kernel at exact values. -/
theorem frame_ideal : quiescent_KernelIdeal := fun m ρ _ =>
  (θ_run Cert.KernelIdeal.defs _ _).mono (fun _ h => ⟨fun c => Cert.KProof.Post.args m h c, h.2⟩) (Cert.KProof.run_main (F := Ideal) m ρ)

/-- The reference runs its host operations and keeps its arguments. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything claimed. The frames are proved without the precondition, so those that state it follow from those that do not. -/
theorem claim : Cert.Claim :=
  ⟨Cert.Kernel.Gen.facts, Cert.KernelIdeal.Gen.facts, Cert.ReferenceIdeal.Gen.facts, Cert.KProof.preFacts, Cert.KProof.preFactsRef,
    frame_kernel, frame_ideal, fun m ρ _ => frame_ideal m ρ trivial, frame_reference, fun m ρ _ => frame_reference m ρ trivial,
    trivial, Cert.KProof.algebraic⟩

end Cert.Proof

end
